-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3))
      ∧ r.2.sem = fun _ => 0)

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)
      ∧ m' ((c.tc : Thread Cert.DwReferenceIdeal.nD Cert.DwReferenceIdeal.τ).loc Cert.DwReferenceIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v0) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v2_0)) (v1 : (c : Dev Cert.FwdIdeal.nD) → Buf (Elt Ideal) ((c.tc : Thread Cert.FwdIdeal.nD Cert.FwdIdeal.τ).loc Cert.FwdIdeal.main_v2_1)) (v2 : (c : Dev Cert.FwdIdeal.nD) → Buf (Elt Ideal) ((c.tc : Thread Cert.FwdIdeal.nD Cert.FwdIdeal.τ).loc Cert.FwdIdeal.main_v2_2)) (v3 : (c : Dev Cert.FwdIdeal.nD) → Buf (Elt Ideal) ((c.tc : Thread Cert.FwdIdeal.nD Cert.FwdIdeal.τ).loc Cert.FwdIdeal.main_v2_3)) (v4 : (c : Dev Cert.FwdIdeal.nD) → Buf (Elt Ideal) ((c.tc : Thread Cert.FwdIdeal.nD Cert.FwdIdeal.τ).loc Cert.FwdIdeal.main_v2_4)) (v5 : (c : Dev Cert.FwdIdeal.nD) → Buf (Elt Ideal) ((c.tc : Thread Cert.FwdIdeal.nD Cert.FwdIdeal.τ).loc Cert.FwdIdeal.main_v2_5)) (v6 : (c : Dev Cert.FwdIdeal.nD) → Buf (Elt Ideal) ((c.tc : Thread Cert.FwdIdeal.nD Cert.FwdIdeal.τ).loc Cert.FwdIdeal.main_v2_6)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v2_0) = v0 c
          ∧ r.2.mem ((c.tc : Thread Cert.FwdIdeal.nD Cert.FwdIdeal.τ).loc Cert.FwdIdeal.main_v2_1) = v1 c
          ∧ r.2.mem ((c.tc : Thread Cert.FwdIdeal.nD Cert.FwdIdeal.τ).loc Cert.FwdIdeal.main_v2_2) = v2 c
          ∧ r.2.mem ((c.tc : Thread Cert.FwdIdeal.nD Cert.FwdIdeal.τ).loc Cert.FwdIdeal.main_v2_3) = v3 c
          ∧ r.2.mem ((c.tc : Thread Cert.FwdIdeal.nD Cert.FwdIdeal.τ).loc Cert.FwdIdeal.main_v2_4) = v4 c
          ∧ r.2.mem ((c.tc : Thread Cert.FwdIdeal.nD Cert.FwdIdeal.τ).loc Cert.FwdIdeal.main_v2_5) = v5 c
          ∧ r.2.mem ((c.tc : Thread Cert.FwdIdeal.nD Cert.FwdIdeal.τ).loc Cert.FwdIdeal.main_v2_6) = v6 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v2_0) = v0 c
          ∧ r.2.mem ((c.tc : Thread Cert.FwdReferenceIdeal.nD Cert.FwdReferenceIdeal.τ).loc Cert.FwdReferenceIdeal.main_v2_1) = v1 c
          ∧ r.2.mem ((c.tc : Thread Cert.FwdReferenceIdeal.nD Cert.FwdReferenceIdeal.τ).loc Cert.FwdReferenceIdeal.main_v2_2) = v2 c
          ∧ r.2.mem ((c.tc : Thread Cert.FwdReferenceIdeal.nD Cert.FwdReferenceIdeal.τ).loc Cert.FwdReferenceIdeal.main_v2_3) = v3 c
          ∧ r.2.mem ((c.tc : Thread Cert.FwdReferenceIdeal.nD Cert.FwdReferenceIdeal.τ).loc Cert.FwdReferenceIdeal.main_v2_4) = v4 c
          ∧ r.2.mem ((c.tc : Thread Cert.FwdReferenceIdeal.nD Cert.FwdReferenceIdeal.τ).loc Cert.FwdReferenceIdeal.main_v2_5) = v5 c
          ∧ r.2.mem ((c.tc : Thread Cert.FwdReferenceIdeal.nD Cert.FwdReferenceIdeal.τ).loc Cert.FwdReferenceIdeal.main_v2_6) = v6 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3))

def Claim : Prop :=
  ∃ (hDw : Cert.Dw.Facts) (hDwIdeal : Cert.DwIdeal.Facts) (hDwReferenceIdeal : Cert.DwReferenceIdeal.Facts) (hFwd : Cert.Fwd.Facts) (hFwdIdeal : Cert.FwdIdeal.Facts) (hFwdReferenceIdeal : Cert.FwdReferenceIdeal.Facts),
    quiescent_Dw (hDw := hDw)
    ∧ quiescent_DwIdeal (hDwIdeal := hDwIdeal)
    ∧ quiescent_DwReferenceIdeal (hDwReferenceIdeal := hDwReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ preserves_Dw_DwIdeal
    ∧ algebraic_DwIdeal_DwReferenceIdeal (hDwIdeal := hDwIdeal) (hDwReferenceIdeal := hDwReferenceIdeal)
    ∧ preserves_Fwd_FwdIdeal
    ∧ algebraic_FwdIdeal_FwdReferenceIdeal (hFwdIdeal := hFwdIdeal) (hFwdReferenceIdeal := hFwdReferenceIdeal)
-- ==== Dw.lean ====
abbrev S3 : Shape := ⟨1, ![3]⟩
abbrev S16384x1792 : Shape := ⟨2, ![16384, 1792]⟩
abbrev S16384x4352 : Shape := ⟨2, ![16384, 4352]⟩
abbrev S1792x4352 : Shape := ⟨2, ![1792, 4352]⟩
abbrev S1024x1792 : Shape := ⟨2, ![1024, 1792]⟩
abbrev S1024x4352 : Shape := ⟨2, ![1024, 4352]⟩
abbrev S1 : Shape := ⟨1, ![1]⟩

abbrev nBuf : Space → Nat
  | .hbm => 4
  | .vmem => 5
  | .smem => 1
  | _ => 0

abbrev bufTy : (tb : Table) → Fin (tcTables nBuf tb) → BufTy
  | .hbm, ⟨0, _⟩ => ⟨S3, .f32⟩
  | .hbm, ⟨1, _⟩ => ⟨S16384x1792, .fp8e5m2⟩
  | .hbm, ⟨2, _⟩ => ⟨S16384x4352, .fp8e4m3⟩
  | .hbm, ⟨3, _⟩ => ⟨S1792x4352, .f32⟩
  | .local _ .vmem, ⟨0, _⟩ => ⟨S1024x1792, .fp8e5m2⟩
  | .local _ .vmem, ⟨1, _⟩ => ⟨S1024x1792, .fp8e5m2⟩
  | .local _ .vmem, ⟨2, _⟩ => ⟨S1024x4352, .fp8e4m3⟩
  | .local _ .vmem, ⟨3, _⟩ => ⟨S1024x4352, .fp8e4m3⟩
  | .local _ .vmem, ⟨4, _⟩ => ⟨S1792x4352, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1792 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4352 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwReferenceIdeal.lean ====
abbrev S3 : Shape := ⟨1, ![3]⟩
abbrev S16384x1792 : Shape := ⟨2, ![16384, 1792]⟩
abbrev S16384x4352 : Shape := ⟨2, ![16384, 4352]⟩
abbrev S1792x4352 : Shape := ⟨2, ![1792, 4352]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S3, .f32⟩
  | .hbm, ⟨1, _⟩ => ⟨S16384x1792, .fp8e5m2⟩
  | .hbm, ⟨2, _⟩ => ⟨S16384x4352, .fp8e4m3⟩
  | .hbm, ⟨3, _⟩ => ⟨S1792x4352, .f32⟩
  | .local _ .vmem, ⟨0, _⟩ => ⟨S16384x1792, .fp8e5m2⟩
  | .local _ .vmem, ⟨1, _⟩ => ⟨S16384x4352, .fp8e4m3⟩
  | .local _ .vmem, ⟨2, _⟩ => ⟨S1792x4352, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1792 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Fwd.lean ====
abbrev S2x8192x4352 : Shape := ⟨3, ![2, 8192, 4352]⟩
abbrev S1792x4352 : Shape := ⟨2, ![1792, 4352]⟩
abbrev S2x8192x1792 : Shape := ⟨3, ![2, 8192, 1792]⟩
abbrev S3x16 : Shape := ⟨2, ![3, 16]⟩
abbrev S16384x4352 : Shape := ⟨2, ![16384, 4352]⟩
abbrev S16384x1792 : Shape := ⟨2, ![16384, 1792]⟩
abbrev S3 : Shape := ⟨1, ![3]⟩
abbrev S512x4352 : Shape := ⟨2, ![512, 4352]⟩
abbrev S512x1792 : Shape := ⟨2, ![512, 1792]⟩
abbrev S8 : Shape := ⟨1, ![8]⟩
abbrev S3x16x128 : Shape := ⟨3, ![3, 16, 128]⟩
abbrev S3x1 : Shape := ⟨2, ![3, 1]⟩
abbrev S1x1 : Shape := ⟨2, ![1, 1]⟩
abbrev S1 : Shape := ⟨1, ![1]⟩
abbrev S128x4352 : Shape := ⟨2, ![128, 4352]⟩
abbrev S1x16x128 : Shape := ⟨3, ![1, 16, 128]⟩
abbrev S16x128 : Shape := ⟨2, ![16, 128]⟩
abbrev S8x16x4352 : Shape := ⟨3, ![8, 16, 4352]⟩
abbrev S16x4352 : Shape := ⟨2, ![16, 4352]⟩
abbrev S32x16x4352 : Shape := ⟨3, ![32, 16, 4352]⟩
abbrev S32x16x1792 : Shape := ⟨3, ![32, 16, 1792]⟩
abbrev S16x1792 : Shape := ⟨2, ![16, 1792]⟩
abbrev S3x15 : Shape := ⟨2, ![3, 15]⟩
abbrev S128 : Shape := ⟨1, ![128]⟩
abbrev S1x128 : Shape := ⟨2, ![1, 128]⟩

abbrev nBuf : Space → Nat
  | .hbm => 13
  | .vmem => 17
  | .smem => 2
  | _ => 0

abbrev bufTy : (tb : Table) → Fin (tcTables nBuf tb) → BufTy
  | .hbm, ⟨0, _⟩ => ⟨S2x8192x4352, .bf16⟩
  | .hbm, ⟨1, _⟩ => ⟨S1792x4352, .bf16⟩
  | .hbm, ⟨2, _⟩ => ⟨S2x8192x1792, .bf16⟩
  | .hbm, ⟨3, _⟩ => ⟨S3x16, .f32⟩
  | .hbm, ⟨4, _⟩ => ⟨S16384x4352, .bf16⟩
  | .hbm, ⟨5, _⟩ => ⟨S16384x1792, .bf16⟩
  | .hbm, ⟨6, _⟩ => ⟨S16384x1792, .bf16⟩
  | .hbm, ⟨7, _⟩ => ⟨S16384x4352, .bf16⟩
  | .hbm, ⟨8, _⟩ => ⟨S16384x4352, .fp8e4m3⟩
  | .hbm, ⟨9, _⟩ => ⟨S1792x4352, .fp8e4m3⟩
  | .hbm, ⟨10, _⟩ => ⟨S16384x1792, .fp8e5m2⟩
  | .hbm, ⟨11, _⟩ => ⟨S3, .f32⟩
  | .hbm, ⟨12, _⟩ => ⟨S3x16, .f32⟩
  | .local _ .vmem, ⟨0, _⟩ => ⟨S3x16, .f32⟩
  | .local _ .vmem, ⟨1, _⟩ => ⟨S512x4352, .bf16⟩
  | .local _ .vmem, ⟨2, _⟩ => ⟨S512x4352, .bf16⟩
  | .local _ .vmem, ⟨3, _⟩ => ⟨S1792x4352, .bf16⟩
  | .local _ .vmem, ⟨4, _⟩ => ⟨S512x1792, .bf16⟩
  | .local _ .vmem, ⟨5, _⟩ => ⟨S512x1792, .bf16⟩
  | .local _ .vmem, ⟨6, _⟩ => ⟨S512x1792, .bf16⟩
  | .local _ .vmem, ⟨7, _⟩ => ⟨S512x1792, .bf16⟩
  | .local _ .vmem, ⟨8, _⟩ => ⟨S512x4352, .bf16⟩
  | .local _ .vmem, ⟨9, _⟩ => ⟨S512x4352, .bf16⟩
  | .local _ .vmem, ⟨10, _⟩ => ⟨S512x4352, .fp8e4m3⟩
  | .local _ .vmem, ⟨11, _⟩ => ⟨S512x4352, .fp8e4m3⟩
  | .local _ .vmem, ⟨12, _⟩ => ⟨S1792x4352, .fp8e4m3⟩
  | .local _ .vmem, ⟨13, _⟩ => ⟨S512x1792, .fp8e5m2⟩
  | .local _ .vmem, ⟨14, _⟩ => ⟨S512x1792, .fp8e5m2⟩
  | .local _ .vmem, ⟨15, _⟩ => ⟨S3x16, .f32⟩
  | .local _ .vmem, ⟨16, _⟩ => ⟨S3x16x128, .bf16⟩
  | .local _ .smem, ⟨0, _⟩ => ⟨S3, .f32⟩
  | .local _ .smem, ⟨1, _⟩ => ⟨S8, .f32⟩
  | _, _ => ⟨S2x8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg10_0 : Ref sig .tc := ⟨.vmem, 15, rfl⟩
abbrev cc0_scratch1 : Ref sig .tc := ⟨.vmem, 16, rfl⟩
abbrev cc0_stg9_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_171 : BitVec 32 := 0#32
  let c14_i32 : BitVec 32 := 14#32
  let v530 : BitVec 32 := Scalar.addi c0_i32_171 c14_i32
  let c1_i32_172 : BitVec 32 := 1#32
  ⟨c0_i32_171, v530, c1_i32_172⟩
def k0_mult1 (k0_t1 : Fin k0_t1_loop.trips) : BitVec 32 :=
  let c0_i32_171 : BitVec 32 := 0#32
  let c1_i32_172 : BitVec 32 := 1#32
  let arg14 : BitVec 32 := Scf.iv c0_i32_171 c1_i32_172 k0_t1
  let c128_i32_174 : BitVec 32 := 128#32
  let v531 : BitVec 32 := Scalar.muli arg14 c128_i32_174
  v531
def k0_off1 (k0_t1 : Fin k0_t1_loop.trips) : Fin 2 → Nat :=
  let c0_i32_171 : BitVec 32 := 0#32
  let c1_i32_172 : BitVec 32 := 1#32
  let arg14 : BitVec 32 := Scf.iv c0_i32_171 c1_i32_172 k0_t1
  let c128_i32_174 : BitVec 32 := 128#32
  let v531 : BitVec 32 := Scalar.muli arg14 c128_i32_174
  let v532 : BitVec 32 := v531
  let v533 : Index := Scalar.indexCast v532
  let c0_175 : Index := 0#32
  ![v533.toNat, 0]
def k0_cond2 (i : grid0.Coords) : BitVec 1 :=
  let arg0 : BitVec 32 := BitVec.ofNat 32 (i 0).val
  let c31_i32 : BitVec 32 := 31#32
  let v161 : BitVec 1 := Scalar.cmpi .eq arg0 c31_i32
  let v162 : BitVec 32 := Scalar.extui v161
  let c0_i32_38 : BitVec 32 := 0#32
  let v163 : BitVec 1 := Scalar.cmpi .ne v162 c0_i32_38
  v163

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4352 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4352 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1792x4352 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1792 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FwdReferenceIdeal.lean ====
abbrev S2x8192x4352 : Shape := ⟨3, ![2, 8192, 4352]⟩
abbrev S1792x4352 : Shape := ⟨2, ![1792, 4352]⟩
abbrev S2x8192x1792 : Shape := ⟨3, ![2, 8192, 1792]⟩
abbrev S3x16 : Shape := ⟨2, ![3, 16]⟩
abbrev S16384x4352 : Shape := ⟨2, ![16384, 4352]⟩
abbrev S16384x1792 : Shape := ⟨2, ![16384, 1792]⟩
abbrev S3 : Shape := ⟨1, ![3]⟩
abbrev S3x1 : Shape := ⟨2, ![3, 1]⟩
abbrev S1x1 : Shape := ⟨2, ![1, 1]⟩
abbrev S1x256 : Shape := ⟨2, ![1, 256]⟩
abbrev S1 : Shape := ⟨1, ![1]⟩
abbrev S16384 : Shape := ⟨1, ![16384]⟩
abbrev S16384x1 : Shape := ⟨2, ![16384, 1]⟩
abbrev S1792 : Shape := ⟨1, ![1792]⟩
abbrev S1792x1 : Shape := ⟨2, ![1792, 1]⟩
abbrev S3x15 : Shape := ⟨2, ![3, 15]⟩

abbrev nBuf : Space → Nat
  | .hbm => 13
  | .vmem => 10
  | .smem => 1
  | _ => 0

abbrev bufTy : (tb : Table) → Fin (tcTables nBuf tb) → BufTy
  | .hbm, ⟨0, _⟩ => ⟨S2x8192x4352, .bf16⟩
  | .hbm, ⟨1, _⟩ => ⟨S1792x4352, .bf16⟩
  | .hbm, ⟨2, _⟩ => ⟨S2x8192x1792, .bf16⟩
  | .hbm, ⟨3, _⟩ => ⟨S3x16, .f32⟩
  | .hbm, ⟨4, _⟩ => ⟨S16384x4352, .bf16⟩
  | .hbm, ⟨5, _⟩ => ⟨S16384x1792, .bf16⟩
  | .hbm, ⟨6, _⟩ => ⟨S16384x1792, .bf16⟩
  | .hbm, ⟨7, _⟩ => ⟨S16384x4352, .bf16⟩
  | .hbm, ⟨8, _⟩ => ⟨S16384x4352, .fp8e4m3⟩
  | .hbm, ⟨9, _⟩ => ⟨S1792x4352, .fp8e4m3⟩
  | .hbm, ⟨10, _⟩ => ⟨S16384x1792, .fp8e5m2⟩
  | .hbm, ⟨11, _⟩ => ⟨S3, .f32⟩
  | .hbm, ⟨12, _⟩ => ⟨S3x16, .f32⟩
  | .local _ .vmem, ⟨0, _⟩ => ⟨S3x16, .f32⟩
  | .local _ .vmem, ⟨1, _⟩ => ⟨S16384x4352, .bf16⟩
  | .local _ .vmem, ⟨2, _⟩ => ⟨S1792x4352, .bf16⟩
  | .local _ .vmem, ⟨3, _⟩ => ⟨S16384x1792, .bf16⟩
  | .local _ .vmem, ⟨4, _⟩ => ⟨S16384x1792, .bf16⟩
  | .local _ .vmem, ⟨5, _⟩ => ⟨S16384x4352, .bf16⟩
  | .local _ .vmem, ⟨6, _⟩ => ⟨S16384x4352, .fp8e4m3⟩
  | .local _ .vmem, ⟨7, _⟩ => ⟨S1792x4352, .fp8e4m3⟩
  | .local _ .vmem, ⟨8, _⟩ => ⟨S16384x1792, .fp8e5m2⟩
  | .local _ .vmem, ⟨9, _⟩ => ⟨S3x16, .f32⟩
  | .local _ .smem, ⟨0, _⟩ => ⟨S3, .f32⟩
  | _, _ => ⟨S2x8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg10_0 : Ref sig .tc := ⟨.vmem, 9, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x4352 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x4352 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1792 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.DwValue.lean ====
/- What the weight-gradient kernel leaves in its result, at the extended reals.

   The kernel runs over sixteen blocks of 1024 rows. Its one output block never moves: the first point clears it, every
   point adds the product of the point's row blocks, and the last point scales the sum. The reference is one product
   over all 16384 rows, scaled once. Both are shown to be the same sum over the rows. -/
module

public import proofs.«01_k».proof.Defs
public import proofs.«01_k».proof.Proof.Gen.DwIdeal.Value
public import proofs.«01_k».proof.Proof.Gen.DwReferenceIdeal.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DwIdeal.Hand

open Cert.DwIdeal Cert.DwIdeal.Gen

variable (m : (ℓ : Loc nD τ sig) → Buf (Elt Ideal) ℓ) (ρ : Dev nD → PrngReg)

/-- The zero offset on two axes. -/
theorem hz : (![0, 0] : Fin 2 → Nat) = fun _ => 0 := funext fun a => by fin_cases a <;> rfl

/-- A middle point adds the product of its row blocks to what the output block held. -/
theorem out_B (c : Dev nD) (i : grid0.Coords) (a1 h1 a2 h2 a3 h3 a4 h4 hc0 hc1)
    (x0 : Vec Ideal S3 .f32) (x1 : Vec Ideal S1024x1792 .fp8e5m2) (x2 : Vec Ideal S1024x4352 .fp8e4m3)
    (xo : Vec Ideal S1792x4352 .f32) :
    out0_B_3 (F := Ideal) c i a1 h1 a2 h2 a3 h3 a4 h4 hc0 hc1 x0 x1 x2 xo = k0_pay2 xo x1 x2 := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz]
  simp only [View.readAt_eq_ld, h2.read_unread, h3.read_unread, h4.read_unread, View.ld_unit_zero (S := S1024x1792) hz,
    View.ld_unit_zero (S := S1024x4352) hz, View.ld_unit_zero (S := S1792x4352) hz]

/-- The first point leaves its product added to zero. -/
theorem out_A (c : Dev nD) (i : grid0.Coords) (a1 h1 a2 h2 a3 h3 a4 h4 hc0 hc1)
    (x0 : Vec Ideal S3 .f32) (x1 : Vec Ideal S1024x1792 .fp8e5m2) (x2 : Vec Ideal S1024x4352 .fp8e4m3) :
    out0_A_3 (F := Ideal) c i a1 h1 a2 h2 a3 h3 a4 h4 hc0 hc1 x0 x1 x2 = k0_pay2 k0_pay1 x1 x2 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1792x4352) hz, View.readCov_unit_zero (S := S1792x4352) _ hz]
  simp only [View.readAt_eq_ld, h2.read_unread, h3.read_unread, h4.read_unread, View.ld_unit_zero (S := S1024x1792) hz,
    View.ld_unit_zero (S := S1024x4352) hz, View.ld_unit_zero (S := S1792x4352) hz]

/-- The last point adds its product and then scales the sum by the two scales. -/
theorem out_C (c : Dev nD) (i : grid0.Coords) (a1 h1 a2 h2 a3 h3 a4 h4 hc0 hc1)
    (x0 : Vec Ideal S3 .f32) (x1 : Vec Ideal S1024x1792 .fp8e5m2) (x2 : Vec Ideal S1024x4352 .fp8e4m3)
    (xo : Vec Ideal S1792x4352 .f32) :
    out0_C_3 (F := Ideal) c i a1 h1 a2 h2 a3 h3 a4 h4 hc0 hc1 x0 x1 x2 xo
      = k0_pay3 (k0_pay2 xo x1 x2) (x0 (ix1 2)) (x0 (ix1 0)) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1792x4352) hz, View.readCov_unit_zero (S := S1792x4352) _ hz]
  simp only [View.readAt_eq_ld, h1.read_unread, h2.read_unread, h3.read_unread, h4.read_unread, View.ld_unit_zero (S := S1024x1792) hz,
    View.ld_unit_zero (S := S1024x4352) hz, View.ld_unit_zero (S := S1792x4352) hz]
  have e : ∀ (k : Nat) (hk : k < 3) (h h'), View.ld x0 (Rect.unit ![k] ![1] h) (Shape.Idx.first h') = x0 (ix1 ⟨k, hk⟩) := by
    intro k hk h h'
    unfold View.ld
    congr 1
    funext a
    obtain rfl : a = 0 := Subsingleton.elim _ _
    apply Fin.ext
    show k + 1 * _ = k
    simp [Shape.Idx.first]
  exact congrArg₂ (k0_pay3 (k0_pay2 xo x1 x2)) (e 2 (by decide) _ _) (e 0 (by decide) _ _)

/-- The three scales. -/
abbrev A0 (c : Dev nD) : Vec Ideal S3 .f32 := m ((c : Thread nD τ).loc main_arg0)
/-- The codes of the output gradient. -/
abbrev A1 (c : Dev nD) : Vec Ideal S16384x1792 .fp8e5m2 := m ((c : Thread nD τ).loc main_arg1)
/-- The codes of the input. -/
abbrev A2 (c : Dev nD) : Vec Ideal S16384x4352 .fp8e4m3 := m ((c : Thread nD τ).loc main_arg2)

/-- The product of one row of the two code arrays, at an output place; past the last row it is zero. -/
def term (c : Dev nD) (j : S1792x4352.Idx) (k : ℕ) : EReal :=
  if h : k < 16384 then A1 m c (ix2 ⟨k, h⟩ (j 0)) * A2 m c (ix2 ⟨k, h⟩ (j 1)) else 0

/-- At a row of the arrays the term is the product. -/
theorem term_lt (c : Dev nD) (j : S1792x4352.Idx) (k : Fin 16384) :
    term m c j k.val = A1 m c (ix2 k (j 0)) * A2 m c (ix2 k (j 1)) := dif_pos k.isLt

/-- Where window 1 stands at a point. -/
theorem idx1 : ∀ t : Fin cfg0.N, win0_1.index t 0 = t.val ∧ win0_1.index t 1 = 0 :=
  (by decide +kernel : ∀ t : Fin grid0.N, win0_1.index t 0 = t.val ∧ win0_1.index t 1 = 0)
/-- Where window 2 stands at a point. -/
theorem idx2 : ∀ t : Fin cfg0.N, win0_2.index t 0 = t.val ∧ win0_2.index t 1 = 0 :=
  (by decide +kernel : ∀ t : Fin grid0.N, win0_2.index t 0 = t.val ∧ win0_2.index t 1 = 0)

/-- The first code block of point `t`, at a row of the block. -/
theorem iblk1 (c : Dev nD) (t : Fin cfg0.N) (k : Fin 1024) (r : Fin 1792) (h : 1024 * t.val + k.val < 16384) :
    iblk m c 1 t (ix2 k r) = A1 m c (ix2 ⟨1024 * t.val + k.val, h⟩ r) := by
  unfold iblk
  rw [View.read_apply]
  show V m c main_arg1 _ = m (c.tc.loc main_arg1) _
  unfold V
  congr 1
  funext a
  apply Fin.ext
  match a with
  | ⟨0, _⟩ => show win0_1.index t 0 * 1024 + 1 * k.val = 1024 * t.val + k.val; rw [(idx1 t).1]; omega
  | ⟨1, _⟩ => show win0_1.index t 1 * 1792 + 1 * r.val = r.val; rw [(idx1 t).2]; omega

/-- The second code block of point `t`, at a row of the block. -/
theorem iblk2 (c : Dev nD) (t : Fin cfg0.N) (k : Fin 1024) (r : Fin 4352) (h : 1024 * t.val + k.val < 16384) :
    iblk m c 2 t (ix2 k r) = A2 m c (ix2 ⟨1024 * t.val + k.val, h⟩ r) := by
  unfold iblk
  rw [View.read_apply]
  show V m c main_arg2 _ = m (c.tc.loc main_arg2) _
  unfold V
  congr 1
  funext a
  apply Fin.ext
  match a with
  | ⟨0, _⟩ => show win0_2.index t 0 * 1024 + 1 * k.val = 1024 * t.val + k.val; rw [(idx2 t).1]; omega
  | ⟨1, _⟩ => show win0_2.index t 1 * 4352 + 1 * r.val = r.val; rw [(idx2 t).2]; omega

/-- One point's update, at a place: what was there plus the rows of the point's blocks. -/
theorem pay2_apply (xo : Vec Ideal S1792x4352 .f32) (x1 : Vec Ideal S1024x1792 .fp8e5m2) (x2 : Vec Ideal S1024x4352 .fp8e4m3)
    (j : S1792x4352.Idx) :
    k0_pay2 xo x1 x2 j = xo j + ∑ k : Fin 1024, x1 (ix2 k (j 0)) * x2 (ix2 k (j 1)) := by
  unfold k0_pay2
  idx_vars j
  pointwise

/-- The cleared block is zero everywhere. -/
theorem pay1_apply (j : S1792x4352.Idx) : k0_pay1 (F := Ideal) j = 0 := by
  unfold k0_pay1
  pointwise

/-- The final scaling, at a place. -/
theorem pay3_apply (xo : Vec Ideal S1792x4352 .f32) (a b : EReal) (j : S1792x4352.Idx) :
    k0_pay3 (F := Ideal) xo a b j = xo j * (a * b) := by
  unfold k0_pay3
  idx_vars j
  pointwise

/-- The first code block of a point. -/
abbrev b1 (c : Dev nD) (t : Fin cfg0.N) : Vec Ideal S1024x1792 .fp8e5m2 := iblk m c 1 t
/-- The second code block of a point. -/
abbrev b2 (c : Dev nD) (t : Fin cfg0.N) : Vec Ideal S1024x4352 .fp8e4m3 := iblk m c 2 t

/-- The rows a point adds are the terms of its row range. -/
theorem block_sum (c : Dev nD) (t : Fin cfg0.N) (j : S1792x4352.Idx) :
    ∑ k : Fin 1024, b1 m c t (ix2 k (j 0)) * b2 m c t (ix2 k (j 1))
      = ∑ k ∈ Finset.range 1024, term m c j (1024 * t.val + k) := by
  have hN : cfg0.N = 16 := N_0
  rw [Finset.sum_range]
  refine Finset.sum_congr rfl fun k _ => ?_
  have h : 1024 * t.val + k.val < 16384 := by have := t.isLt; have := k.isLt; omega
  unfold b1 b2
  rw [iblk1 m c t k (j 0) h, iblk2 m c t k (j 1) h, term, dif_pos h]

/-- Before the last point the output block holds the terms of all rows so far. -/
theorem outs_eq (c : Dev nD) (j : S1792x4352.Idx) : ∀ (n : ℕ) (h : n < cfg0.N), n < 15 →
    outsAt0 m c n h j = ∑ k ∈ Finset.range (1024 * (n + 1)), term m c j k
  | 0, h, _ => by
    rw [outsAt0_A m c ⟨0, h⟩ rfl (by dsimp only; omega), out_A, pay2_apply, pay1_apply, zero_add, block_sum m c ⟨0, h⟩ j]
    refine Finset.sum_congr rfl fun k _ => by simp
  | n + 1, h, h15 => by
    have hN : cfg0.N = 16 := N_0
    rw [outsAt0_B m c ⟨n + 1, h⟩ (by dsimp only; omega) (by dsimp only; omega), out_B, pay2_apply, block_sum m c ⟨n + 1, h⟩ j]
    show outsAt0 m c n _ j + _ = _
    rw [outs_eq c j n (by omega) (by omega), show 1024 * (n + 1 + 1) = 1024 * (n + 1) + 1024 by ring, Finset.sum_range_add]

/-- The result array: all rows' products, times the two scales. -/
def result (c : Dev nD) : Buf (Elt Ideal) ((c : Thread nD τ).loc main_v0) := fun j =>
  (∑ k ∈ Finset.range 16384, term m c j k)
    * (A0 m c (ix1 2) * A0 m c (ix1 0))

/-- The result at a place, as a sum over the rows. -/
theorem result_apply (c : Dev nD) (j : S1792x4352.Idx) :
    result m c j = (∑ k : Fin 16384, A1 m c (ix2 k (j 0)) * A2 m c (ix2 k (j 1))) * (A0 m c (ix1 2) * A0 m c (ix1 0)) := by
  unfold result
  rw [Finset.sum_range, Finset.sum_congr rfl fun k _ => term_lt m c j k]

/-- Where window 0 stands at a point. -/
theorem idx0 : ∀ t : Fin cfg0.N, win0_0.index t 0 = 0 :=
  (by decide +kernel : ∀ t : Fin grid0.N, win0_0.index t 0 = 0)
/-- Where window 3 stands at a point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 0 reads the scales. -/
theorem iblk0 (c : Dev nD) (t : Fin cfg0.N) (k : Fin 3) :
    iblk m c 0 t (ix1 k) = A0 m c (ix1 k) := by
  unfold iblk
  rw [View.read_apply]
  show V m c main_arg0 _ = m (c.tc.loc main_arg0) _
  unfold V
  congr 1
  funext a
  apply Fin.ext
  match a with
  | ⟨0, _⟩ => show win0_0.index t 0 * 3 + 1 * k.val = k.val; rw [idx0 t]; omega

/-- What the last point leaves in the output block. -/
theorem outs_last (c : Dev nD) (t : Fin cfg0.N) (ht : t.val = 15) (j : S1792x4352.Idx) :
    outsAt0 m c t.val t.isLt j = result m c j := by
  rw [outsAt0_C m c t (by omega) (by omega), out_C, pay3_apply, pay2_apply, block_sum m c t j, outs_eq m c j _ _ (by omega), result,
    iblk0, iblk0]
  rw [ht, ← Finset.sum_range_add]

/-- The output window starts at the array's origin. -/
theorem blk_whole (t : Fin cfg0.N) : (fun a => win0_3.index t a * main_v0.ty.shape.size a) = fun _ => 0 :=
  funext fun a => by
    match a with
    | ⟨0, _⟩ => show win0_3.index t 0 * _ = 0; rw [(idx3 t).1, Nat.zero_mul]
    | ⟨1, _⟩ => show win0_3.index t 1 * _ = 0; rw [(idx3 t).2, Nat.zero_mul]

/-- The one write-back writes the result. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have h3 : t.val = 15 := by have := (flush0_3 t).mp hf; have := t.isLt; omega
  show (cfg0.win 3).cut (grid0.coords t) ((dats m 0 c).after 3 t) = _
  rw [after0_3, show outsAt0 m c t.val t.isLt = result m c from funext (outs_last m c t h3)]
  exact (Memref.read_access_unit_zero (Elt Ideal) main_v0 (blk_whole t) (fun a => by rw [congrFun (blk_whole t) a]; simp) (result m c)).symm

/-- So the result array ends at the result: the last point's block is the whole array. -/
theorem final (c : Dev nD) : (dats m 0 c).arrAt 3 cfg0.N = result m c :=
  (dats m 0 c).arrAt_eq_of_cover 3 (result m c) (flushed_eq m c) fun (i : S1792x4352.Idx) => by
    have hN : cfg0.N = 16 := N_0
    have hlt : 15 < cfg0.N := by omega
    refine ⟨⟨15, hlt⟩, (flush0_3 _).mpr rfl, ?_⟩
    show i ∈ ((View.whole main_v0).slice (win0_3.rect ⟨15, hlt⟩)).set
    rw [View.set_slice_whole, Rect.mem_set_unit]
    intro a
    have h0 : (i 0 : Nat) < 1792 := (i 0).isLt
    have h1 : (i 1 : Nat) < 4352 := (i 1).isLt
    match a with
    | ⟨0, _⟩ => show win0_3.index _ 0 * 1792 ≤ (i 0 : Nat) ∧ (i 0 : Nat) < win0_3.index _ 0 * 1792 + 1792; rw [(idx3 _).1]; omega
    | ⟨1, _⟩ => show win0_3.index _ 1 * 4352 ≤ (i 1 : Nat) ∧ (i 1 : Nat) < win0_3.index _ 1 * 4352 + 4352; rw [(idx3 _).2]; omega

/-- The run: the result array at the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.DwIdeal.Hand

namespace Cert.DwReferenceIdeal.Hand

open Cert.DwReferenceIdeal Cert.DwReferenceIdeal.Gen

variable (m : (ℓ : Loc nD τ sig) → Buf (Elt Ideal) ℓ) (ρ : Dev nD → PrngReg)

/-- The zero offset on two axes. -/
theorem hz : (![0, 0] : Fin 2 → Nat) = fun _ => 0 := funext fun a => by fin_cases a <;> rfl

/-- What the reference's one body leaves in its output block. -/
theorem out_A (c : Dev nD) (a1 h1 a2 h2 a3 h3 a4 h4)
    (x0 : Vec Ideal S3 .f32) (x1 : Vec Ideal S16384x1792 .fp8e5m2) (x2 : Vec Ideal S16384x4352 .fp8e4m3) :
    out0_A_3 (F := Ideal) c a1 h1 a2 h2 a3 h3 a4 h4 x0 x1 x2 = k0_pay1 x1 x2 (x0 (ix1 2)) (x0 (ix1 0)) := by
  unfold out0_A_3
  rw [View.read_writes_eq_canon _ _ _ (cover0_A_3 c a1 h1 a2 h2 a3 h3 a4 h4 x0 x1 x2)]
  unfold kernelRun0_A
  dsimp only
  sl_unfold_words
  rw [View.canon_unit_zero hz]
  simp only [View.readAt_eq_ld, h1.read_unread, h2.read_unread, h3.read_unread, View.ld_unit_zero (S := S16384x1792) hz,
    View.ld_unit_zero (S := S16384x4352) hz]
  have e : ∀ (k : Nat) (hk : k < 3) (h h'), View.ld x0 (Rect.unit ![k] ![1] h) (Shape.Idx.first h') = x0 (ix1 ⟨k, hk⟩) := by
    intro k hk h h'
    unfold View.ld
    congr 1
    funext a
    obtain rfl : a = 0 := Subsingleton.elim _ _
    apply Fin.ext
    show k + 1 * _ = k
    simp [Shape.Idx.first]
  exact congrArg₂ (k0_pay1 x1 x2) (e 2 (by decide) _ _) (e 0 (by decide) _ _)

/-- The reference's result, at a place. -/
theorem pay1_apply (x1 : Vec Ideal S16384x1792 .fp8e5m2) (x2 : Vec Ideal S16384x4352 .fp8e4m3) (a b : EReal) (j : S1792x4352.Idx) :
    k0_pay1 (F := Ideal) x1 x2 a b j = (∑ k : Fin 16384, x1 (ix2 k (j 0)) * x2 (ix2 k (j 1))) * (a * b) := by
  unfold k0_pay1
  idx_vars j
  pointwise

/-- The grid has one point. -/
theorem one_point : ∀ t : Fin cfg0.N, t = t0_0 := (by decide +kernel : ∀ t : Fin grid0.N, t = t0_0)

/-- Window 0 reads the scales. -/
theorem iblk0 (c : Dev nD) (t : Fin cfg0.N) : iblk m c 0 t = m ((c : Thread nD τ).loc main_arg0) := by
  obtain rfl : t = t0_0 := one_point t
  exact Memref.read_access_unit_zero (Elt Ideal) main_arg0 (by funext a; fin_cases a <;> decide +kernel) (fun a => by fin_cases a <;> decide +kernel) _
/-- Window 1 reads its array. -/
theorem iblk1 (c : Dev nD) (t : Fin cfg0.N) : iblk m c 1 t = m ((c : Thread nD τ).loc main_arg1) := by
  obtain rfl : t = t0_0 := one_point t
  exact Memref.read_access_unit_zero (Elt Ideal) main_arg1 (by funext a; fin_cases a <;> decide +kernel) (fun a => by fin_cases a <;> decide +kernel) _
/-- Window 2 reads its array. -/
theorem iblk2 (c : Dev nD) (t : Fin cfg0.N) : iblk m c 2 t = m ((c : Thread nD τ).loc main_arg2) := by
  obtain rfl : t = t0_0 := one_point t
  exact Memref.read_access_unit_zero (Elt Ideal) main_arg2 (by funext a; fin_cases a <;> decide +kernel) (fun a => by fin_cases a <;> decide +kernel) _

/-- The reference's result array. -/
def result (c : Dev nD) : Buf (Elt Ideal) ((c : Thread nD τ).loc main_v0) :=
  k0_pay1 (F := Ideal) (m ((c : Thread nD τ).loc main_arg1)) (m ((c : Thread nD τ).loc main_arg2))
    (m ((c : Thread nD τ).loc main_arg0) (ix1 2)) (m ((c : Thread nD τ).loc main_arg0) (ix1 0))

/-- The one write-back writes the result. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3, outsAt0, out_A, iblk0, iblk1, iblk2]
  obtain rfl : t = t0_0 := one_point t
  exact (Memref.read_access_unit_zero (Elt Ideal) main_v0 (by funext a; fin_cases a <;> decide +kernel) (fun a => by fin_cases a <;> decide +kernel) (result m c)).symm

/-- So the result array ends at the result. -/
theorem final (c : Dev nD) : (dats m 0 c).arrAt 3 cfg0.N = result m c :=
  (dats m 0 c).arrAt_eq_of_cover 3 (result m c) (flushed_eq m c) fun (i : S1792x4352.Idx) => by
    refine ⟨t0_0, (by decide +kernel), ?_⟩
    show i ∈ ((View.whole main_v0).slice (win0_3.rect t0_0)).set
    rw [View.set_slice_whole, Rect.mem_set_unit]
    intro a
    have h0 : (i 0 : Nat) < 1792 := (i 0).isLt
    have h1 : (i 1 : Nat) < 4352 := (i 1).isLt
    match a with
    | ⟨0, _⟩ => show win0_3.index _ 0 * 1792 ≤ (i 0 : Nat) ∧ (i 0 : Nat) < win0_3.index _ 0 * 1792 + 1792; rw [show win0_3.index t0_0 0 = 0 by decide +kernel]; omega
    | ⟨1, _⟩ => show win0_3.index _ 1 * 4352 ≤ (i 1 : Nat) ∧ (i 1 : Nat) < win0_3.index _ 1 * 4352 + 4352; rw [show win0_3.index t0_0 1 = 0 by decide +kernel]; omega

/-- The run: the result arrays at the results, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.DwReferenceIdeal.Hand

namespace Cert.Proof

/-- The kernel's weight gradient and the reference's are the same extended reals, whatever the arguments. -/
theorem algebraic_dw : Cert.algebraic_DwIdeal_DwReferenceIdeal := by
  intro m ρ m' ρ' _ hagree
  refine ⟨fun c => Cert.DwIdeal.Hand.result m c, Cert.DwIdeal.Hand.run m ρ, ?_⟩
  refine (θ_run Cert.DwReferenceIdeal.defs _ _).mono (fun _ h c => ⟨(h c).1.trans ?_, (h c).2⟩) (Cert.DwReferenceIdeal.Hand.run m' ρ')
  unfold Cert.DwReferenceIdeal.Hand.result
  rw [(hagree c).1, (hagree c).2.1, (hagree c).2.2]
  funext j
  exact (Cert.DwReferenceIdeal.Hand.pay1_apply _ _ _ _ j).trans (Cert.DwIdeal.Hand.result_apply m c j).symm

end Cert.Proof

end
-- ==== Proof.FwdBody.lean ====
module

public import proofs.«01_k».proof.Proof.Gen.FwdIdeal.Skeleton
public import proofs.«01_k».proof.Proof.Gen.FwdIdeal.Frame
public import Idealize.ShloMosaic.Lib.WritesUnit
public import Idealize.ShloMosaic.Lib.Exec
public import Idealize.ShloMosaic.Lib.Pipeline.ValueKit

/-! What the forward kernel's body does at one grid point, as runs over the contents of its buffers: `run_A` at the first
point (scales made, the weight quantised), `run_B` at a point in the middle, `run_C` at the last one (the new history). -/

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FwdIdeal.Gen

variable {F : FTy → Type} [FloatOps F]

local notation "𝕄" => MT nD τ sig Unit (Elt F) ℕ (UR sig nD τ) ℕ

variable (c : Dev nD) (i : grid0.Coords) (arg1 : Memref sig .tc .vmem S3x16 .f32) (harg1 : arg1.IsWhole) (arg2 : Memref sig .tc .vmem S512x4352 .bf16) (harg2 : arg2.IsWhole) (arg3 : Memref sig .tc .vmem S1792x4352 .bf16) (harg3 : arg3.IsWhole) (arg4 : Memref sig .tc .vmem S512x1792 .bf16) (harg4 : arg4.IsWhole) (arg5 : Memref sig .tc .vmem S512x1792 .bf16) (harg5 : arg5.IsWhole) (arg6 : Memref sig .tc .vmem S512x4352 .bf16) (harg6 : arg6.IsWhole) (arg7 : Memref sig .tc .vmem S512x4352 .fp8e4m3) (harg7 : arg7.IsWhole) (arg8 : Memref sig .tc .vmem S1792x4352 .fp8e4m3) (harg8 : arg8.IsWhole) (arg9 : Memref sig .tc .vmem S512x1792 .fp8e5m2) (harg9 : arg9.IsWhole) (arg10 : Memref sig .tc .smem S3 .f32) (harg10 : arg10.IsWhole) (arg11 : Memref sig .tc .vmem S3x16 .f32) (harg11 : arg11.IsWhole) (arg12 : Memref sig .tc .smem S8 .f32) (harg12 : arg12.IsWhole) (arg13 : Memref sig .tc .vmem S3x16x128 .bf16) (harg13 : arg13.IsWhole)

/-! ## Reading back what was written -/

omit [FloatOps F] in
/-- A buffer whose newest piece is the whole of it reads that piece's payload. -/
theorem read_whole {κ : Kind} {sp : Space} {s : Shape} {e : EltTy} (v : View sig κ sp s e) (f : v.ty.Contents (Elt F))
    {off : Fin s.rank → ℕ} (h0 : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y rfl fun a => by rw [h0 a, Nat.zero_add]

/-- Three rows stacked into the accumulator's shape. -/
def rows3 (r0 r1 r2 : Vec F S1x16x128 .bf16) : Vec F S3x16x128 .bf16 := fun y =>
  if (y 0).val = 0 then r0 (ix3 0 (y 1) (y 2)) else if (y 0).val = 1 then r1 (ix3 0 (y 1) (y 2)) else r2 (ix3 0 (y 1) (y 2))

omit [FloatOps F] in
/-- The stack at its first row. -/
theorem rows3_0 (r0 r1 r2 : Vec F S1x16x128 .bf16) (y : S3x16x128.Idx) (h : (y 0).val = 0) :
    rows3 r0 r1 r2 y = r0 (ix3 0 (y 1) (y 2)) := if_pos h
omit [FloatOps F] in
/-- The stack at its second row. -/
theorem rows3_1 (r0 r1 r2 : Vec F S1x16x128 .bf16) (y : S3x16x128.Idx) (h : (y 0).val = 1) :
    rows3 r0 r1 r2 y = r1 (ix3 0 (y 1) (y 2)) := (if_neg (by omega)).trans (if_pos h)
omit [FloatOps F] in
/-- The stack at its third row. -/
theorem rows3_2 (r0 r1 r2 : Vec F S1x16x128 .bf16) (y : S3x16x128.Idx) (h : (y 0).val = 2) :
    rows3 r0 r1 r2 y = r2 (ix3 0 (y 1) (y 2)) := (if_neg (by omega)).trans (if_neg (by omega))

omit [FloatOps F] in
/-- The first row of the stack, loaded. -/
theorem ld_rows3_0 (r0 r1 r2 : Vec F S1x16x128 .bf16) (inb) :
    View.ld (rows3 r0 r1 r2) (Rect.unit ![0, 0, 0] ![1, 16, 128] inb) = r0 := by
  funext x
  have h0 : (x 0).val = 0 := by have := (x 0).isLt; exact Nat.lt_one_iff.mp this
  refine (rows3_0 r0 r1 r2 _ (show 0 + 1 * (x 0).val = 0 by omega)).trans (congrArg r0 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- The second row of the stack, loaded. -/
theorem ld_rows3_1 (r0 r1 r2 : Vec F S1x16x128 .bf16) (inb) :
    View.ld (rows3 r0 r1 r2) (Rect.unit ![1, 0, 0] ![1, 16, 128] inb) = r1 := by
  funext x
  have h0 : (x 0).val = 0 := by have := (x 0).isLt; exact Nat.lt_one_iff.mp this
  refine (rows3_1 r0 r1 r2 _ (show 1 + 1 * (x 0).val = 1 by omega)).trans (congrArg r1 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- The third row of the stack, loaded. -/
theorem ld_rows3_2 (r0 r1 r2 : Vec F S1x16x128 .bf16) (inb) :
    View.ld (rows3 r0 r1 r2) (Rect.unit ![2, 0, 0] ![1, 16, 128] inb) = r2 := by
  funext x
  have h0 : (x 0).val = 0 := by have := (x 0).isLt; exact Nat.lt_one_iff.mp this
  refine (rows3_2 r0 r1 r2 _ (show 2 + 1 * (x 0).val = 2 by omega)).trans (congrArg r2 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- A store of the first and of the third row over a stack leaves the stack with those rows replaced. -/
theorem read_rows02 {κ : Kind} {sp : Space} (v : View sig κ sp S3x16x128 .bf16) (f : v.ty.Contents (Elt F))
    (r0 r1 r2 s0 s2 : Vec F S1x16x128 .bf16) (hf : v.read (Elt F) f = rows3 r0 r1 r2) (inb2 inb0) :
    v.read (Elt F) (v.writes (Elt F) f [⟨Rect.unit ![2, 0, 0] S1x16x128.size inb2, s2⟩, ⟨Rect.unit ![0, 0, 0] S1x16x128.size inb0, s0⟩])
      = rows3 s0 r1 s2 := by
  funext y
  have hy : (y 0).val < 3 := (y 0).isLt
  by_cases h2 : (y 0).val = 2
  · rw [View.read_writes_cons_unit_of_mem v f inb2 s2 _ y (ix3 0 (y 1) (y 2)) rfl (fun a => by
      match a with
      | ⟨0, _⟩ => show (y 0).val = 2 + 0; omega
      | ⟨1, _⟩ => show (y 1).val = 0 + (y 1).val; omega
      | ⟨2, _⟩ => show (y 2).val = 0 + (y 2).val; omega)]
    exact (rows3_2 _ _ _ y h2).symm
  · rw [View.read_writes_cons_unit_of_not_mem v f inb2 s2 _ y rfl 0 (Or.inl (show (y 0).val < 2 by omega))]
    by_cases h0 : (y 0).val = 0
    · rw [View.read_writes_cons_unit_of_mem v f inb0 s0 _ y (ix3 0 (y 1) (y 2)) rfl (fun a => by
        match a with
        | ⟨0, _⟩ => show (y 0).val = 0 + 0; omega
        | ⟨1, _⟩ => show (y 1).val = 0 + (y 1).val; omega
        | ⟨2, _⟩ => show (y 2).val = 0 + (y 2).val; omega)]
      exact (rows3_0 _ _ _ y h0).symm
    · rw [View.read_writes_cons_unit_of_not_mem v f inb0 s0 _ y rfl 0 (Or.inr (show 0 + 1 ≤ (y 0).val by omega))]
      show v.read (Elt F) f y = _
      rw [hf, rows3_1 _ _ _ y (by omega), rows3_1 _ _ _ y (by omega)]

omit [FloatOps F] in
/-- A store of the second row over a stack leaves the stack with that row replaced. -/
theorem read_rows1 {κ : Kind} {sp : Space} (v : View sig κ sp S3x16x128 .bf16) (f : v.ty.Contents (Elt F))
    (r0 r1 r2 s1 : Vec F S1x16x128 .bf16) (hf : v.read (Elt F) f = rows3 r0 r1 r2) (inb1) :
    v.read (Elt F) (v.writes (Elt F) f [⟨Rect.unit ![1, 0, 0] S1x16x128.size inb1, s1⟩]) = rows3 r0 s1 r2 := by
  funext y
  have hy : (y 0).val < 3 := (y 0).isLt
  by_cases h1 : (y 0).val = 1
  · rw [View.read_writes_cons_unit_of_mem v f inb1 s1 _ y (ix3 0 (y 1) (y 2)) rfl (fun a => by
      match a with
      | ⟨0, _⟩ => show (y 0).val = 1 + 0; omega
      | ⟨1, _⟩ => show (y 1).val = 0 + (y 1).val; omega
      | ⟨2, _⟩ => show (y 2).val = 0 + (y 2).val; omega)]
    exact (rows3_1 _ _ _ y h1).symm
  · rw [View.read_writes_cons_unit_of_not_mem v f inb1 s1 _ y rfl 0 (by
      by_cases h0 : (y 0).val = 0
      · exact Or.inl (show (y 0).val < 1 by omega)
      · exact Or.inr (show 1 + 1 ≤ (y 0).val by omega))]
    show v.read (Elt F) f y = _
    rw [hf]
    by_cases h0 : (y 0).val = 0
    · rw [rows3_0 _ _ _ y h0, rows3_0 _ _ _ y h0]
    · rw [rows3_2 _ _ _ y (by omega), rows3_2 _ _ _ y (by omega)]

omit [FloatOps F] in
/-- A word of the eight-word scratch. -/
theorem ld_word8 (sc : Vec F S8 .f32) (k : ℕ) (hk : k < 8) (h) (h') :
    View.ld sc (Rect.unit ![k] S1.size h) (Shape.Idx.first h') = sc (ix1 ⟨k, hk⟩) := by
  unfold View.ld
  congr 1
  funext a
  obtain rfl : a = 0 := Subsingleton.elim _ _
  apply Fin.ext
  show k + 1 * _ = k
  simp [Shape.Idx.first]

/-! ## What one point computes -/

/-- The row of running maxima of `|x|` after a block `x`. -/
def step0 (r : Vec F S1x16x128 .bf16) (x : Vec F S512x4352 .bf16) : Vec F S1x16x128 .bf16 :=
  k0_pay64 (k0_pay58 r) (k0_pay59 x) (k0_pay62 (k0_pay59 x) (k0_pay60 x) (k0_pay61 x)) (k0_pay63 (k0_pay59 x))
/-- The row of running maxima of `|dy|` after a block `dy`. -/
def step2 (r : Vec F S1x16x128 .bf16) (dy : Vec F S512x1792 .bf16) : Vec F S1x16x128 .bf16 := k0_pay65 (k0_pay55 dy) r
/-- The row of running maxima of `|w|` after a chunk of 128 rows of the weight. -/
def step1 (r : Vec F S1x16x128 .bf16) (w : Vec F S128x4352 .bf16) : Vec F S1x16x128 .bf16 :=
  k0_pay53 (k0_pay8 r) (k0_pay9 w) (k0_pay10 w)
/-- The block's codes of `x`. -/
def xqV (sc : Vec F S8 .f32) (x : Vec F S512x4352 .bf16) : Vec F S512x4352 .fp8e4m3 := k0_pay56 (sc (ix1 3)) x
/-- The block's codes of `dy`. -/
def dyqV (sc : Vec F S8 .f32) (dy : Vec F S512x1792 .bf16) : Vec F S512x1792 .fp8e5m2 := k0_pay57 (sc (ix1 5)) dy
/-- The block of `y`. -/
def yV (sc : Vec F S8 .f32) (x : Vec F S512x4352 .bf16) (wq : Vec F S1792x4352 .fp8e4m3) : Vec F S512x1792 .bf16 :=
  k0_pay1 (xqV sc x) wq (sc (ix1 6))
/-- The block of `dx`. -/
def dxV (sc : Vec F S8 .f32) (dy : Vec F S512x1792 .bf16) (wq : Vec F S1792x4352 .fp8e4m3) : Vec F S512x4352 .bf16 :=
  k0_pay2 (dyqV sc dy) wq (sc (ix1 7))

/-- The new history: the old one moved by one column, and in the first column the largest of each row of maxima. -/
def newhV (h : Vec F S3x16 .f32) (r0 r1 r2 : Vec F S1x16x128 .bf16) : Vec F S3x16 .f32 := fun y =>
  if hy : (y 1).val = 0 then
    (if (y 0).val = 0 then k0_pay4 r0 else if (y 0).val = 1 then k0_pay5 r1 else k0_pay6 r2) (ix2 0 0)
  else k0_pay3 h (ix2 (y 0) ⟨(y 1).val - 1, by have : (y 1).val < 16 := (y 1).isLt; omega⟩)

/-- Four pieces of the history: its last fifteen columns, and the three words of its first column. -/
theorem read_newh {κ : Kind} {sp : Space} (v : View sig κ sp S3x16 .f32) (f : v.ty.Contents (Elt F))
    (h : Vec F S3x16 .f32) (r0 r1 r2 : Vec F S1x16x128 .bf16) (inb6 inb5 inb4 inb3) :
    v.read (Elt F) (v.writes (Elt F) f [⟨Rect.unit ![2, 0] S1x1.size inb6, k0_pay6 r2⟩, ⟨Rect.unit ![1, 0] S1x1.size inb5, k0_pay5 r1⟩,
      ⟨Rect.unit ![0, 0] S1x1.size inb4, k0_pay4 r0⟩, ⟨Rect.unit ![0, 1] S3x15.size inb3, k0_pay3 h⟩]) = newhV h r0 r1 r2 := by
  funext y
  have hy0 : (y 0).val < 3 := (y 0).isLt
  have hy1 : (y 1).val < 16 := (y 1).isLt
  by_cases h1 : (y 1).val = 0
  · have e : newhV h r0 r1 r2 y = (if (y 0).val = 0 then k0_pay4 r0 else if (y 0).val = 1 then k0_pay5 r1 else k0_pay6 r2) (ix2 0 0) := dif_pos h1
    rw [e]
    by_cases a2 : (y 0).val = 2
    · rw [View.read_writes_cons_unit_of_mem v f inb6 (k0_pay6 r2) _ y (ix2 0 0) rfl (fun a => by
        match a with
        | ⟨0, _⟩ => show (y 0).val = 2 + 0; omega
        | ⟨1, _⟩ => show (y 1).val = 0 + 0; omega), if_neg (by omega), if_neg (by omega)]
    · rw [View.read_writes_cons_unit_of_not_mem v f inb6 (k0_pay6 r2) _ y rfl 0 (Or.inl (show (y 0).val < 2 by omega))]
      by_cases a1 : (y 0).val = 1
      · rw [View.read_writes_cons_unit_of_mem v f inb5 (k0_pay5 r1) _ y (ix2 0 0) rfl (fun a => by
          match a with
          | ⟨0, _⟩ => show (y 0).val = 1 + 0; omega
          | ⟨1, _⟩ => show (y 1).val = 0 + 0; omega), if_neg (by omega), if_pos a1]
      · rw [View.read_writes_cons_unit_of_not_mem v f inb5 (k0_pay5 r1) _ y rfl 0 (Or.inl (show (y 0).val < 1 by omega)),
          View.read_writes_cons_unit_of_mem v f inb4 (k0_pay4 r0) _ y (ix2 0 0) rfl (fun a => by
          match a with
          | ⟨0, _⟩ => show (y 0).val = 0 + 0; omega
          | ⟨1, _⟩ => show (y 1).val = 0 + 0; omega), if_pos (by omega)]
  · have e : newhV h r0 r1 r2 y = k0_pay3 h (ix2 (y 0) ⟨(y 1).val - 1, by omega⟩) := dif_neg h1
    rw [e]
    rw [View.read_writes_cons_unit_of_not_mem v f inb6 (k0_pay6 r2) _ y rfl 1 (Or.inr (show 0 + 1 ≤ (y 1).val by omega)),
      View.read_writes_cons_unit_of_not_mem v f inb5 (k0_pay5 r1) _ y rfl 1 (Or.inr (show 0 + 1 ≤ (y 1).val by omega)),
      View.read_writes_cons_unit_of_not_mem v f inb4 (k0_pay4 r0) _ y rfl 1 (Or.inr (show 0 + 1 ≤ (y 1).val by omega)),
      View.read_writes_cons_unit_of_mem v f inb3 (k0_pay3 h) _ y (ix2 (y 0) ⟨(y 1).val - 1, by omega⟩) rfl (fun a => by
        match a with
        | ⟨0, _⟩ => show (y 0).val = 0 + (y 0).val; omega
        | ⟨1, _⟩ => show (y 1).val = 1 + ((y 1).val - 1); omega)]

omit [FloatOps F] in
/-- The third row read back from a store of the first and the third. -/
theorem readCov_rows02_2 {κ : Kind} {sp : Space} (v : View sig κ sp S3x16x128 .bf16) [∀ e, Nonempty (Elt F e)]
    (s0 s2 : Vec F S1x16x128 .bf16) (inb2 inb0 inb) :
    v.readCov [⟨Rect.unit ![2, 0, 0] ![1, 16, 128] inb2, s2⟩, ⟨Rect.unit ![0, 0, 0] ![1, 16, 128] inb0, s0⟩]
      (Rect.unit ![2, 0, 0] ![1, 16, 128] inb).toLoadRect = s2 := by
  funext x
  unfold View.readCov
  exact View.read_writes_cons_unit_of_mem v _ inb2 s2 _ _ x rfl fun a => by
    show ![2, 0, 0] a + 1 * (x a).val = _; omega

omit [FloatOps F] in
/-- The first row read back from a store of the first and the third. -/
theorem readCov_rows02_0 {κ : Kind} {sp : Space} (v : View sig κ sp S3x16x128 .bf16) [∀ e, Nonempty (Elt F e)]
    (s0 s2 : Vec F S1x16x128 .bf16) (inb2 inb0 inb) :
    v.readCov [⟨Rect.unit ![2, 0, 0] ![1, 16, 128] inb2, s2⟩, ⟨Rect.unit ![0, 0, 0] ![1, 16, 128] inb0, s0⟩]
      (Rect.unit ![0, 0, 0] ![1, 16, 128] inb).toLoadRect = s0 := by
  funext x
  unfold View.readCov
  have h0 : (x 0).val = 0 := by have := (x 0).isLt; exact Nat.lt_one_iff.mp this
  refine (View.read_writes_cons_unit_of_not_mem v _ inb2 s2 _ _ rfl 0 (Or.inl (show 0 + 1 * (x 0).val < 2 by omega))).trans ?_
  exact View.read_writes_cons_unit_of_mem v _ inb0 s0 _ _ x rfl fun a => by
    show ![0, 0, 0] a + 1 * (x a).val = _; omega

/-- The zero offset on two axes. -/
theorem z2 : (![0, 0] : Fin 2 → ℕ) = fun _ => 0 := by funext a; match a with | ⟨0, _⟩ => rfl | ⟨1, _⟩ => rfl
/-- Each of its entries is zero. -/
theorem z2a : ∀ a : Fin 2, (![0, 0] : Fin 2 → ℕ) a = 0 := fun a => congrFun z2 a

set_option maxHeartbeats 1000000 in
/-- A point that is neither the first nor the last: the block's codes and products are stored, the running maxima
    updated, the weight's codes and the scalars left as they were. -/
theorem run_B (hc0 : ¬ k0_cond1 i = 1#1) (hc1 : ¬ k0_cond2 i = 1#1)
    (x1 : Vec F S512x4352 .bf16) (x3 : Vec F S512x1792 .bf16)
    (wq : Vec F S1792x4352 .fp8e4m3) (sc : Vec F S8 .f32) (r0 r1 r2 : Vec F S1x16x128 .bf16) (E : Set ℕ) (K : PUnit → sProp 𝕄) :
    iprop(owns (c : Thread nD τ) arg2 fullShare x1 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ owns (c : Thread nD τ) arg8 fullShare wq
      ∗ (∃ d, owns (c : Thread nD τ) arg9 fullShare d)
      ∗ owns (c : Thread nD τ) arg12 fullShare sc ∗ owns (c : Thread nD τ) arg13 fullShare (rows3 r0 r1 r2)
      ∗ (iprop(owns (c : Thread nD τ) arg2 fullShare x1 ∗ owns (c : Thread nD τ) arg4 fullShare x3
        ∗ owns (c : Thread nD τ) arg5 fullShare (yV sc x1 wq) ∗ owns (c : Thread nD τ) arg6 fullShare (dxV sc x3 wq)
        ∗ owns (c : Thread nD τ) arg7 fullShare (xqV sc x1) ∗ owns (c : Thread nD τ) arg8 fullShare wq
        ∗ owns (c : Thread nD τ) arg9 fullShare (dyqV sc x3)
        ∗ owns (c : Thread nD τ) arg12 fullShare sc
        ∗ owns (c : Thread nD τ) arg13 fullShare (rows3 (step0 r0 x1) r1 (step2 r2 x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f2, %hf2, H2⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f12, %hf12, H12⟩, ⟨%f13, %hf13, H13⟩, Hk⟩
  obtain rfl := harg2.eq_unread hf2; obtain rfl := harg4.eq_unread hf4; obtain rfl := harg8.eq_unread hf8
  obtain rfl := harg12.eq_unread hf12; obtain rfl := harg13.eq_unread hf13
  sl_exec (disch := first | sl_exact hc0 | sl_exact hc1)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H12]
  · iexists _; isplitr; swap; · iexact H12
    ipureintro; exact hf12
  · iexists _; isplitr; swap; · iexact H13
    ipureintro
    rw [read_rows02 _ _ r0 r1 r2 _ _ hf13]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl

set_option maxHeartbeats 1000000 in
/-- The last point: as any other, and the new history is stored. The block's codes and products are stored, the running maxima
    updated, the weight's codes and the scalars left as they were. -/
theorem run_C (hc0 : ¬ k0_cond1 i = 1#1) (hc1 : k0_cond2 i = 1#1)
    (x0 : Vec F S3x16 .f32) (x1 : Vec F S512x4352 .bf16) (x3 : Vec F S512x1792 .bf16)
    (wq : Vec F S1792x4352 .fp8e4m3) (sc : Vec F S8 .f32) (r0 r1 r2 : Vec F S1x16x128 .bf16) (E : Set ℕ) (K : PUnit → sProp 𝕄) :
    iprop(owns (c : Thread nD τ) arg1 fullShare x0 ∗ (∃ d, owns (c : Thread nD τ) arg11 fullShare d)
      ∗ owns (c : Thread nD τ) arg2 fullShare x1 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ owns (c : Thread nD τ) arg8 fullShare wq
      ∗ (∃ d, owns (c : Thread nD τ) arg9 fullShare d)
      ∗ owns (c : Thread nD τ) arg12 fullShare sc ∗ owns (c : Thread nD τ) arg13 fullShare (rows3 r0 r1 r2)
      ∗ (iprop(owns (c : Thread nD τ) arg1 fullShare x0
        ∗ owns (c : Thread nD τ) arg11 fullShare (newhV x0 (step0 r0 x1) r1 (step2 r2 x3))
        ∗ owns (c : Thread nD τ) arg2 fullShare x1 ∗ owns (c : Thread nD τ) arg4 fullShare x3
        ∗ owns (c : Thread nD τ) arg5 fullShare (yV sc x1 wq) ∗ owns (c : Thread nD τ) arg6 fullShare (dxV sc x3 wq)
        ∗ owns (c : Thread nD τ) arg7 fullShare (xqV sc x1) ∗ owns (c : Thread nD τ) arg8 fullShare wq
        ∗ owns (c : Thread nD τ) arg9 fullShare (dyqV sc x3)
        ∗ owns (c : Thread nD τ) arg12 fullShare sc
        ∗ owns (c : Thread nD τ) arg13 fullShare (rows3 (step0 r0 x1) r1 (step2 r2 x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f1, %hf1, H1⟩, ⟨%d11, %f11, -, H11⟩, ⟨%f2, %hf2, H2⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f12, %hf12, H12⟩, ⟨%f13, %hf13, H13⟩, Hk⟩
  obtain rfl := harg1.eq_unread hf1
  obtain rfl := harg2.eq_unread hf2; obtain rfl := harg4.eq_unread hf4; obtain rfl := harg8.eq_unread hf8
  obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact hf1
  isplitl [H11]
  · iexists _; isplitr; swap; · iexact H11
    ipureintro
    sl_unfold_words
    simp only [View.readAt_eq_ld, harg1.read_unread, harg2.read_unread, harg4.read_unread, harg8.read_unread, harg12.read_unread, harg13.read_unread,
      View.ld_unit_zero (S := S3x16) z2, View.ld_unit_zero (S := S512x4352) z2, View.ld_unit_zero (S := S512x1792) z2, View.ld_unit_zero (S := S1792x4352) z2,
      ld_rows3_0, ld_rows3_1, ld_rows3_2, readCov_rows02_0, readCov_rows02_2]
    exact read_newh _ _ _ _ _ _ _ _ _ _
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H12]
  · iexists _; isplitr; swap; · iexact H12
    ipureintro; exact hf12
  · iexists _; isplitr; swap; · iexact H13
    ipureintro
    sl_unfold_words
    rw [read_rows02 _ _ r0 r1 r2 _ _ hf13]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl

/-- The scale word, its reciprocal's word and the stored scale of the first tensor, from the history. -/
def w0 (h : Vec F S3x16 .f32) : F .f32 := k0_pay22 (k0_pay12 h) (k0_pay18 (k0_pay13 h) (k0_pay14 h) (k0_pay15 h) (k0_pay16 h)) (k0_pay19 (k0_pay13 h) (k0_pay14 h) (k0_pay15 h) (k0_pay16 h)) 0#32
/-- Scale word 3: the reciprocal of the input's scale. -/
def w3 (h : Vec F S3x16 .f32) : F .f32 := k0_pay23 (k0_pay12 h) (k0_pay18 (k0_pay13 h) (k0_pay14 h) (k0_pay15 h) (k0_pay16 h)) (k0_pay19 (k0_pay13 h) (k0_pay14 h) (k0_pay15 h) (k0_pay16 h)) 0#32
/-- The stored scale of the input. -/
def s0 (h : Vec F S3x16 .f32) : F .f32 := k0_pay24 (k0_pay12 h) (k0_pay18 (k0_pay13 h) (k0_pay14 h) (k0_pay15 h) (k0_pay16 h)) (k0_pay19 (k0_pay13 h) (k0_pay14 h) (k0_pay15 h) (k0_pay16 h)) 0#32
/-- The weight's exponent field part of the way through its search. -/
def v332 (h : Vec F S3x16 .f32) : IVec S1x1 32 := k0_pay29 (k0_pay26 (k0_pay11 h)) k0_pay27 k0_pay28 23#32
/-- The next field its search tries. -/
def v334 (h : Vec F S3x16 .f32) : IVec S1x1 32 := k0_pay30 (k0_pay26 (k0_pay11 h)) k0_pay27 k0_pay28 23#32
/-- The exponent of the weight's scale. -/
def v372 (h : Vec F S3x16 .f32) : IVec S1x1 32 := k0_pay31 (k0_pay25 (k0_pay11 h)) (k0_pay26 (k0_pay11 h)) (v332 h) (v334 h) 23#32
/-- The biased exponent of the weight's scale. -/
def v378 (h : Vec F S3x16 .f32) : IVec S1x1 32 := k0_pay32 (k0_pay25 (k0_pay11 h)) (k0_pay26 (k0_pay11 h)) (v332 h) (v334 h) 23#32
/-- Scale word 1: the scale of the weight. -/
def w1 (h : Vec F S3x16 .f32) : F .f32 := k0_pay34 (v378 h)
/-- Scale word 4: the reciprocal of the weight's scale. -/
def w4 (h : Vec F S3x16 .f32) : F .f32 := k0_pay35 (v372 h)
/-- The stored scale of the weight. -/
def s1 (h : Vec F S3x16 .f32) : F .f32 := k0_pay36 (v378 h)
/-- The gradient's exponent field part of the way through its search. -/
def v457 (h : Vec F S3x16 .f32) : IVec S1x1 32 := k0_pay41 (k0_pay38 (k0_pay11 h)) (k0_pay39 (k0_pay11 h)) (k0_pay40 (k0_pay11 h)) 64#32
/-- The comparison that decides its next bit. -/
def v463 (h : Vec F S3x16 .f32) : IVec S1x1 1 := k0_pay42 (k0_pay38 (k0_pay11 h)) (k0_pay39 (k0_pay11 h)) (k0_pay40 (k0_pay11 h)) 64#32
/-- The gradient's scale, as a one-entry array. -/
def v497 (h : Vec F S3x16 .f32) : FVec F S1x1 .f32 := k0_pay44 (k0_pay37 (k0_pay11 h)) (k0_pay38 (k0_pay11 h)) (v457 h) (v463 h) 2#32
/-- The biased exponent of its reciprocal. -/
def v505 (h : Vec F S3x16 .f32) : IVec S1x1 32 := k0_pay45 (k0_pay37 (k0_pay11 h)) (k0_pay38 (k0_pay11 h)) (v457 h) (v463 h) 2#32
/-- Scale word 2: the scale of the gradient. -/
def w2 (h : Vec F S3x16 .f32) : F .f32 := k0_pay46 (v497 h)
/-- Scale word 5: the reciprocal of the gradient's scale. -/
def w5 (h : Vec F S3x16 .f32) : F .f32 := k0_pay47 (v505 h) 23#32
/-- The stored scale of the gradient. -/
def s2 (h : Vec F S3x16 .f32) : F .f32 := k0_pay48 (v497 h)
/-- Scale word 6: the product of the scales of input and weight. -/
def w6 (h : Vec F S3x16 .f32) : F .f32 := k0_pay49 (w0 h) (w1 h)
/-- Scale word 7: the product of the scales of gradient and weight. -/
def w7 (h : Vec F S3x16 .f32) : F .f32 := k0_pay50 (w2 h) (w1 h)
/-- The eight words the first grid point leaves for the later ones. -/
def scV (h : Vec F S3x16 .f32) : Vec F S8 .f32 := fun y =>
  if (y 0).val = 0 then w0 h else if (y 0).val = 1 then w1 h else if (y 0).val = 2 then w2 h else if (y 0).val = 3 then w3 h
  else if (y 0).val = 4 then w4 h else if (y 0).val = 5 then w5 h else if (y 0).val = 6 then w6 h else w7 h
/-- The three stored scales. -/
def sV (h : Vec F S3x16 .f32) : Vec F S3 .f32 := fun y =>
  if (y 0).val = 0 then s0 h else if (y 0).val = 1 then s1 h else s2 h

/-- The `k`-th chunk of 128 rows of the weight. -/
def chunk (x2 : Vec F S1792x4352 .bf16) (k : ℕ) : Vec F S128x4352 .bf16 := fun y => x2 (ix2 ⟨(128 * k + (y 0).val) % 1792, Nat.mod_lt _ (by norm_num)⟩ (y 1))
/-- The weight's codes, given the reciprocal's word: chunk by chunk. -/
def wqV (w : Elt F .f32) (x2 : Vec F S1792x4352 .bf16) : Vec F S1792x4352 .fp8e4m3 := fun y =>
  k0_pay7 (k0_pay51 w) (chunk x2 ((y 0).val / 128)) (ix2 ⟨(y 0).val % 128, Nat.mod_lt _ (by norm_num)⟩ (y 1))
/-- The row of running maxima of `|w|` after the first `k` chunks. -/
def fold1 (x2 : Vec F S1792x4352 .bf16) (r : Vec F S1x16x128 .bf16) : ℕ → Vec F S1x16x128 .bf16
  | 0 => r
  | k + 1 => step1 (fold1 x2 r k) (chunk x2 k)
/-- A row of zeros. -/
def rz : Vec F S1x16x128 .bf16 := fun x => k0_pay52 (F := F) (ix3 0 (x 1) (x 2))

/-- The loop runs 14 trips. -/
theorem trips14 : Scf.trips k0_t1_loop.lb k0_t1_loop.ub k0_t1_loop.st = 14 := by decide +kernel
/-- Trip `k` works on the rows from `128 k` on. -/
theorem off1_eq : ∀ k : Fin k0_t1_loop.trips, k0_off1 k 0 = 128 * k.val ∧ k0_off1 k 1 = 0 := by decide +kernel

omit [FloatOps F] in
/-- What a trip reads of the weight. -/
theorem ld_chunk (x2 : Vec F S1792x4352 .bf16) (k : Fin k0_t1_loop.trips) (inb) :
    View.ld x2 (Rect.unit (s := S1792x4352) (k0_off1 k) S128x4352.size inb) = chunk x2 k.val := by
  have hk : k.val < 14 := Nat.lt_of_lt_of_le k.isLt k0_t1_abs.2.1
  funext y
  have hy : (y 0).val < 128 := (y 0).isLt
  unfold View.ld chunk
  congr 1
  funext a
  apply Fin.ext
  match a with
  | ⟨0, _⟩ => show k0_off1 k 0 + 1 * (y 0).val = (128 * k.val + (y 0).val) % 1792; rw [(off1_eq k).1]; omega
  | ⟨1, _⟩ => show k0_off1 k 1 + 1 * (y 1).val = (y 1).val; rw [(off1_eq k).2]; omega

omit [FloatOps F] in
/-- Eight words written one by one. -/
theorem read_words8 {κ : Kind} {sp : Space} (v : View sig κ sp S8 .f32) (f : v.ty.Contents (Elt F)) (a0 a1 a2 a3 a4 a5 a6 a7 : Elt F .f32)
    (i0 i1 i2 i3 i4 i5 i6 i7) :
    v.read (Elt F) (v.writes (Elt F) f [
      ⟨Rect.unit ![7] S1.size i7, fun _ => a7⟩,
      ⟨Rect.unit ![6] S1.size i6, fun _ => a6⟩,
      ⟨Rect.unit ![5] S1.size i5, fun _ => a5⟩,
      ⟨Rect.unit ![2] S1.size i2, fun _ => a2⟩,
      ⟨Rect.unit ![4] S1.size i4, fun _ => a4⟩,
      ⟨Rect.unit ![1] S1.size i1, fun _ => a1⟩,
      ⟨Rect.unit ![3] S1.size i3, fun _ => a3⟩,
      ⟨Rect.unit ![0] S1.size i0, fun _ => a0⟩]) = fun y =>
      if (y 0).val = 0 then a0 else if (y 0).val = 1 then a1 else if (y 0).val = 2 then a2 else if (y 0).val = 3 then a3
      else if (y 0).val = 4 then a4 else if (y 0).val = 5 then a5 else if (y 0).val = 6 then a6 else a7 := by
  funext y
  have hy : (y 0).val < 8 := (y 0).isLt
  by_cases h7 : (y 0).val = 7
  · rw [View.read_writes_cons_unit_of_mem v f i7 _ _ y (ix1 0) rfl (fun a => by obtain rfl : a = 0 := Subsingleton.elim _ _; show (y 0).val = 7 + 0; omega), if_neg (by omega), if_neg (by omega), if_neg (by omega), if_neg (by omega), if_neg (by omega), if_neg (by omega), if_neg (by omega)]
  rw [View.read_writes_cons_unit_of_not_mem v f i7 _ _ y rfl 0 (by show (y 0).val < 7 ∨ 7 + 1 ≤ (y 0).val; omega)]
  by_cases h6 : (y 0).val = 6
  · rw [View.read_writes_cons_unit_of_mem v f i6 _ _ y (ix1 0) rfl (fun a => by obtain rfl : a = 0 := Subsingleton.elim _ _; show (y 0).val = 6 + 0; omega), if_neg (by omega), if_neg (by omega), if_neg (by omega), if_neg (by omega), if_neg (by omega), if_neg (by omega), if_pos h6]
  rw [View.read_writes_cons_unit_of_not_mem v f i6 _ _ y rfl 0 (by show (y 0).val < 6 ∨ 6 + 1 ≤ (y 0).val; omega)]
  by_cases h5 : (y 0).val = 5
  · rw [View.read_writes_cons_unit_of_mem v f i5 _ _ y (ix1 0) rfl (fun a => by obtain rfl : a = 0 := Subsingleton.elim _ _; show (y 0).val = 5 + 0; omega), if_neg (by omega), if_neg (by omega), if_neg (by omega), if_neg (by omega), if_neg (by omega), if_pos h5]
  rw [View.read_writes_cons_unit_of_not_mem v f i5 _ _ y rfl 0 (by show (y 0).val < 5 ∨ 5 + 1 ≤ (y 0).val; omega)]
  by_cases h2 : (y 0).val = 2
  · rw [View.read_writes_cons_unit_of_mem v f i2 _ _ y (ix1 0) rfl (fun a => by obtain rfl : a = 0 := Subsingleton.elim _ _; show (y 0).val = 2 + 0; omega), if_neg (by omega), if_neg (by omega), if_pos h2]
  rw [View.read_writes_cons_unit_of_not_mem v f i2 _ _ y rfl 0 (by show (y 0).val < 2 ∨ 2 + 1 ≤ (y 0).val; omega)]
  by_cases h4 : (y 0).val = 4
  · rw [View.read_writes_cons_unit_of_mem v f i4 _ _ y (ix1 0) rfl (fun a => by obtain rfl : a = 0 := Subsingleton.elim _ _; show (y 0).val = 4 + 0; omega), if_neg (by omega), if_neg (by omega), if_neg (by omega), if_neg (by omega), if_pos h4]
  rw [View.read_writes_cons_unit_of_not_mem v f i4 _ _ y rfl 0 (by show (y 0).val < 4 ∨ 4 + 1 ≤ (y 0).val; omega)]
  by_cases h1 : (y 0).val = 1
  · rw [View.read_writes_cons_unit_of_mem v f i1 _ _ y (ix1 0) rfl (fun a => by obtain rfl : a = 0 := Subsingleton.elim _ _; show (y 0).val = 1 + 0; omega), if_neg (by omega), if_pos h1]
  rw [View.read_writes_cons_unit_of_not_mem v f i1 _ _ y rfl 0 (by show (y 0).val < 1 ∨ 1 + 1 ≤ (y 0).val; omega)]
  by_cases h3 : (y 0).val = 3
  · rw [View.read_writes_cons_unit_of_mem v f i3 _ _ y (ix1 0) rfl (fun a => by obtain rfl : a = 0 := Subsingleton.elim _ _; show (y 0).val = 3 + 0; omega), if_neg (by omega), if_neg (by omega), if_neg (by omega), if_pos h3]
  rw [View.read_writes_cons_unit_of_not_mem v f i3 _ _ y rfl 0 (by show (y 0).val < 3 ∨ 3 + 1 ≤ (y 0).val; omega)]
  rw [View.read_writes_cons_unit_of_mem v f i0 _ _ y (ix1 0) rfl (fun a => by obtain rfl : a = 0 := Subsingleton.elim _ _; show (y 0).val = 0 + 0; omega)]
  rw [if_pos (by omega)]

omit [FloatOps F] in
/-- Three words written one by one. -/
theorem read_words3 {κ : Kind} {sp : Space} (v : View sig κ sp S3 .f32) (f : v.ty.Contents (Elt F)) (a0 a1 a2 : Elt F .f32) (i0 i1 i2) :
    v.read (Elt F) (v.writes (Elt F) f [⟨Rect.unit ![2] S1.size i2, fun _ => a2⟩, ⟨Rect.unit ![1] S1.size i1, fun _ => a1⟩, ⟨Rect.unit ![0] S1.size i0, fun _ => a0⟩]) = fun y =>
      if (y 0).val = 0 then a0 else if (y 0).val = 1 then a1 else a2 := by
  funext y
  have hy : (y 0).val < 3 := (y 0).isLt
  by_cases h2 : (y 0).val = 2
  · rw [View.read_writes_cons_unit_of_mem v f i2 _ _ y (ix1 0) rfl (fun a => by obtain rfl : a = 0 := Subsingleton.elim _ _; show (y 0).val = 2 + 0; omega), if_neg (by omega), if_neg (by omega)]
  rw [View.read_writes_cons_unit_of_not_mem v f i2 _ _ y rfl 0 (by show (y 0).val < 2 ∨ 2 + 1 ≤ (y 0).val; omega)]
  by_cases h1 : (y 0).val = 1
  · rw [View.read_writes_cons_unit_of_mem v f i1 _ _ y (ix1 0) rfl (fun a => by obtain rfl : a = 0 := Subsingleton.elim _ _; show (y 0).val = 1 + 0; omega), if_neg (by omega), if_pos h1]
  rw [View.read_writes_cons_unit_of_not_mem v f i1 _ _ y rfl 0 (by show (y 0).val < 1 ∨ 1 + 1 ≤ (y 0).val; omega)]
  rw [View.read_writes_cons_unit_of_mem v f i0 _ _ y (ix1 0) rfl (fun a => by obtain rfl : a = 0 := Subsingleton.elim _ _; show (y 0).val = 0 + 0; omega)]
  rw [if_pos (by omega)]

/-- Before trip `k` of the loop over the weight's chunks: the codes of the first `k` chunks are stored, and the second
row of the accumulator holds the running maxima of those chunks. -/
@[reducible] def invA (c : Dev nD) (arg3 : Memref sig .tc .vmem S1792x4352 .bf16) (harg3 : arg3.IsWhole) (arg8 : Memref sig .tc .vmem S1792x4352 .fp8e4m3) (arg13 : Memref sig .tc .vmem S3x16x128 .bf16)
    (w : Elt F .f32) (x2 : Vec F S1792x4352 .bf16) (r0 r1 r2 : Vec F S1x16x128 .bf16) (k : ℕ) : sProp 𝕄 :=
  iprop((arg3.view.loc (c : Thread nD τ) ↦[arg3.view.set]{fullShare} harg3.unread x2)
    ∗ (∃ f, ⌜∀ y : S1792x4352.Idx, (y 0).val < 128 * k → arg8.view.read (Elt F) f y = wqV w x2 y⌝ ∗ (arg8.view.loc (c : Thread nD τ) ↦[arg8.view.set]{fullShare} f))
    ∗ (∃ f, ⌜arg13.view.read (Elt F) f = rows3 r0 (fold1 x2 r1 k) r2⌝ ∗ (arg13.view.loc (c : Thread nD τ) ↦[arg13.view.set]{fullShare} f)))

/-- The loop over the weight's chunks: before trip `k` the codes of the first `k` chunks are stored, and the
second row of the accumulator holds the running maxima of those chunks. -/
@[reducible] def loopA (c : Dev nD) (i : grid0.Coords) (arg1 : Memref sig .tc .vmem S3x16 .f32) (harg1 : arg1.IsWhole) (arg2 : Memref sig .tc .vmem S512x4352 .bf16) (harg2 : arg2.IsWhole) (arg3 : Memref sig .tc .vmem S1792x4352 .bf16) (harg3 : arg3.IsWhole) (arg4 : Memref sig .tc .vmem S512x1792 .bf16) (harg4 : arg4.IsWhole) (arg5 : Memref sig .tc .vmem S512x1792 .bf16) (harg5 : arg5.IsWhole) (arg6 : Memref sig .tc .vmem S512x4352 .bf16) (harg6 : arg6.IsWhole) (arg7 : Memref sig .tc .vmem S512x4352 .fp8e4m3) (harg7 : arg7.IsWhole) (arg8 : Memref sig .tc .vmem S1792x4352 .fp8e4m3) (harg8 : arg8.IsWhole) (arg9 : Memref sig .tc .vmem S512x1792 .fp8e5m2) (harg9 : arg9.IsWhole) (arg10 : Memref sig .tc .smem S3 .f32) (harg10 : arg10.IsWhole) (arg11 : Memref sig .tc .vmem S3x16 .f32) (harg11 : arg11.IsWhole) (arg12 : Memref sig .tc .smem S8 .f32) (harg12 : arg12.IsWhole) (arg13 : Memref sig .tc .vmem S3x16x128 .bf16) (harg13 : arg13.IsWhole)
    (hc0 : k0_cond1 i = 1#1) (w : Elt F .f32) (E : Set ℕ) (x2 : Vec F S1792x4352 .bf16) (r0 r1 r2 : Vec F S1x16x128 .bf16) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i hc0) () (k0_t1_body (F := F) i arg1 harg1 arg2 harg2 arg3 harg3 arg4 harg4 arg5 harg5 arg6 harg6 arg7 harg7 arg8 harg8 arg9 harg9 arg10 harg10 arg11 harg11 arg12 harg12 arg13 harg13 hc0 w) where
  inv k _ := invA c arg3 harg3 arg8 arg13 w x2 r0 r1 r2 k
  step k acc := by
    have hk : k.val < 14 := Nat.lt_of_lt_of_le k.isLt k0_t1_abs.2.1
    unfold k0_t1_body
    iintro ⟨H3, ⟨%f8, %hf8, H8⟩, ⟨%f13, %hf13, H13⟩⟩
    obtain rfl := harg13.eq_unread hf13
    sl_exec
    sl_step
    isplitl [H3]; · iexact H3
    isplitl [H8]
    · iexists _; isplitr; swap; · iexact H8
      ipureintro
      intro y hy
      have hy4 : (y 0).val < 1792 := (y 0).isLt
      sl_unfold_words
      have hp : View.readAt (Elt F) arg3.view (Rect.unit (s := S1792x4352) (k0_off1 k) S128x4352.size (k0_off1_inb i k hc0)).toLoadRect (harg3.unread x2) = chunk x2 k.val := by
        rw [View.readAt_eq_ld, harg3.read_unread]; exact ld_chunk x2 k _
      show arg8.view.read (Elt F) (arg8.view.writes (Elt F) f8 [⟨Rect.unit (s := S1792x4352) (k0_off1 k) S128x4352.size (k0_off1_inb i k hc0),
        k0_pay7 (k0_pay51 w) (View.readAt (Elt F) arg3.view (Rect.unit (s := S1792x4352) (k0_off1 k) S128x4352.size (k0_off1_inb i k hc0)).toLoadRect (harg3.unread x2))⟩]) y = _
      rw [hp]
      by_cases hlt : (y 0).val < 128 * k.val
      · refine (View.read_writes_cons_unit_of_not_mem arg8.view f8 (k0_off1_inb i k hc0) _ _ y rfl 0 (Or.inl (by rw [(off1_eq k).1]; exact hlt))).trans ?_
        exact hf8 y hlt
      · refine (View.read_writes_cons_unit_of_mem arg8.view f8 (k0_off1_inb i k hc0) _ _ y (ix2 ⟨(y 0).val % 128, Nat.mod_lt _ (by norm_num)⟩ (y 1)) rfl (fun a => by
          match a with
          | ⟨0, _⟩ => show (y 0).val = k0_off1 k 0 + (y 0).val % 128; rw [(off1_eq k).1]; omega
          | ⟨1, _⟩ => show (y 1).val = k0_off1 k 1 + (y 1).val; rw [(off1_eq k).2]; omega)).trans ?_
        have e : (y 0).val / 128 = k.val := by omega
        unfold wqV
        rw [e]
    · iexists _; isplitr; swap; · iexact H13
      ipureintro
      sl_unfold_words
      have hp : View.readAt (Elt F) arg3.view (Rect.unit (s := S1792x4352) (k0_off1 k) S128x4352.size (k0_off1_inb i k hc0)).toLoadRect (harg3.unread x2) = chunk x2 k.val := by
        rw [View.readAt_eq_ld, harg3.read_unread]; exact ld_chunk x2 k _
      rw [read_rows1 _ _ r0 _ r2 _ hf13]
      have hq : View.readAt (Elt F) arg13.view (Rect.unit (s := S3x16x128) ![1, 0, 0] S1x16x128.size inb_S3x16x128_S1x16x128_1_0_0).toLoadRect (harg13.unread (rows3 r0 (fold1 x2 r1 k.val) r2)) = fold1 x2 r1 k.val := by
        rw [View.readAt_eq_ld, harg13.read_unread]; exact ld_rows3_1 _ _ _ _
      show rows3 r0 (step1 (View.readAt (Elt F) arg13.view (Rect.unit (s := S3x16x128) ![1, 0, 0] S1x16x128.size inb_S3x16x128_S1x16x128_1_0_0).toLoadRect (harg13.unread (rows3 r0 (fold1 x2 r1 k.val) r2)))
        (View.readAt (Elt F) arg3.view (Rect.unit (s := S1792x4352) (k0_off1 k) S128x4352.size (k0_off1_inb i k hc0)).toLoadRect (harg3.unread x2))) r2 = _
      rw [hp, hq]
      rfl

/-- The word that the loop is given. -/
theorem pay35_eq (h : Vec F S3x16 .f32) : k0_pay35 (F := F) (k0_pay31 (k0_pay25 (k0_pay11 h)) (k0_pay26 (k0_pay11 h)) (k0_pay29 (k0_pay26 (k0_pay11 h)) k0_pay27 k0_pay28 23#32)
    (k0_pay30 (k0_pay26 (k0_pay11 h)) k0_pay27 k0_pay28 23#32) 23#32) = w4 h := rfl
/-- The zero offset of a rank-3 buffer. -/
theorem z3a : ∀ a : Fin 3, (![0, 0, 0] : Fin 3 → ℕ) a = 0 := by decide

/-- The zeros the accumulator starts from, as three rows. -/
theorem pay52_rows : (k0_pay52 (F := F)) = rows3 rz rz rz := by
  funext y
  have hy : (y 0).val < 3 := (y 0).isLt
  unfold rows3 rz
  split_ifs <;> rfl

set_option maxHeartbeats 2000000 in
/-- The first grid point: it makes the eight words and the three scales, quantises the weight chunk by chunk, and does its own block. -/
theorem run_A (hc0 : k0_cond1 i = 1#1) (hc1 : ¬ k0_cond2 i = 1#1) (x0 : Vec F S3x16 .f32) (x1 : Vec F S512x4352 .bf16) (x2 : Vec F S1792x4352 .bf16) (x3 : Vec F S512x1792 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (scV x0) x1 (wqV (w4 x0) x2)) ∗ owns (c : Thread nD τ) arg6 fullShare (dxV (scV x0) x3 (wqV (w4 x0) x2))
        ∗ owns (c : Thread nD τ) arg7 fullShare (xqV (scV x0) x1) ∗ owns (c : Thread nD τ) arg8 fullShare (wqV (w4 x0) x2)
        ∗ owns (c : Thread nD τ) arg9 fullShare (dyqV (scV x0) x3) ∗ owns (c : Thread nD τ) arg10 fullShare (sV x0)
        ∗ owns (c : Thread nD τ) arg12 fullShare (scV x0)
        ∗ owns (c : Thread nD τ) arg13 fullShare (rows3 (step0 rz x1) (fold1 x2 rz 14) (step2 rz x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4
  have e1 : View.readAt (Elt F) arg1.view (Rect.unit (s := S3x16) ![0, 0] S3x16.size inb_S3x16_S3x16_0_0).toLoadRect (harg1.unread x0) = x0 := by
    rw [View.readAt_eq_ld, harg1.read_unread]; exact View.ld_unit_zero (S := S3x16) z2 _ x0
  sl_exec (disch := first | sl_exact hc0 | sl_exact hc1)
  sl_unfold_words
  ihave H12 : iprop(∃ f, ⌜arg12.view.read (Elt F) f = scV x0⌝ ∗ (arg12.view.loc (c : Thread nD τ) ↦[arg12.view.set]{fullShare} f)) $$ [H12]
  · iexists _; isplitr; swap; · iexact H12
    ipureintro
    refine (read_words8 _ _ _ _ _ _ _ _ _ _ _ _ _ _ _ _ _ _).trans ?_
    rfl
  ihave H10 : iprop(∃ f, ⌜arg10.view.read (Elt F) f = sV x0⌝ ∗ (arg10.view.loc (c : Thread nD τ) ↦[arg10.view.set]{fullShare} f)) $$ [H10]
  · iexists _; isplitr; swap; · iexact H10
    ipureintro
    refine (read_words3 _ _ _ _ _ _ _ _).trans ?_
    rfl
  ihave HI : invA c arg3 harg3 arg8 arg13 (w4 x0) x2 rz rz rz 0 $$ [H3 H8 H13]
  · isplitl [H3]; · iexact H3
    isplitl [H8]
    · iexists _; isplitr; swap; · iexact H8
      ipureintro; intro y hy; exact absurd hy (Nat.not_lt_zero _)
    · iexists _; isplitr; swap; · iexact H13
      ipureintro
      exact (read_whole _ _ z3a _ _ _).trans pay52_rows
  icases H12 with ⟨%g12, %hf12, H12⟩
  icases H10 with ⟨%g10, %hf10, H10⟩
  obtain rfl := harg12.eq_unread hf12; obtain rfl := harg10.eq_unread hf10
  first | iapply (Idealize.ShloMosaic.exec_loop _ _ _ _ _ _ _ _ _ (loopA c i arg1 harg1 arg2 harg2 arg3 harg3 arg4 harg4 arg5 harg5 arg6 harg6 arg7 harg7 arg8 harg8 arg9 harg9 arg10 harg10 arg11 harg11 arg12 harg12 arg13 harg13 hc0 (w4 x0) E x2 rz rz rz)) $$ [HI] | (iclear Hk; fail "hello")
  · iexact HI
  iintro %_ HI
  ihave HI2 : invA c arg3 harg3 arg8 arg13 (w4 x0) x2 rz rz rz (Scf.trips k0_t1_loop.lb k0_t1_loop.ub k0_t1_loop.st) $$ [HI]
  · iexact HI
  icases HI2 with ⟨H3, ⟨%g8, %hg8, H8⟩, ⟨%g13, %hf13, H13⟩⟩
  have hf8 : arg8.view.read (Elt F) g8 = wqV (w4 x0) x2 := by
    funext y; exact hg8 y (by rw [trips14]; exact (y 0).isLt)
  rw [trips14] at hf13
  obtain rfl := harg8.eq_unread hf8; obtain rfl := harg13.eq_unread hf13
  sl_exec (disch := first | sl_exact hc0 | sl_exact hc1)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H10]
  · iexists _; isplitr; swap; · iexact H10
    ipureintro; exact hf10
  isplitl [H12]
  · iexists _; isplitr; swap; · iexact H12
    ipureintro; exact hf12
  · iexists _; isplitr; swap; · iexact H13
    ipureintro
    rw [read_rows02 _ _ rz (fold1 x2 rz 14) rz _ _ hf13]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl

end Cert.FwdIdeal.Hand

end
-- ==== Proof.FwdFrame.lean ====
module

public import proofs.«01_k».proof.Proof.FwdBody
public import Idealize.ShloMosaic.Lib.Pipeline.TableIdle

/-! The forward kernel's run over its whole grid: what every buffer holds before and after each point (`dats`), the body's
triple at every point from the runs of FwdBody.lean, and from them the launch: the kernel terminates, leaves its arguments
unchanged, and ends with every result array at the contents named in `dats`. -/

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body in closed form -/

/-- The first condition holds at the first point only. -/
theorem hcond0_0 : ∀ t : Fin cfg0.N, k0_cond1 (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]; word_cmp : ∀ t : Fin grid0.N, k0_cond1 (grid0.coords t) = 1#1 ↔ t.val % 32 = 0)
/-- The second condition holds at the last point only. -/
theorem hcond0_1 : ∀ t : Fin cfg0.N, k0_cond2 (grid0.coords t) = 1#1 ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [k0_cond2, e0]; word_cmp : ∀ t : Fin grid0.N, k0_cond2 (grid0.coords t) = 1#1 ↔ t.val % 32 = 31)

/-! ## The buffers at a point -/

/-- The buffer of window 0 at a point. -/
abbrev ms0_0 (t : Fin cfg0.N) := win0_0.stage (cfg0.slots t 0)
/-- The buffer of window 1 at a point. -/
abbrev ms0_1 (t : Fin cfg0.N) := win0_1.stage (cfg0.slots t 1)
/-- The buffer of window 2 at a point. -/
abbrev ms0_2 (t : Fin cfg0.N) := win0_2.stage (cfg0.slots t 2)
/-- The buffer of window 3 at a point. -/
abbrev ms0_3 (t : Fin cfg0.N) := win0_3.stage (cfg0.slots t 3)
/-- The buffer of window 4 at a point. -/
abbrev ms0_4 (t : Fin cfg0.N) := win0_4.stage (cfg0.slots t 4)
/-- The buffer of window 5 at a point. -/
abbrev ms0_5 (t : Fin cfg0.N) := win0_5.stage (cfg0.slots t 5)
/-- The buffer of window 6 at a point. -/
abbrev ms0_6 (t : Fin cfg0.N) := win0_6.stage (cfg0.slots t 6)
/-- The buffer of window 7 at a point. -/
abbrev ms0_7 (t : Fin cfg0.N) := win0_7.stage (cfg0.slots t 7)
/-- The buffer of window 8 at a point. -/
abbrev ms0_8 (t : Fin cfg0.N) := win0_8.stage (cfg0.slots t 8)
/-- The buffer of window 9 at a point. -/
abbrev ms0_9 (t : Fin cfg0.N) := win0_9.stage (cfg0.slots t 9)
/-- The buffer of window 10 at a point. -/
abbrev ms0_10 (t : Fin cfg0.N) := win0_10.stage (cfg0.slots t 10)

/-- The scratch buffers. -/
abbrev scM0_0 : Memref sig .tc .smem S8 .f32 := Memref.whole cc0_scratch0
/-- The scratch buffer of the three running maxima. -/
abbrev scM0_1 : Memref sig .tc .vmem S3x16x128 .bf16 := Memref.whole cc0_scratch1

/-- The invariant the launch hands over, the scratch buffers as memrefs. -/
theorem PhiA0_eq (c : Dev nD) :
    (Pipeline.ΦA spec0 c : sProp 𝕄)
      = iprop(iprop((∃ d, owns (c : Thread nD τ) scM0_1 fullShare d) ∗ (∃ d, owns (c : Thread nD τ) scM0_0 fullShare d)) ∗ (∃ r, prngReg c r)) := by
  unfold Pipeline.ΦA; rw [scopedRest0_eq]; simp only [scM0_0, scM0_1, owns_whole]; try rfl

/-- The first point. -/
abbrev t0 : Fin cfg0.N := ⟨0, by rw [show cfg0.N = 32 from N_0]; omega⟩

/-- The history and the weight are one block each: the same at every point. -/
theorem iblk0_const (c : Dev nD) (t : Fin cfg0.N) : iblk m c 0 t = iblk m c 0 t0 := rfl
/-- The weight is one block, the same at every point. -/
theorem iblk2_const (c : Dev nD) (t : Fin cfg0.N) : iblk m c 2 t = iblk m c 2 t0 := rfl

/-- The history, the weight, and the quantised weight. -/
def hB (c : Dev nD) : Vec F S3x16 .f32 := iblk m c 0 t0
/-- The weight. -/
def wB (c : Dev nD) : Vec F S1792x4352 .bf16 := iblk m c 2 t0
/-- The quantised weight. -/
def wqB (c : Dev nD) : Vec F S1792x4352 .fp8e4m3 := wqV (w4 (hB m c)) (wB m c)
/-- The blocks of the activation and of the gradient at a point. -/
def xB (c : Dev nD) (t : Fin cfg0.N) : Vec F S512x4352 .bf16 := iblk m c 1 t
/-- The gradient's block at a point. -/
def dyB (c : Dev nD) (t : Fin cfg0.N) : Vec F S512x1792 .bf16 := iblk m c 3 t

/-- The running maximum of the activation's magnitudes before a point, -/
def acc0 (c : Dev nD) : (n : ℕ) → n ≤ cfg0.N → Vec F S1x16x128 .bf16
  | 0, _ => rz
  | n + 1, h => step0 (acc0 c n (Nat.le_of_succ_le h)) (xB m c ⟨n, h⟩)
/-- and that of the gradient's. -/
def acc2 (c : Dev nD) : (n : ℕ) → n ≤ cfg0.N → Vec F S1x16x128 .bf16
  | 0, _ => rz
  | n + 1, h => step2 (acc2 c n (Nat.le_of_succ_le h)) (dyB m c ⟨n, h⟩)
/-- The maximum of the weight's. -/
def acc1 (c : Dev nD) : Vec F S1x16x128 .bf16 := fold1 (wB m c) rz 14

/-- The body's invariant before a point: the scratch holds anything before the first; afterwards the scale words and the
    three running maxima. -/
def PhiS (c : Dev nD) : (n : ℕ) → n ≤ cfg0.N → sProp 𝕄
  | 0, _ => Pipeline.ΦA spec0 c
  | n + 1, hn => iprop(iprop(owns (c : Thread nD τ) scM0_1 fullShare (rows3 (acc0 m c (n + 1) hn) (acc1 m c) (acc2 m c (n + 1) hn))
      ∗ owns (c : Thread nD τ) scM0_0 fullShare (scV (hB m c))) ∗ (∃ r, prngReg c r))

/-- Before the first point the invariant is what the launch hands over. -/
theorem PhiS_zero (c : Dev nD) (n : ℕ) (h : n ≤ cfg0.N) (hz : n = 0) : PhiS m c n h = Pipeline.ΦA spec0 c := by
  subst hz; rfl
/-- After a point it names the running maxima and the scale words. -/
theorem PhiS_succ (c : Dev nD) (n : ℕ) (hn : n < cfg0.N) :
    PhiS m c (n + 1) hn = iprop(iprop(owns (c : Thread nD τ) scM0_1 fullShare (rows3 (acc0 m c (n + 1) hn) (acc1 m c) (acc2 m c (n + 1) hn))
      ∗ owns (c : Thread nD τ) scM0_0 fullShare (scV (hB m c))) ∗ (∃ r, prngReg c r)) := rfl
/-- The same, at a point that is not the first. -/
theorem PhiS_pos (c : Dev nD) (n : ℕ) (h : n ≤ cfg0.N) (hz : n ≠ 0) :
    PhiS m c n h = iprop(iprop(owns (c : Thread nD τ) scM0_1 fullShare (rows3 (acc0 m c n h) (acc1 m c) (acc2 m c n h))
      ∗ owns (c : Thread nD τ) scM0_0 fullShare (scV (hB m c))) ∗ (∃ r, prngReg c r)) := by
  cases n with
  | zero => exact absurd rfl hz
  | succ n => rfl

/-- The input's running maxima start at zero. -/
theorem acc0_zero (c : Dev nD) (n : ℕ) (h : n ≤ cfg0.N) (hz : n = 0) : acc0 m c n h = rz := by subst hz; rfl
/-- The gradient's running maxima start at zero. -/
theorem acc2_zero (c : Dev nD) (n : ℕ) (h : n ≤ cfg0.N) (hz : n = 0) : acc2 m c n h = rz := by subst hz; rfl
/-- A point folds its block of the input into the running maxima. -/
theorem acc0_succ (c : Dev nD) (t : Fin cfg0.N) : acc0 m c (t.val + 1) t.isLt = step0 (acc0 m c t.val (Nat.le_of_lt t.isLt)) (xB m c t) := rfl
/-- A point folds its block of the gradient into the running maxima. -/
theorem acc2_succ (c : Dev nD) (t : Fin cfg0.N) : acc2 m c (t.val + 1) t.isLt = step2 (acc2 m c t.val (Nat.le_of_lt t.isLt)) (dyB m c t) := rfl

/-! ## The pipeline's proof data -/

/-- The arrays as the region finds them; after the body at a point each input's buffer at its block and each result's at
    what the body computes there (the new history at the last point). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV (scV (hB m c)) (xB m c t) (wqB m c)
    | ⟨5, _⟩ => dxV (scV (hB m c)) (dyB m c t) (wqB m c)
    | ⟨6, _⟩ => xqV (scV (hB m c)) (xB m c t)
    | ⟨7, _⟩ => wqB m c
    | ⟨8, _⟩ => dyqV (scV (hB m c)) (dyB m c t)
    | ⟨9, _⟩ => sV (hB m c)
    | ⟨10, _⟩ => newhV (hB m c) (acc0 m c (t.val + 1) t.isLt) (acc1 m c) (acc2 m c (t.val + 1) t.isLt)
  Φ t := PhiS m c t.val (Nat.le_of_lt_succ t.isLt)
  q _ := fullShare
  owed _ := 0

/-- Each window starts from its array as the region finds it. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- Window 1 after the body at a point. -/
theorem after0_1 (c : Dev nD) (t : Fin cfg0.N) : (dats m 0 c).after 1 t = iblk m c 1 t := by dsimp only [dats]
/-- Window 2 after the body at a point. -/
theorem after0_2 (c : Dev nD) (t : Fin cfg0.N) : (dats m 0 c).after 2 t = iblk m c 2 t := by dsimp only [dats]
/-- Window 3 after the body at a point. -/
theorem after0_3 (c : Dev nD) (t : Fin cfg0.N) : (dats m 0 c).after 3 t = iblk m c 3 t := by dsimp only [dats]
/-- Window 4 after the body at a point. -/
theorem after0_4 (c : Dev nD) (t : Fin cfg0.N) : (dats m 0 c).after 4 t = yV (scV (hB m c)) (xB m c t) (wqB m c) := by dsimp only [dats]
/-- Window 5 after the body at a point. -/
theorem after0_5 (c : Dev nD) (t : Fin cfg0.N) : (dats m 0 c).after 5 t = dxV (scV (hB m c)) (dyB m c t) (wqB m c) := by dsimp only [dats]
/-- Window 6 after the body at a point. -/
theorem after0_6 (c : Dev nD) (t : Fin cfg0.N) : (dats m 0 c).after 6 t = xqV (scV (hB m c)) (xB m c t) := by dsimp only [dats]
/-- Window 7 after the body at a point. -/
theorem after0_7 (c : Dev nD) (t : Fin cfg0.N) : (dats m 0 c).after 7 t = wqB m c := by dsimp only [dats]
/-- Window 8 after the body at a point. -/
theorem after0_8 (c : Dev nD) (t : Fin cfg0.N) : (dats m 0 c).after 8 t = dyqV (scV (hB m c)) (dyB m c t) := by dsimp only [dats]
/-- Window 9 after the body at a point. -/
theorem after0_9 (c : Dev nD) (t : Fin cfg0.N) : (dats m 0 c).after 9 t = sV (hB m c) := by dsimp only [dats]
/-- Window 10 after the body at a point. -/
theorem after0_10 (c : Dev nD) (t : Fin cfg0.N) : (dats m 0 c).after 10 t = newhV (hB m c) (acc0 m c (t.val + 1) t.isLt) (acc1 m c) (acc2 m c (t.val + 1) t.isLt) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
/-- Window 1 before the body at a point. -/
theorem before0_1 (c : Dev nD) (t : Fin cfg0.N) (d) : (dats m 0 c).before 1 t d = iblk m c 1 t :=
  before0_1_of m (dats m 0 c) (A_eq m c 1) (after0_1 m c) t d
/-- Window 2 before the body at a point. -/
theorem before0_2 (c : Dev nD) (t : Fin cfg0.N) (d) : (dats m 0 c).before 2 t d = iblk m c 2 t :=
  before0_2_of m (dats m 0 c) (A_eq m c 2) (after0_2 m c) t d
/-- Window 3 before the body at a point. -/
theorem before0_3 (c : Dev nD) (t : Fin cfg0.N) (d) : (dats m 0 c).before 3 t d = iblk m c 3 t :=
  before0_3_of m (dats m 0 c) (A_eq m c 3) (after0_3 m c) t d

/-- A window stored at the first point only is idle at every other, -/
theorem idle7 (t : Fin cfg0.N) (h : t.val % 32 ≠ 0) : cfg0.idle 7 (grid0.coords t) = true := by
  show (!(k0_cond1 (grid0.coords t) == 1#1)) = true
  rw [beq_eq_false_iff_ne.mpr fun e => h ((hcond0_0 t).mp e)]; rfl
/-- The scales are written at the first point only. -/
theorem idle9 (t : Fin cfg0.N) (h : t.val % 32 ≠ 0) : cfg0.idle 9 (grid0.coords t) = true := idle7 t h
/-- and live there; -/
theorem live7 (t : Fin cfg0.N) (h : t.val % 32 = 0) : cfg0.idle 7 (grid0.coords t) = false := by
  show (!(k0_cond1 (grid0.coords t) == 1#1)) = false
  rw [(hcond0_0 t).mpr h]; rfl
/-- At the first point the scales are written. -/
theorem live9 (t : Fin cfg0.N) (h : t.val % 32 = 0) : cfg0.idle 9 (grid0.coords t) = false := live7 t h
/-- the one stored at the last point only likewise. -/
theorem idle10 (t : Fin cfg0.N) (h : t.val % 32 ≠ 31) : cfg0.idle 10 (grid0.coords t) = true := by
  show (!(k0_cond2 (grid0.coords t) == 1#1)) = true
  rw [beq_eq_false_iff_ne.mpr fun e => h ((hcond0_1 t).mp e)]; rfl
/-- At the last point the new history is written. -/
theorem live10 (t : Fin cfg0.N) (h : t.val % 32 = 31) : cfg0.idle 10 (grid0.coords t) = false := by
  show (!(k0_cond2 (grid0.coords t) == 1#1)) = false
  rw [(hcond0_1 t).mpr h]; rfl

/-- After the first point the buffers of the quantised weight and of the scales hold what the body stored there, -/
theorem fresh7 : ∀ n, n ≤ cfg0.N → cfg0.fresh 7 n = (decide (n = 0) || decide (n = 32)) :=
  cfg0.fresh_tab 7 (fun n => decide (n = 0) || decide (n = 32)) rfl fun t => by
    have hN : t.val < 32 := lt_of_lt_of_eq t.isLt (show cfg0.N = 32 from N_0)
    by_cases h : t.val = 0
    · rw [live7 t (by omega), show (cfg0.win 7).flush t = false from Bool.eq_false_iff.mpr fun h' => by have := (flush0_7 t).mp h'; omega, h]; rfl
    · rw [idle7 t (by omega)]
      by_cases h' : t.val = 31
      · rw [(flush0_7 t).mpr (by omega), h']; rfl
      · rw [show (cfg0.win 7).flush t = false from Bool.eq_false_iff.mpr fun h'' => by have := (flush0_7 t).mp h''; omega, decide_eq_false h,
          decide_eq_false (show ¬ t.val + 1 = 0 by omega), decide_eq_false (show ¬ t.val + 1 = 32 by omega), decide_eq_false (show ¬ t.val = 32 by omega)]; rfl
/-- The scales buffer is fresh before the first point and after the last only. -/
theorem fresh9 : ∀ n, n ≤ cfg0.N → cfg0.fresh 9 n = (decide (n = 0) || decide (n = 32)) :=
  cfg0.fresh_tab 9 (fun n => decide (n = 0) || decide (n = 32)) rfl fun t => by
    have hN : t.val < 32 := lt_of_lt_of_eq t.isLt (show cfg0.N = 32 from N_0)
    by_cases h : t.val = 0
    · rw [live9 t (by omega), show (cfg0.win 9).flush t = false from Bool.eq_false_iff.mpr fun h' => by have := (flush0_9 t).mp h'; omega, h]; rfl
    · rw [idle9 t (by omega)]
      by_cases h' : t.val = 31
      · rw [(flush0_9 t).mpr (by omega), h']; rfl
      · rw [show (cfg0.win 9).flush t = false from Bool.eq_false_iff.mpr fun h'' => by have := (flush0_9 t).mp h''; omega, decide_eq_false h,
          decide_eq_false (show ¬ t.val + 1 = 0 by omega), decide_eq_false (show ¬ t.val + 1 = 32 by omega), decide_eq_false (show ¬ t.val = 32 by omega)]; rfl
/-- so at every later point the body finds that. -/
theorem before0_7 (c : Dev nD) (t : Fin cfg0.N) (h : t.val ≠ 0) (d) : (dats m 0 c).before 7 t d = wqB m c := by
  have hN : t.val < 32 := lt_of_lt_of_eq t.isLt (show cfg0.N = 32 from N_0)
  rw [Pipeline.Dat.before_out_traj (dats m 0 c) 7 rfl (fun _ _ => rfl) (fun t _ _ _ => by rw [after0_7, after0_7]) t.val t rfl d,
    fresh7 t.val (Nat.le_of_lt t.isLt), decide_eq_false h, decide_eq_false (show ¬ t.val = 32 by omega), after0_7]
  rfl
/-- Window 9 before the body at a point. -/
theorem before0_9 (c : Dev nD) (t : Fin cfg0.N) (h : t.val ≠ 0) (d) : (dats m 0 c).before 9 t d = sV (hB m c) := by
  have hN : t.val < 32 := lt_of_lt_of_eq t.isLt (show cfg0.N = 32 from N_0)
  rw [Pipeline.Dat.before_out_traj (dats m 0 c) 9 rfl (fun _ _ => rfl) (fun t _ _ _ => by rw [after0_9, after0_9]) t.val t rfl d,
    fresh9 t.val (Nat.le_of_lt t.isLt), decide_eq_false h, decide_eq_false (show ¬ t.val = 32 by omega), after0_9]
  rfl

/-! ## The body obligation, at a generic point -/

/-- What the body must hand back of a window live at a point, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- of one idle there and not written back, -/
theorem leaves_idle (c : Dev nD) (w : Fin cfg0.W) (t : Fin cfg0.N) (h : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact; rw [h, hf]
/-- and of one idle there and written back. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the closed forms say which case the point is in, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [acc0_succ, acc2_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 8 t rfl, after0_8]
  rw [PhiS_castSucc m c t]
  by_cases h0 : t.val = 0
  · have hc0 : k0_cond1 (grid0.coords t) = 1#1 := (hcond0_0 t).mpr (by omega)
    have hc1 : ¬ k0_cond2 (grid0.coords t) = 1#1 := fun h => by have := (hcond0_1 t).mp h; omega
    rw [leaves_live m c 7 t (live7 t (by omega)), leaves_live m c 9 t (live9 t (by omega)),
      leaves_idle m c 10 t (idle10 t (by omega)) (Bool.eq_false_iff.mpr fun h' => by have := (flush0_10 t).mp h'; omega),
      after0_7, after0_9, PhiS_zero m c _ _ h0, PhiA0_eq, acc0_zero m c _ _ h0, acc2_zero m c _ _ h0]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ _ _ _ _ hc0 hc1 (hB m c) (xB m c t) (wB m c) (dyB m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · have hc0 : ¬ k0_cond1 (grid0.coords t) = 1#1 := fun h => by have := (hcond0_0 t).mp h; omega
    simp only [before0_7 m c t h0, before0_9 m c t h0]
    rw [PhiS_pos m c _ _ h0]
    by_cases h1 : t.val = 31
    · have hc1 : k0_cond2 (grid0.coords t) = 1#1 := (hcond0_1 t).mpr (by omega)
      rw [leaves_flush m c 7 t (idle7 t (by omega)) ((flush0_7 t).mpr (by omega)), leaves_flush m c 9 t (idle9 t (by omega)) ((flush0_9 t).mpr (by omega)),
        leaves_live m c 10 t (live10 t (by omega)), after0_7, after0_9, after0_10, acc0_succ, acc2_succ]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_C c (grid0.coords t) _ _ _ _ _ _ _ _ _ _ _ _ _ _ _ _ _ _ _ _ _ _ _ _ _ _ hc0 hc1 (hB m c) (xB m c t) (dyB m c t) (wqB m c) (scV (hB m c)) (acc0 m c t.val (Nat.le_of_lt t.isLt)) (acc1 m c) (acc2 m c t.val (Nat.le_of_lt t.isLt)) Set.univ _)
      isplitl [H0]; · iexact H0
      isplitl [H10]; · iexists _; iexact H10
      isplitl [H1]; · iexact H1
      isplitl [H3]; · iexact H3
      isplitl [H4]; · iexists _; iexact H4
      isplitl [H5]; · iexists _; iexact H5
      isplitl [H6]; · iexists _; iexact H6
      isplitl [H7]; · iexact H7
      isplitl [H8]; · iexists _; iexact H8
      isplitl [HS0]; · iexact HS0
      isplitl [HS1]; · iexact HS1
      iintro ⟨H0, H10, H1, H3, H4, H5, H6, H7, H8, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬ k0_cond2 (grid0.coords t) = 1#1 := fun h => by have := (hcond0_1 t).mp h; omega
      rw [leaves_idle m c 7 t (idle7 t (by omega)) (Bool.eq_false_iff.mpr fun h' => by have := (flush0_7 t).mp h'; omega),
        leaves_idle m c 9 t (idle9 t (by omega)) (Bool.eq_false_iff.mpr fun h' => by have := (flush0_9 t).mp h'; omega),
        leaves_idle m c 10 t (idle10 t (by omega)) (Bool.eq_false_iff.mpr fun h' => by have := (flush0_10 t).mp h'; omega)]
      simp only [before0_7 m c t h0, before0_9 m c t h0]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_B c (grid0.coords t) _ _ _ _ _ _ _ _ _ _ _ _ _ _ _ _ _ _ _ _ _ _ _ _ _ _ hc0 hc1 (xB m c t) (dyB m c t) (wqB m c) (scV (hB m c)) (acc0 m c t.val (Nat.le_of_lt t.isLt)) (acc1 m c) (acc2 m c t.val (Nat.le_of_lt t.isLt)) Set.univ _)
      isplitl [H1]; · iexact H1
      isplitl [H3]; · iexact H3
      isplitl [H4]; · iexists _; iexact H4
      isplitl [H5]; · iexists _; iexact H5
      isplitl [H6]; · iexists _; iexact H6
      isplitl [H7]; · iexact H7
      isplitl [H8]; · iexists _; iexact H8
      isplitl [HS0]; · iexact HS0
      isplitl [HS1]; · iexact HS1
      iintro ⟨H1, H3, H4, H5, H6, H7, H8, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      isplitl [H9]; · iexists d9; iexact H9
      iexists d10; iexact H10

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after any point but the first the invariant gives it back, -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS1, HS0⟩, Hg⟩
  isplitl [HS1 HS0]
  · isplitl [HS1]
    · iexists _; iexact HS1
    iexists _; iexact HS0
  iexact Hg

/-- in particular after the last. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch: the run's final states, and every semaphore counter at zero there. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair run terminates with the result arrays at what the proof data name. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FwdIdeal.Hand

end
-- ==== Proof.FwdBitsBody.lean ====
module

public import proofs.«01_k».proof.Proof.Gen.Fwd.Skeleton
public import proofs.«01_k».proof.Proof.Gen.Fwd.Frame
public import Idealize.ShloMosaic.Lib.WritesUnit
public import Idealize.ShloMosaic.Lib.Exec
public import Idealize.ShloMosaic.Lib.Pipeline.ValueKit

/-! What the forward kernel's body does at one grid point, as runs over the contents of its buffers: `run_A` at the first
point (scales made, the weight quantised), `run_B` at a point in the middle, `run_C` at the last one (the new history). -/

@[expose] public section

set_option maxRecDepth 16384

noncomputable section

namespace Cert.Fwd.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Fwd.Gen

variable {F : FTy → Type} [FloatOps F]

local notation "𝕄" => MT nD τ sig Unit (Elt F) ℕ (UR sig nD τ) ℕ

variable (c : Dev nD) (i : grid0.Coords) (arg1 : Memref sig .tc .vmem S3x16 .f32) (harg1 : arg1.IsWhole) (arg2 : Memref sig .tc .vmem S512x4352 .bf16) (harg2 : arg2.IsWhole) (arg3 : Memref sig .tc .vmem S1792x4352 .bf16) (harg3 : arg3.IsWhole) (arg4 : Memref sig .tc .vmem S512x1792 .bf16) (harg4 : arg4.IsWhole) (arg5 : Memref sig .tc .vmem S512x1792 .bf16) (harg5 : arg5.IsWhole) (arg6 : Memref sig .tc .vmem S512x4352 .bf16) (harg6 : arg6.IsWhole) (arg7 : Memref sig .tc .vmem S512x4352 .fp8e4m3) (harg7 : arg7.IsWhole) (arg8 : Memref sig .tc .vmem S1792x4352 .fp8e4m3) (harg8 : arg8.IsWhole) (arg9 : Memref sig .tc .vmem S512x1792 .fp8e5m2) (harg9 : arg9.IsWhole) (arg10 : Memref sig .tc .smem S3 .f32) (harg10 : arg10.IsWhole) (arg11 : Memref sig .tc .vmem S3x16 .f32) (harg11 : arg11.IsWhole) (arg12 : Memref sig .tc .smem S8 .f32) (harg12 : arg12.IsWhole) (arg13 : Memref sig .tc .vmem S3x16x128 .bf16) (harg13 : arg13.IsWhole)

/-! ## Reading back what was written -/

omit [FloatOps F] in
/-- A buffer whose newest piece is the whole of it reads that piece's payload. -/
theorem read_whole {κ : Kind} {sp : Space} {s : Shape} {e : EltTy} (v : View sig κ sp s e) (f : v.ty.Contents (Elt F))
    {off : Fin s.rank → ℕ} (h0 : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y rfl fun a => by rw [h0 a, Nat.zero_add]

/-- Three rows stacked into the accumulator's shape. -/
def rows3 (r0 r1 r2 : Vec F S1x16x128 .bf16) : Vec F S3x16x128 .bf16 := fun y =>
  if (y 0).val = 0 then r0 (ix3 0 (y 1) (y 2)) else if (y 0).val = 1 then r1 (ix3 0 (y 1) (y 2)) else r2 (ix3 0 (y 1) (y 2))

omit [FloatOps F] in
/-- The stack at its first row. -/
theorem rows3_0 (r0 r1 r2 : Vec F S1x16x128 .bf16) (y : S3x16x128.Idx) (h : (y 0).val = 0) :
    rows3 r0 r1 r2 y = r0 (ix3 0 (y 1) (y 2)) := if_pos h
omit [FloatOps F] in
/-- The stack at its second row. -/
theorem rows3_1 (r0 r1 r2 : Vec F S1x16x128 .bf16) (y : S3x16x128.Idx) (h : (y 0).val = 1) :
    rows3 r0 r1 r2 y = r1 (ix3 0 (y 1) (y 2)) := (if_neg (by omega)).trans (if_pos h)
omit [FloatOps F] in
/-- The stack at its third row. -/
theorem rows3_2 (r0 r1 r2 : Vec F S1x16x128 .bf16) (y : S3x16x128.Idx) (h : (y 0).val = 2) :
    rows3 r0 r1 r2 y = r2 (ix3 0 (y 1) (y 2)) := (if_neg (by omega)).trans (if_neg (by omega))

omit [FloatOps F] in
/-- The first row of the stack, loaded. -/
theorem ld_rows3_0 (r0 r1 r2 : Vec F S1x16x128 .bf16) (inb) :
    View.ld (rows3 r0 r1 r2) (Rect.unit ![0, 0, 0] ![1, 16, 128] inb) = r0 := by
  funext x
  have h0 : (x 0).val = 0 := by have := (x 0).isLt; exact Nat.lt_one_iff.mp this
  refine (rows3_0 r0 r1 r2 _ (show 0 + 1 * (x 0).val = 0 by omega)).trans (congrArg r0 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- The second row of the stack, loaded. -/
theorem ld_rows3_1 (r0 r1 r2 : Vec F S1x16x128 .bf16) (inb) :
    View.ld (rows3 r0 r1 r2) (Rect.unit ![1, 0, 0] ![1, 16, 128] inb) = r1 := by
  funext x
  have h0 : (x 0).val = 0 := by have := (x 0).isLt; exact Nat.lt_one_iff.mp this
  refine (rows3_1 r0 r1 r2 _ (show 1 + 1 * (x 0).val = 1 by omega)).trans (congrArg r1 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- The third row of the stack, loaded. -/
theorem ld_rows3_2 (r0 r1 r2 : Vec F S1x16x128 .bf16) (inb) :
    View.ld (rows3 r0 r1 r2) (Rect.unit ![2, 0, 0] ![1, 16, 128] inb) = r2 := by
  funext x
  have h0 : (x 0).val = 0 := by have := (x 0).isLt; exact Nat.lt_one_iff.mp this
  refine (rows3_2 r0 r1 r2 _ (show 2 + 1 * (x 0).val = 2 by omega)).trans (congrArg r2 ?_)
  funext a
  apply Fin.ext
  match a with
  | ⟨0, _⟩ => exact h0.symm
  | ⟨1, _⟩ => show 0 + 1 * (x 1).val = (x 1).val; omega
  | ⟨2, _⟩ => show 0 + 1 * (x 2).val = (x 2).val; omega

omit [FloatOps F] in
/-- A store of the first and of the third row over a stack leaves the stack with those rows replaced. -/
theorem read_rows02 {κ : Kind} {sp : Space} (v : View sig κ sp S3x16x128 .bf16) (f : v.ty.Contents (Elt F))
    (r0 r1 r2 s0 s2 : Vec F S1x16x128 .bf16) (hf : v.read (Elt F) f = rows3 r0 r1 r2) (inb2 inb0) :
    v.read (Elt F) (v.writes (Elt F) f [⟨Rect.unit ![2, 0, 0] S1x16x128.size inb2, s2⟩, ⟨Rect.unit ![0, 0, 0] S1x16x128.size inb0, s0⟩])
      = rows3 s0 r1 s2 := by
  funext y
  have hy : (y 0).val < 3 := (y 0).isLt
  by_cases h2 : (y 0).val = 2
  · rw [View.read_writes_cons_unit_of_mem v f inb2 s2 _ y (ix3 0 (y 1) (y 2)) rfl (fun a => by
      match a with
      | ⟨0, _⟩ => show (y 0).val = 2 + 0; omega
      | ⟨1, _⟩ => show (y 1).val = 0 + (y 1).val; omega
      | ⟨2, _⟩ => show (y 2).val = 0 + (y 2).val; omega)]
    exact (rows3_2 _ _ _ y h2).symm
  · rw [View.read_writes_cons_unit_of_not_mem v f inb2 s2 _ y rfl 0 (Or.inl (show (y 0).val < 2 by omega))]
    by_cases h0 : (y 0).val = 0
    · rw [View.read_writes_cons_unit_of_mem v f inb0 s0 _ y (ix3 0 (y 1) (y 2)) rfl (fun a => by
        match a with
        | ⟨0, _⟩ => show (y 0).val = 0 + 0; omega
        | ⟨1, _⟩ => show (y 1).val = 0 + (y 1).val; omega
        | ⟨2, _⟩ => show (y 2).val = 0 + (y 2).val; omega)]
      exact (rows3_0 _ _ _ y h0).symm
    · rw [View.read_writes_cons_unit_of_not_mem v f inb0 s0 _ y rfl 0 (Or.inr (show 0 + 1 ≤ (y 0).val by omega))]
      show v.read (Elt F) f y = _
      rw [hf, rows3_1 _ _ _ y (by omega), rows3_1 _ _ _ y (by omega)]

omit [FloatOps F] in
/-- A store of the second row over a stack leaves the stack with that row replaced. -/
theorem read_rows1 {κ : Kind} {sp : Space} (v : View sig κ sp S3x16x128 .bf16) (f : v.ty.Contents (Elt F))
    (r0 r1 r2 s1 : Vec F S1x16x128 .bf16) (hf : v.read (Elt F) f = rows3 r0 r1 r2) (inb1) :
    v.read (Elt F) (v.writes (Elt F) f [⟨Rect.unit ![1, 0, 0] S1x16x128.size inb1, s1⟩]) = rows3 r0 s1 r2 := by
  funext y
  have hy : (y 0).val < 3 := (y 0).isLt
  by_cases h1 : (y 0).val = 1
  · rw [View.read_writes_cons_unit_of_mem v f inb1 s1 _ y (ix3 0 (y 1) (y 2)) rfl (fun a => by
      match a with
      | ⟨0, _⟩ => show (y 0).val = 1 + 0; omega
      | ⟨1, _⟩ => show (y 1).val = 0 + (y 1).val; omega
      | ⟨2, _⟩ => show (y 2).val = 0 + (y 2).val; omega)]
    exact (rows3_1 _ _ _ y h1).symm
  · rw [View.read_writes_cons_unit_of_not_mem v f inb1 s1 _ y rfl 0 (by
      by_cases h0 : (y 0).val = 0
      · exact Or.inl (show (y 0).val < 1 by omega)
      · exact Or.inr (show 1 + 1 ≤ (y 0).val by omega))]
    show v.read (Elt F) f y = _
    rw [hf]
    by_cases h0 : (y 0).val = 0
    · rw [rows3_0 _ _ _ y h0, rows3_0 _ _ _ y h0]
    · rw [rows3_2 _ _ _ y (by omega), rows3_2 _ _ _ y (by omega)]

omit [FloatOps F] in
/-- A word of the eight-word scratch. -/
theorem ld_word8 (sc : Vec F S8 .f32) (k : ℕ) (hk : k < 8) (h) (h') :
    View.ld sc (Rect.unit ![k] S1.size h) (Shape.Idx.first h') = sc (ix1 ⟨k, hk⟩) := by
  unfold View.ld
  congr 1
  funext a
  obtain rfl : a = 0 := Subsingleton.elim _ _
  apply Fin.ext
  show k + 1 * _ = k
  simp [Shape.Idx.first]

/-! ## What one point computes -/

/-- The row of running maxima of `|x|` after a block `x`. -/
def step0 (r : Vec F S1x16x128 .bf16) (x : Vec F S512x4352 .bf16) : Vec F S1x16x128 .bf16 :=
  k0_pay64 (k0_pay58 r) (k0_pay59 x) (k0_pay62 (k0_pay59 x) (k0_pay60 x) (k0_pay61 x)) (k0_pay63 (k0_pay59 x))
/-- The row of running maxima of `|dy|` after a block `dy`. -/
def step2 (r : Vec F S1x16x128 .bf16) (dy : Vec F S512x1792 .bf16) : Vec F S1x16x128 .bf16 := k0_pay65 (k0_pay55 dy) r
/-- The row of running maxima of `|w|` after a chunk of 128 rows of the weight. -/
def step1 (r : Vec F S1x16x128 .bf16) (w : Vec F S128x4352 .bf16) : Vec F S1x16x128 .bf16 :=
  k0_pay53 (k0_pay8 r) (k0_pay9 w) (k0_pay10 w)
/-- The block's codes of `x`. -/
def xqV (sc : Vec F S8 .f32) (x : Vec F S512x4352 .bf16) : Vec F S512x4352 .fp8e4m3 := k0_pay56 (sc (ix1 3)) x
/-- The block's codes of `dy`. -/
def dyqV (sc : Vec F S8 .f32) (dy : Vec F S512x1792 .bf16) : Vec F S512x1792 .fp8e5m2 := k0_pay57 (sc (ix1 5)) dy
/-- The block of `y`. -/
def yV (sc : Vec F S8 .f32) (x : Vec F S512x4352 .bf16) (wq : Vec F S1792x4352 .fp8e4m3) : Vec F S512x1792 .bf16 :=
  k0_pay1 (xqV sc x) wq (sc (ix1 6))
/-- The block of `dx`. -/
def dxV (sc : Vec F S8 .f32) (dy : Vec F S512x1792 .bf16) (wq : Vec F S1792x4352 .fp8e4m3) : Vec F S512x4352 .bf16 :=
  k0_pay2 (dyqV sc dy) wq (sc (ix1 7))

/-- The new history: the old one moved by one column, and in the first column the largest of each row of maxima. -/
def newhV (h : Vec F S3x16 .f32) (r0 r1 r2 : Vec F S1x16x128 .bf16) : Vec F S3x16 .f32 := fun y =>
  if hy : (y 1).val = 0 then
    (if (y 0).val = 0 then k0_pay4 r0 else if (y 0).val = 1 then k0_pay5 r1 else k0_pay6 r2) (ix2 0 0)
  else k0_pay3 h (ix2 (y 0) ⟨(y 1).val - 1, by have : (y 1).val < 16 := (y 1).isLt; omega⟩)

/-- Four pieces of the history: its last fifteen columns, and the three words of its first column. -/
theorem read_newh {κ : Kind} {sp : Space} (v : View sig κ sp S3x16 .f32) (f : v.ty.Contents (Elt F))
    (h : Vec F S3x16 .f32) (r0 r1 r2 : Vec F S1x16x128 .bf16) (inb6 inb5 inb4 inb3) :
    v.read (Elt F) (v.writes (Elt F) f [⟨Rect.unit ![2, 0] S1x1.size inb6, k0_pay6 r2⟩, ⟨Rect.unit ![1, 0] S1x1.size inb5, k0_pay5 r1⟩,
      ⟨Rect.unit ![0, 0] S1x1.size inb4, k0_pay4 r0⟩, ⟨Rect.unit ![0, 1] S3x15.size inb3, k0_pay3 h⟩]) = newhV h r0 r1 r2 := by
  funext y
  have hy0 : (y 0).val < 3 := (y 0).isLt
  have hy1 : (y 1).val < 16 := (y 1).isLt
  by_cases h1 : (y 1).val = 0
  · have e : newhV h r0 r1 r2 y = (if (y 0).val = 0 then k0_pay4 r0 else if (y 0).val = 1 then k0_pay5 r1 else k0_pay6 r2) (ix2 0 0) := dif_pos h1
    rw [e]
    by_cases a2 : (y 0).val = 2
    · rw [View.read_writes_cons_unit_of_mem v f inb6 (k0_pay6 r2) _ y (ix2 0 0) rfl (fun a => by
        match a with
        | ⟨0, _⟩ => show (y 0).val = 2 + 0; omega
        | ⟨1, _⟩ => show (y 1).val = 0 + 0; omega), if_neg (by omega), if_neg (by omega)]
    · rw [View.read_writes_cons_unit_of_not_mem v f inb6 (k0_pay6 r2) _ y rfl 0 (Or.inl (show (y 0).val < 2 by omega))]
      by_cases a1 : (y 0).val = 1
      · rw [View.read_writes_cons_unit_of_mem v f inb5 (k0_pay5 r1) _ y (ix2 0 0) rfl (fun a => by
          match a with
          | ⟨0, _⟩ => show (y 0).val = 1 + 0; omega
          | ⟨1, _⟩ => show (y 1).val = 0 + 0; omega), if_neg (by omega), if_pos a1]
      · rw [View.read_writes_cons_unit_of_not_mem v f inb5 (k0_pay5 r1) _ y rfl 0 (Or.inl (show (y 0).val < 1 by omega)),
          View.read_writes_cons_unit_of_mem v f inb4 (k0_pay4 r0) _ y (ix2 0 0) rfl (fun a => by
          match a with
          | ⟨0, _⟩ => show (y 0).val = 0 + 0; omega
          | ⟨1, _⟩ => show (y 1).val = 0 + 0; omega), if_pos (by omega)]
  · have e : newhV h r0 r1 r2 y = k0_pay3 h (ix2 (y 0) ⟨(y 1).val - 1, by omega⟩) := dif_neg h1
    rw [e]
    rw [View.read_writes_cons_unit_of_not_mem v f inb6 (k0_pay6 r2) _ y rfl 1 (Or.inr (show 0 + 1 ≤ (y 1).val by omega)),
      View.read_writes_cons_unit_of_not_mem v f inb5 (k0_pay5 r1) _ y rfl 1 (Or.inr (show 0 + 1 ≤ (y 1).val by omega)),
      View.read_writes_cons_unit_of_not_mem v f inb4 (k0_pay4 r0) _ y rfl 1 (Or.inr (show 0 + 1 ≤ (y 1).val by omega)),
      View.read_writes_cons_unit_of_mem v f inb3 (k0_pay3 h) _ y (ix2 (y 0) ⟨(y 1).val - 1, by omega⟩) rfl (fun a => by
        match a with
        | ⟨0, _⟩ => show (y 0).val = 0 + (y 0).val; omega
        | ⟨1, _⟩ => show (y 1).val = 1 + ((y 1).val - 1); omega)]

omit [FloatOps F] in
/-- The third row read back from a store of the first and the third. -/
theorem readCov_rows02_2 {κ : Kind} {sp : Space} (v : View sig κ sp S3x16x128 .bf16) [∀ e, Nonempty (Elt F e)]
    (s0 s2 : Vec F S1x16x128 .bf16) (inb2 inb0 inb) :
    v.readCov [⟨Rect.unit ![2, 0, 0] ![1, 16, 128] inb2, s2⟩, ⟨Rect.unit ![0, 0, 0] ![1, 16, 128] inb0, s0⟩]
      (Rect.unit ![2, 0, 0] ![1, 16, 128] inb).toLoadRect = s2 := by
  funext x
  unfold View.readCov
  exact View.read_writes_cons_unit_of_mem v _ inb2 s2 _ _ x rfl fun a => by
    show ![2, 0, 0] a + 1 * (x a).val = _; omega

omit [FloatOps F] in
/-- The first row read back from a store of the first and the third. -/
theorem readCov_rows02_0 {κ : Kind} {sp : Space} (v : View sig κ sp S3x16x128 .bf16) [∀ e, Nonempty (Elt F e)]
    (s0 s2 : Vec F S1x16x128 .bf16) (inb2 inb0 inb) :
    v.readCov [⟨Rect.unit ![2, 0, 0] ![1, 16, 128] inb2, s2⟩, ⟨Rect.unit ![0, 0, 0] ![1, 16, 128] inb0, s0⟩]
      (Rect.unit ![0, 0, 0] ![1, 16, 128] inb).toLoadRect = s0 := by
  funext x
  unfold View.readCov
  have h0 : (x 0).val = 0 := by have := (x 0).isLt; exact Nat.lt_one_iff.mp this
  refine (View.read_writes_cons_unit_of_not_mem v _ inb2 s2 _ _ rfl 0 (Or.inl (show 0 + 1 * (x 0).val < 2 by omega))).trans ?_
  exact View.read_writes_cons_unit_of_mem v _ inb0 s0 _ _ x rfl fun a => by
    show ![0, 0, 0] a + 1 * (x a).val = _; omega

/-- The zero offset on two axes. -/
theorem z2 : (![0, 0] : Fin 2 → ℕ) = fun _ => 0 := by funext a; match a with | ⟨0, _⟩ => rfl | ⟨1, _⟩ => rfl
/-- Each of its entries is zero. -/
theorem z2a : ∀ a : Fin 2, (![0, 0] : Fin 2 → ℕ) a = 0 := fun a => congrFun z2 a

set_option maxHeartbeats 1000000 in
/-- A point that is neither the first nor the last: the block's codes and products are stored, the running maxima
    updated, the weight's codes and the scalars left as they were. -/
theorem run_B (hc0 : ¬ k0_cond1 i = 1#1) (hc1 : ¬ k0_cond2 i = 1#1)
    (x1 : Vec F S512x4352 .bf16) (x3 : Vec F S512x1792 .bf16)
    (wq : Vec F S1792x4352 .fp8e4m3) (sc : Vec F S8 .f32) (r0 r1 r2 : Vec F S1x16x128 .bf16) (E : Set ℕ) (K : PUnit → sProp 𝕄) :
    iprop(owns (c : Thread nD τ) arg2 fullShare x1 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ owns (c : Thread nD τ) arg8 fullShare wq
      ∗ (∃ d, owns (c : Thread nD τ) arg9 fullShare d)
      ∗ owns (c : Thread nD τ) arg12 fullShare sc ∗ owns (c : Thread nD τ) arg13 fullShare (rows3 r0 r1 r2)
      ∗ (iprop(owns (c : Thread nD τ) arg2 fullShare x1 ∗ owns (c : Thread nD τ) arg4 fullShare x3
        ∗ owns (c : Thread nD τ) arg5 fullShare (yV sc x1 wq) ∗ owns (c : Thread nD τ) arg6 fullShare (dxV sc x3 wq)
        ∗ owns (c : Thread nD τ) arg7 fullShare (xqV sc x1) ∗ owns (c : Thread nD τ) arg8 fullShare wq
        ∗ owns (c : Thread nD τ) arg9 fullShare (dyqV sc x3)
        ∗ owns (c : Thread nD τ) arg12 fullShare sc
        ∗ owns (c : Thread nD τ) arg13 fullShare (rows3 (step0 r0 x1) r1 (step2 r2 x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f2, %hf2, H2⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f12, %hf12, H12⟩, ⟨%f13, %hf13, H13⟩, Hk⟩
  obtain rfl := harg2.eq_unread hf2; obtain rfl := harg4.eq_unread hf4; obtain rfl := harg8.eq_unread hf8
  obtain rfl := harg12.eq_unread hf12; obtain rfl := harg13.eq_unread hf13
  sl_exec (disch := first | sl_exact hc0 | sl_exact hc1)
  sl_step
  iapply Hk
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H12]
  · iexists _; isplitr; swap; · iexact H12
    ipureintro; exact hf12
  · iexists _; isplitr; swap; · iexact H13
    ipureintro
    rw [read_rows02 _ _ r0 r1 r2 _ _ hf13]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl

set_option maxHeartbeats 1000000 in
/-- The last point: as any other, and the new history is stored. The block's codes and products are stored, the running maxima
    updated, the weight's codes and the scalars left as they were. -/
theorem run_C (hc0 : ¬ k0_cond1 i = 1#1) (hc1 : k0_cond2 i = 1#1)
    (x0 : Vec F S3x16 .f32) (x1 : Vec F S512x4352 .bf16) (x3 : Vec F S512x1792 .bf16)
    (wq : Vec F S1792x4352 .fp8e4m3) (sc : Vec F S8 .f32) (r0 r1 r2 : Vec F S1x16x128 .bf16) (E : Set ℕ) (K : PUnit → sProp 𝕄) :
    iprop(owns (c : Thread nD τ) arg1 fullShare x0 ∗ (∃ d, owns (c : Thread nD τ) arg11 fullShare d)
      ∗ owns (c : Thread nD τ) arg2 fullShare x1 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ owns (c : Thread nD τ) arg8 fullShare wq
      ∗ (∃ d, owns (c : Thread nD τ) arg9 fullShare d)
      ∗ owns (c : Thread nD τ) arg12 fullShare sc ∗ owns (c : Thread nD τ) arg13 fullShare (rows3 r0 r1 r2)
      ∗ (iprop(owns (c : Thread nD τ) arg1 fullShare x0
        ∗ owns (c : Thread nD τ) arg11 fullShare (newhV x0 (step0 r0 x1) r1 (step2 r2 x3))
        ∗ owns (c : Thread nD τ) arg2 fullShare x1 ∗ owns (c : Thread nD τ) arg4 fullShare x3
        ∗ owns (c : Thread nD τ) arg5 fullShare (yV sc x1 wq) ∗ owns (c : Thread nD τ) arg6 fullShare (dxV sc x3 wq)
        ∗ owns (c : Thread nD τ) arg7 fullShare (xqV sc x1) ∗ owns (c : Thread nD τ) arg8 fullShare wq
        ∗ owns (c : Thread nD τ) arg9 fullShare (dyqV sc x3)
        ∗ owns (c : Thread nD τ) arg12 fullShare sc
        ∗ owns (c : Thread nD τ) arg13 fullShare (rows3 (step0 r0 x1) r1 (step2 r2 x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f1, %hf1, H1⟩, ⟨%d11, %f11, -, H11⟩, ⟨%f2, %hf2, H2⟩, ⟨%f4, %hf4, H4⟩, ⟨%d5, %f5, -, H5⟩, ⟨%d6, %f6, -, H6⟩, ⟨%d7, %f7, -, H7⟩, ⟨%f8, %hf8, H8⟩, ⟨%d9, %f9, -, H9⟩, ⟨%f12, %hf12, H12⟩, ⟨%f13, %hf13, H13⟩, Hk⟩
  obtain rfl := harg1.eq_unread hf1
  obtain rfl := harg2.eq_unread hf2; obtain rfl := harg4.eq_unread hf4; obtain rfl := harg8.eq_unread hf8
  obtain rfl := harg12.eq_unread hf12; obtain rfl := harg13.eq_unread hf13
  sl_exec (disch := first | sl_exact hc0 | sl_exact hc1)
  sl_step
  iapply Hk
  isplitl [H1]
  · iexists _; isplitr; swap; · iexact H1
    ipureintro; exact hf1
  isplitl [H11]
  · iexists _; isplitr; swap; · iexact H11
    ipureintro
    sl_unfold_words
    simp only [View.readAt_eq_ld, harg1.read_unread, harg2.read_unread, harg4.read_unread, harg8.read_unread, harg12.read_unread, harg13.read_unread,
      View.ld_unit_zero (S := S3x16) z2, View.ld_unit_zero (S := S512x4352) z2, View.ld_unit_zero (S := S512x1792) z2, View.ld_unit_zero (S := S1792x4352) z2,
      ld_rows3_0, ld_rows3_1, ld_rows3_2, readCov_rows02_0, readCov_rows02_2]
    exact read_newh _ _ _ _ _ _ _ _ _ _
  isplitl [H2]
  · iexists _; isplitr; swap; · iexact H2
    ipureintro; exact hf2
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl
  isplitl [H12]
  · iexists _; isplitr; swap; · iexact H12
    ipureintro; exact hf12
  · iexists _; isplitr; swap; · iexact H13
    ipureintro
    sl_unfold_words
    rw [read_rows02 _ _ r0 r1 r2 _ _ hf13]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 sc 3 (by decide), ld_word8 sc 5 (by decide), ld_word8 sc 6 (by decide), ld_word8 sc 7 (by decide)]
    rfl

/-- The scale word, its reciprocal's word and the stored scale of the first tensor, from the history. -/
def w0 (h : Vec F S3x16 .f32) : F .f32 := k0_pay22 (k0_pay12 h) (k0_pay18 (k0_pay13 h) (k0_pay14 h) (k0_pay15 h) (k0_pay16 h)) (k0_pay19 (k0_pay13 h) (k0_pay14 h) (k0_pay15 h) (k0_pay16 h)) 0#32
/-- Scale word 3: the reciprocal of the input's scale. -/
def w3 (h : Vec F S3x16 .f32) : F .f32 := k0_pay23 (k0_pay12 h) (k0_pay18 (k0_pay13 h) (k0_pay14 h) (k0_pay15 h) (k0_pay16 h)) (k0_pay19 (k0_pay13 h) (k0_pay14 h) (k0_pay15 h) (k0_pay16 h)) 0#32
/-- The stored scale of the input. -/
def s0 (h : Vec F S3x16 .f32) : F .f32 := k0_pay24 (k0_pay12 h) (k0_pay18 (k0_pay13 h) (k0_pay14 h) (k0_pay15 h) (k0_pay16 h)) (k0_pay19 (k0_pay13 h) (k0_pay14 h) (k0_pay15 h) (k0_pay16 h)) 0#32
/-- The weight's exponent field part of the way through its search. -/
def v332 (h : Vec F S3x16 .f32) : IVec S1x1 32 := k0_pay29 (k0_pay26 (k0_pay11 h)) k0_pay27 k0_pay28 23#32
/-- The next field its search tries. -/
def v334 (h : Vec F S3x16 .f32) : IVec S1x1 32 := k0_pay30 (k0_pay26 (k0_pay11 h)) k0_pay27 k0_pay28 23#32
/-- The exponent of the weight's scale. -/
def v372 (h : Vec F S3x16 .f32) : IVec S1x1 32 := k0_pay31 (k0_pay25 (k0_pay11 h)) (k0_pay26 (k0_pay11 h)) (v332 h) (v334 h) 23#32
/-- The biased exponent of the weight's scale. -/
def v378 (h : Vec F S3x16 .f32) : IVec S1x1 32 := k0_pay32 (k0_pay25 (k0_pay11 h)) (k0_pay26 (k0_pay11 h)) (v332 h) (v334 h) 23#32
/-- Scale word 1: the scale of the weight. -/
def w1 (h : Vec F S3x16 .f32) : F .f32 := k0_pay34 (v378 h)
/-- Scale word 4: the reciprocal of the weight's scale. -/
def w4 (h : Vec F S3x16 .f32) : F .f32 := k0_pay35 (v372 h)
/-- The stored scale of the weight. -/
def s1 (h : Vec F S3x16 .f32) : F .f32 := k0_pay36 (v378 h)
/-- The gradient's exponent field part of the way through its search. -/
def v457 (h : Vec F S3x16 .f32) : IVec S1x1 32 := k0_pay41 (k0_pay38 (k0_pay11 h)) (k0_pay39 (k0_pay11 h)) (k0_pay40 (k0_pay11 h)) 64#32
/-- The comparison that decides its next bit. -/
def v463 (h : Vec F S3x16 .f32) : IVec S1x1 1 := k0_pay42 (k0_pay38 (k0_pay11 h)) (k0_pay39 (k0_pay11 h)) (k0_pay40 (k0_pay11 h)) 64#32
/-- The gradient's scale, as a one-entry array. -/
def v497 (h : Vec F S3x16 .f32) : FVec F S1x1 .f32 := k0_pay44 (k0_pay37 (k0_pay11 h)) (k0_pay38 (k0_pay11 h)) (v457 h) (v463 h) 2#32
/-- The biased exponent of its reciprocal. -/
def v505 (h : Vec F S3x16 .f32) : IVec S1x1 32 := k0_pay45 (k0_pay37 (k0_pay11 h)) (k0_pay38 (k0_pay11 h)) (v457 h) (v463 h) 2#32
/-- Scale word 2: the scale of the gradient. -/
def w2 (h : Vec F S3x16 .f32) : F .f32 := k0_pay46 (v497 h)
/-- Scale word 5: the reciprocal of the gradient's scale. -/
def w5 (h : Vec F S3x16 .f32) : F .f32 := k0_pay47 (v505 h) 23#32
/-- The stored scale of the gradient. -/
def s2 (h : Vec F S3x16 .f32) : F .f32 := k0_pay48 (v497 h)
/-- Scale word 6: the product of the scales of input and weight. -/
def w6 (h : Vec F S3x16 .f32) : F .f32 := k0_pay49 (w0 h) (w1 h)
/-- Scale word 7: the product of the scales of gradient and weight. -/
def w7 (h : Vec F S3x16 .f32) : F .f32 := k0_pay50 (w2 h) (w1 h)
/-- The eight words the first grid point leaves for the later ones. -/
def scV (h : Vec F S3x16 .f32) : Vec F S8 .f32 := fun y =>
  if (y 0).val = 0 then w0 h else if (y 0).val = 1 then w1 h else if (y 0).val = 2 then w2 h else if (y 0).val = 3 then w3 h
  else if (y 0).val = 4 then w4 h else if (y 0).val = 5 then w5 h else if (y 0).val = 6 then w6 h else w7 h
/-- The three stored scales. -/
def sV (h : Vec F S3x16 .f32) : Vec F S3 .f32 := fun y =>
  if (y 0).val = 0 then s0 h else if (y 0).val = 1 then s1 h else s2 h

/-- The `k`-th chunk of 128 rows of the weight. -/
def chunk (x2 : Vec F S1792x4352 .bf16) (k : ℕ) : Vec F S128x4352 .bf16 := fun y => x2 (ix2 ⟨(128 * k + (y 0).val) % 1792, Nat.mod_lt _ (by norm_num)⟩ (y 1))
/-- The weight's codes, given the reciprocal's word: chunk by chunk. -/
def wqV (w : Elt F .f32) (x2 : Vec F S1792x4352 .bf16) : Vec F S1792x4352 .fp8e4m3 := fun y =>
  k0_pay7 (k0_pay51 w) (chunk x2 ((y 0).val / 128)) (ix2 ⟨(y 0).val % 128, Nat.mod_lt _ (by norm_num)⟩ (y 1))
/-- The row of running maxima of `|w|` after the first `k` chunks. -/
def fold1 (x2 : Vec F S1792x4352 .bf16) (r : Vec F S1x16x128 .bf16) : ℕ → Vec F S1x16x128 .bf16
  | 0 => r
  | k + 1 => step1 (fold1 x2 r k) (chunk x2 k)
/-- A row of zeros. -/
def rz : Vec F S1x16x128 .bf16 := fun x => k0_pay52 (F := F) (ix3 0 (x 1) (x 2))

/-- The loop runs 14 trips. -/
theorem trips14 : Scf.trips k0_t1_loop.lb k0_t1_loop.ub k0_t1_loop.st = 14 := by decide +kernel
/-- Trip `k` works on the rows from `128 k` on. -/
theorem off1_eq : ∀ k : Fin k0_t1_loop.trips, k0_off1 k 0 = 128 * k.val ∧ k0_off1 k 1 = 0 := by decide +kernel

omit [FloatOps F] in
/-- What a trip reads of the weight. -/
theorem ld_chunk (x2 : Vec F S1792x4352 .bf16) (k : Fin k0_t1_loop.trips) (inb) :
    View.ld x2 (Rect.unit (s := S1792x4352) (k0_off1 k) S128x4352.size inb) = chunk x2 k.val := by
  have hk : k.val < 14 := Nat.lt_of_lt_of_le k.isLt k0_t1_abs.2.1
  funext y
  have hy : (y 0).val < 128 := (y 0).isLt
  unfold View.ld chunk
  congr 1
  funext a
  apply Fin.ext
  match a with
  | ⟨0, _⟩ => show k0_off1 k 0 + 1 * (y 0).val = (128 * k.val + (y 0).val) % 1792; rw [(off1_eq k).1]; omega
  | ⟨1, _⟩ => show k0_off1 k 1 + 1 * (y 1).val = (y 1).val; rw [(off1_eq k).2]; omega

omit [FloatOps F] in
/-- Eight words written one by one. -/
theorem read_words8 {κ : Kind} {sp : Space} (v : View sig κ sp S8 .f32) (f : v.ty.Contents (Elt F)) (a0 a1 a2 a3 a4 a5 a6 a7 : Elt F .f32)
    (i0 i1 i2 i3 i4 i5 i6 i7) :
    v.read (Elt F) (v.writes (Elt F) f [
      ⟨Rect.unit ![7] S1.size i7, fun _ => a7⟩,
      ⟨Rect.unit ![6] S1.size i6, fun _ => a6⟩,
      ⟨Rect.unit ![5] S1.size i5, fun _ => a5⟩,
      ⟨Rect.unit ![2] S1.size i2, fun _ => a2⟩,
      ⟨Rect.unit ![4] S1.size i4, fun _ => a4⟩,
      ⟨Rect.unit ![1] S1.size i1, fun _ => a1⟩,
      ⟨Rect.unit ![3] S1.size i3, fun _ => a3⟩,
      ⟨Rect.unit ![0] S1.size i0, fun _ => a0⟩]) = fun y =>
      if (y 0).val = 0 then a0 else if (y 0).val = 1 then a1 else if (y 0).val = 2 then a2 else if (y 0).val = 3 then a3
      else if (y 0).val = 4 then a4 else if (y 0).val = 5 then a5 else if (y 0).val = 6 then a6 else a7 := by
  funext y
  have hy : (y 0).val < 8 := (y 0).isLt
  by_cases h7 : (y 0).val = 7
  · rw [View.read_writes_cons_unit_of_mem v f i7 _ _ y (ix1 0) rfl (fun a => by obtain rfl : a = 0 := Subsingleton.elim _ _; show (y 0).val = 7 + 0; omega), if_neg (by omega), if_neg (by omega), if_neg (by omega), if_neg (by omega), if_neg (by omega), if_neg (by omega), if_neg (by omega)]
  rw [View.read_writes_cons_unit_of_not_mem v f i7 _ _ y rfl 0 (by show (y 0).val < 7 ∨ 7 + 1 ≤ (y 0).val; omega)]
  by_cases h6 : (y 0).val = 6
  · rw [View.read_writes_cons_unit_of_mem v f i6 _ _ y (ix1 0) rfl (fun a => by obtain rfl : a = 0 := Subsingleton.elim _ _; show (y 0).val = 6 + 0; omega), if_neg (by omega), if_neg (by omega), if_neg (by omega), if_neg (by omega), if_neg (by omega), if_neg (by omega), if_pos h6]
  rw [View.read_writes_cons_unit_of_not_mem v f i6 _ _ y rfl 0 (by show (y 0).val < 6 ∨ 6 + 1 ≤ (y 0).val; omega)]
  by_cases h5 : (y 0).val = 5
  · rw [View.read_writes_cons_unit_of_mem v f i5 _ _ y (ix1 0) rfl (fun a => by obtain rfl : a = 0 := Subsingleton.elim _ _; show (y 0).val = 5 + 0; omega), if_neg (by omega), if_neg (by omega), if_neg (by omega), if_neg (by omega), if_neg (by omega), if_pos h5]
  rw [View.read_writes_cons_unit_of_not_mem v f i5 _ _ y rfl 0 (by show (y 0).val < 5 ∨ 5 + 1 ≤ (y 0).val; omega)]
  by_cases h2 : (y 0).val = 2
  · rw [View.read_writes_cons_unit_of_mem v f i2 _ _ y (ix1 0) rfl (fun a => by obtain rfl : a = 0 := Subsingleton.elim _ _; show (y 0).val = 2 + 0; omega), if_neg (by omega), if_neg (by omega), if_pos h2]
  rw [View.read_writes_cons_unit_of_not_mem v f i2 _ _ y rfl 0 (by show (y 0).val < 2 ∨ 2 + 1 ≤ (y 0).val; omega)]
  by_cases h4 : (y 0).val = 4
  · rw [View.read_writes_cons_unit_of_mem v f i4 _ _ y (ix1 0) rfl (fun a => by obtain rfl : a = 0 := Subsingleton.elim _ _; show (y 0).val = 4 + 0; omega), if_neg (by omega), if_neg (by omega), if_neg (by omega), if_neg (by omega), if_pos h4]
  rw [View.read_writes_cons_unit_of_not_mem v f i4 _ _ y rfl 0 (by show (y 0).val < 4 ∨ 4 + 1 ≤ (y 0).val; omega)]
  by_cases h1 : (y 0).val = 1
  · rw [View.read_writes_cons_unit_of_mem v f i1 _ _ y (ix1 0) rfl (fun a => by obtain rfl : a = 0 := Subsingleton.elim _ _; show (y 0).val = 1 + 0; omega), if_neg (by omega), if_pos h1]
  rw [View.read_writes_cons_unit_of_not_mem v f i1 _ _ y rfl 0 (by show (y 0).val < 1 ∨ 1 + 1 ≤ (y 0).val; omega)]
  by_cases h3 : (y 0).val = 3
  · rw [View.read_writes_cons_unit_of_mem v f i3 _ _ y (ix1 0) rfl (fun a => by obtain rfl : a = 0 := Subsingleton.elim _ _; show (y 0).val = 3 + 0; omega), if_neg (by omega), if_neg (by omega), if_neg (by omega), if_pos h3]
  rw [View.read_writes_cons_unit_of_not_mem v f i3 _ _ y rfl 0 (by show (y 0).val < 3 ∨ 3 + 1 ≤ (y 0).val; omega)]
  rw [View.read_writes_cons_unit_of_mem v f i0 _ _ y (ix1 0) rfl (fun a => by obtain rfl : a = 0 := Subsingleton.elim _ _; show (y 0).val = 0 + 0; omega)]
  rw [if_pos (by omega)]

omit [FloatOps F] in
/-- Three words written one by one. -/
theorem read_words3 {κ : Kind} {sp : Space} (v : View sig κ sp S3 .f32) (f : v.ty.Contents (Elt F)) (a0 a1 a2 : Elt F .f32) (i0 i1 i2) :
    v.read (Elt F) (v.writes (Elt F) f [⟨Rect.unit ![2] S1.size i2, fun _ => a2⟩, ⟨Rect.unit ![1] S1.size i1, fun _ => a1⟩, ⟨Rect.unit ![0] S1.size i0, fun _ => a0⟩]) = fun y =>
      if (y 0).val = 0 then a0 else if (y 0).val = 1 then a1 else a2 := by
  funext y
  have hy : (y 0).val < 3 := (y 0).isLt
  by_cases h2 : (y 0).val = 2
  · rw [View.read_writes_cons_unit_of_mem v f i2 _ _ y (ix1 0) rfl (fun a => by obtain rfl : a = 0 := Subsingleton.elim _ _; show (y 0).val = 2 + 0; omega), if_neg (by omega), if_neg (by omega)]
  rw [View.read_writes_cons_unit_of_not_mem v f i2 _ _ y rfl 0 (by show (y 0).val < 2 ∨ 2 + 1 ≤ (y 0).val; omega)]
  by_cases h1 : (y 0).val = 1
  · rw [View.read_writes_cons_unit_of_mem v f i1 _ _ y (ix1 0) rfl (fun a => by obtain rfl : a = 0 := Subsingleton.elim _ _; show (y 0).val = 1 + 0; omega), if_neg (by omega), if_pos h1]
  rw [View.read_writes_cons_unit_of_not_mem v f i1 _ _ y rfl 0 (by show (y 0).val < 1 ∨ 1 + 1 ≤ (y 0).val; omega)]
  rw [View.read_writes_cons_unit_of_mem v f i0 _ _ y (ix1 0) rfl (fun a => by obtain rfl : a = 0 := Subsingleton.elim _ _; show (y 0).val = 0 + 0; omega)]
  rw [if_pos (by omega)]

/-- Before trip `k` of the loop over the weight's chunks: the codes of the first `k` chunks are stored, and the second
row of the accumulator holds the running maxima of those chunks. -/
@[reducible] def invA (c : Dev nD) (arg3 : Memref sig .tc .vmem S1792x4352 .bf16) (harg3 : arg3.IsWhole) (arg8 : Memref sig .tc .vmem S1792x4352 .fp8e4m3) (arg13 : Memref sig .tc .vmem S3x16x128 .bf16)
    (w : Elt F .f32) (x2 : Vec F S1792x4352 .bf16) (r0 r1 r2 : Vec F S1x16x128 .bf16) (k : ℕ) : sProp 𝕄 :=
  iprop((arg3.view.loc (c : Thread nD τ) ↦[arg3.view.set]{fullShare} harg3.unread x2)
    ∗ (∃ f, ⌜∀ y : S1792x4352.Idx, (y 0).val < 128 * k → arg8.view.read (Elt F) f y = wqV w x2 y⌝ ∗ (arg8.view.loc (c : Thread nD τ) ↦[arg8.view.set]{fullShare} f))
    ∗ (∃ f, ⌜arg13.view.read (Elt F) f = rows3 r0 (fold1 x2 r1 k) r2⌝ ∗ (arg13.view.loc (c : Thread nD τ) ↦[arg13.view.set]{fullShare} f)))

/-- The loop over the weight's chunks: before trip `k` the codes of the first `k` chunks are stored, and the
second row of the accumulator holds the running maxima of those chunks. -/
@[reducible] def loopA (c : Dev nD) (i : grid0.Coords) (arg1 : Memref sig .tc .vmem S3x16 .f32) (harg1 : arg1.IsWhole) (arg2 : Memref sig .tc .vmem S512x4352 .bf16) (harg2 : arg2.IsWhole) (arg3 : Memref sig .tc .vmem S1792x4352 .bf16) (harg3 : arg3.IsWhole) (arg4 : Memref sig .tc .vmem S512x1792 .bf16) (harg4 : arg4.IsWhole) (arg5 : Memref sig .tc .vmem S512x1792 .bf16) (harg5 : arg5.IsWhole) (arg6 : Memref sig .tc .vmem S512x4352 .bf16) (harg6 : arg6.IsWhole) (arg7 : Memref sig .tc .vmem S512x4352 .fp8e4m3) (harg7 : arg7.IsWhole) (arg8 : Memref sig .tc .vmem S1792x4352 .fp8e4m3) (harg8 : arg8.IsWhole) (arg9 : Memref sig .tc .vmem S512x1792 .fp8e5m2) (harg9 : arg9.IsWhole) (arg10 : Memref sig .tc .smem S3 .f32) (harg10 : arg10.IsWhole) (arg11 : Memref sig .tc .vmem S3x16 .f32) (harg11 : arg11.IsWhole) (arg12 : Memref sig .tc .smem S8 .f32) (harg12 : arg12.IsWhole) (arg13 : Memref sig .tc .vmem S3x16x128 .bf16) (harg13 : arg13.IsWhole)
    (hc0 : k0_cond1 i = 1#1) (w : Elt F .f32) (E : Set ℕ) (x2 : Vec F S1792x4352 .bf16) (r0 r1 r2 : Vec F S1x16x128 .bf16) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i hc0) () (k0_t1_body (F := F) i arg1 harg1 arg2 harg2 arg3 harg3 arg4 harg4 arg5 harg5 arg6 harg6 arg7 harg7 arg8 harg8 arg9 harg9 arg10 harg10 arg11 harg11 arg12 harg12 arg13 harg13 hc0 w) where
  inv k _ := invA c arg3 harg3 arg8 arg13 w x2 r0 r1 r2 k
  step k acc := by
    have hk : k.val < 14 := Nat.lt_of_lt_of_le k.isLt k0_t1_abs.2.1
    unfold k0_t1_body
    iintro ⟨H3, ⟨%f8, %hf8, H8⟩, ⟨%f13, %hf13, H13⟩⟩
    obtain rfl := harg13.eq_unread hf13
    sl_exec
    sl_step
    isplitl [H3]; · iexact H3
    isplitl [H8]
    · iexists _; isplitr; swap; · iexact H8
      ipureintro
      intro y hy
      have hy4 : (y 0).val < 1792 := (y 0).isLt
      sl_unfold_words
      have hp : View.readAt (Elt F) arg3.view (Rect.unit (s := S1792x4352) (k0_off1 k) S128x4352.size (k0_off1_inb i k hc0)).toLoadRect (harg3.unread x2) = chunk x2 k.val := by
        rw [View.readAt_eq_ld, harg3.read_unread]; exact ld_chunk x2 k _
      show arg8.view.read (Elt F) (arg8.view.writes (Elt F) f8 [⟨Rect.unit (s := S1792x4352) (k0_off1 k) S128x4352.size (k0_off1_inb i k hc0),
        k0_pay7 (k0_pay51 w) (View.readAt (Elt F) arg3.view (Rect.unit (s := S1792x4352) (k0_off1 k) S128x4352.size (k0_off1_inb i k hc0)).toLoadRect (harg3.unread x2))⟩]) y = _
      rw [hp]
      by_cases hlt : (y 0).val < 128 * k.val
      · refine (View.read_writes_cons_unit_of_not_mem arg8.view f8 (k0_off1_inb i k hc0) _ _ y rfl 0 (Or.inl (by rw [(off1_eq k).1]; exact hlt))).trans ?_
        exact hf8 y hlt
      · refine (View.read_writes_cons_unit_of_mem arg8.view f8 (k0_off1_inb i k hc0) _ _ y (ix2 ⟨(y 0).val % 128, Nat.mod_lt _ (by norm_num)⟩ (y 1)) rfl (fun a => by
          match a with
          | ⟨0, _⟩ => show (y 0).val = k0_off1 k 0 + (y 0).val % 128; rw [(off1_eq k).1]; omega
          | ⟨1, _⟩ => show (y 1).val = k0_off1 k 1 + (y 1).val; rw [(off1_eq k).2]; omega)).trans ?_
        have e : (y 0).val / 128 = k.val := by omega
        unfold wqV
        rw [e]
    · iexists _; isplitr; swap; · iexact H13
      ipureintro
      sl_unfold_words
      have hp : View.readAt (Elt F) arg3.view (Rect.unit (s := S1792x4352) (k0_off1 k) S128x4352.size (k0_off1_inb i k hc0)).toLoadRect (harg3.unread x2) = chunk x2 k.val := by
        rw [View.readAt_eq_ld, harg3.read_unread]; exact ld_chunk x2 k _
      rw [read_rows1 _ _ r0 _ r2 _ hf13]
      have hq : View.readAt (Elt F) arg13.view (Rect.unit (s := S3x16x128) ![1, 0, 0] S1x16x128.size inb_S3x16x128_S1x16x128_1_0_0).toLoadRect (harg13.unread (rows3 r0 (fold1 x2 r1 k.val) r2)) = fold1 x2 r1 k.val := by
        rw [View.readAt_eq_ld, harg13.read_unread]; exact ld_rows3_1 _ _ _ _
      show rows3 r0 (step1 (View.readAt (Elt F) arg13.view (Rect.unit (s := S3x16x128) ![1, 0, 0] S1x16x128.size inb_S3x16x128_S1x16x128_1_0_0).toLoadRect (harg13.unread (rows3 r0 (fold1 x2 r1 k.val) r2)))
        (View.readAt (Elt F) arg3.view (Rect.unit (s := S1792x4352) (k0_off1 k) S128x4352.size (k0_off1_inb i k hc0)).toLoadRect (harg3.unread x2))) r2 = _
      rw [hp, hq]
      rfl

/-- The word that the loop is given. -/
theorem pay35_eq (h : Vec F S3x16 .f32) : k0_pay35 (F := F) (k0_pay31 (k0_pay25 (k0_pay11 h)) (k0_pay26 (k0_pay11 h)) (k0_pay29 (k0_pay26 (k0_pay11 h)) k0_pay27 k0_pay28 23#32)
    (k0_pay30 (k0_pay26 (k0_pay11 h)) k0_pay27 k0_pay28 23#32) 23#32) = w4 h := rfl
/-- The zero offset of a rank-3 buffer. -/
theorem z3a : ∀ a : Fin 3, (![0, 0, 0] : Fin 3 → ℕ) a = 0 := by decide

/-- The zeros the accumulator starts from, as three rows. -/
theorem pay52_rows : (k0_pay52 (F := F)) = rows3 rz rz rz := by
  funext y
  have hy : (y 0).val < 3 := (y 0).isLt
  unfold rows3 rz
  split_ifs <;> rfl

set_option maxHeartbeats 2000000 in
/-- The first grid point: it makes the eight words and the three scales, quantises the weight chunk by chunk, and does its own block. -/
theorem run_A (hc0 : k0_cond1 i = 1#1) (hc1 : ¬ k0_cond2 i = 1#1) (x0 : Vec F S3x16 .f32) (x1 : Vec F S512x4352 .bf16) (x2 : Vec F S1792x4352 .bf16) (x3 : Vec F S512x1792 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare (yV (scV x0) x1 (wqV (w4 x0) x2)) ∗ owns (c : Thread nD τ) arg6 fullShare (dxV (scV x0) x3 (wqV (w4 x0) x2))
        ∗ owns (c : Thread nD τ) arg7 fullShare (xqV (scV x0) x1) ∗ owns (c : Thread nD τ) arg8 fullShare (wqV (w4 x0) x2)
        ∗ owns (c : Thread nD τ) arg9 fullShare (dyqV (scV x0) x3) ∗ owns (c : Thread nD τ) arg10 fullShare (sV x0)
        ∗ owns (c : Thread nD τ) arg12 fullShare (scV x0)
        ∗ owns (c : Thread nD τ) arg13 fullShare (rows3 (step0 rz x1) (fold1 x2 rz 14) (step2 rz x3))) -∗ K ⟨⟩))
    ⊢ wp frame (wpE (defs₀ (F := F)) Variants.none c none) E (cc0_fwd_dx i arg1 harg1 arg2 harg2 arg3 harg3 arg4 harg4 arg5 harg5 arg6 harg6 arg7 harg7 arg8 harg8 arg9 harg9 arg10 harg10 arg11 harg11 arg12 harg12 arg13 harg13) K := by
  simp only [cc0_fwd_dx_eq_skeleton]; unfold cc0_fwd_dx_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4
  have e1 : View.readAt (Elt F) arg1.view (Rect.unit (s := S3x16) ![0, 0] S3x16.size inb_S3x16_S3x16_0_0).toLoadRect (harg1.unread x0) = x0 := by
    rw [View.readAt_eq_ld, harg1.read_unread]; exact View.ld_unit_zero (S := S3x16) z2 _ x0
  sl_exec (disch := first | sl_exact hc0 | sl_exact hc1)
  sl_unfold_words
  ihave H12 : iprop(∃ f, ⌜arg12.view.read (Elt F) f = scV x0⌝ ∗ (arg12.view.loc (c : Thread nD τ) ↦[arg12.view.set]{fullShare} f)) $$ [H12]
  · iexists _; isplitr; swap; · iexact H12
    ipureintro
    refine (read_words8 _ _ _ _ _ _ _ _ _ _ _ _ _ _ _ _ _ _).trans ?_
    rfl
  ihave H10 : iprop(∃ f, ⌜arg10.view.read (Elt F) f = sV x0⌝ ∗ (arg10.view.loc (c : Thread nD τ) ↦[arg10.view.set]{fullShare} f)) $$ [H10]
  · iexists _; isplitr; swap; · iexact H10
    ipureintro
    refine (read_words3 _ _ _ _ _ _ _ _).trans ?_
    rfl
  ihave HI : invA c arg3 harg3 arg8 arg13 (w4 x0) x2 rz rz rz 0 $$ [H3 H8 H13]
  · isplitl [H3]; · iexact H3
    isplitl [H8]
    · iexists _; isplitr; swap; · iexact H8
      ipureintro; intro y hy; exact absurd hy (Nat.not_lt_zero _)
    · iexists _; isplitr; swap; · iexact H13
      ipureintro
      exact (read_whole _ _ z3a _ _ _).trans pay52_rows
  icases H12 with ⟨%g12, %hf12, H12⟩
  icases H10 with ⟨%g10, %hf10, H10⟩
  obtain rfl := harg12.eq_unread hf12; obtain rfl := harg10.eq_unread hf10
  first | iapply (Idealize.ShloMosaic.exec_loop _ _ _ _ _ _ _ _ _ (loopA c i arg1 harg1 arg2 harg2 arg3 harg3 arg4 harg4 arg5 harg5 arg6 harg6 arg7 harg7 arg8 harg8 arg9 harg9 arg10 harg10 arg11 harg11 arg12 harg12 arg13 harg13 hc0 (w4 x0) E x2 rz rz rz)) $$ [HI] | (iclear Hk; fail "hello")
  · iexact HI
  iintro %_ HI
  ihave HI2 : invA c arg3 harg3 arg8 arg13 (w4 x0) x2 rz rz rz (Scf.trips k0_t1_loop.lb k0_t1_loop.ub k0_t1_loop.st) $$ [HI]
  · iexact HI
  icases HI2 with ⟨H3, ⟨%g8, %hg8, H8⟩, ⟨%g13, %hf13, H13⟩⟩
  have hf8 : arg8.view.read (Elt F) g8 = wqV (w4 x0) x2 := by
    funext y; exact hg8 y (by rw [trips14]; exact (y 0).isLt)
  rw [trips14] at hf13
  obtain rfl := harg8.eq_unread hf8; obtain rfl := harg13.eq_unread hf13
  sl_exec (disch := first | sl_exact hc0 | sl_exact hc1)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H6]
  · iexists _; isplitr; swap; · iexact H6
    ipureintro
    rw [read_whole _ _ z2a]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H7]
  · iexists _; isplitr; swap; · iexact H7
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H8]
  · iexists _; isplitr; swap; · iexact H8
    ipureintro; exact hf8
  isplitl [H9]
  · iexists _; isplitr; swap; · iexact H9
    ipureintro
    sl_unfold_words
    rw [read_whole _ _ z2a]
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl
  isplitl [H10]
  · iexists _; isplitr; swap; · iexact H10
    ipureintro; exact hf10
  isplitl [H12]
  · iexists _; isplitr; swap; · iexact H12
    ipureintro; exact hf12
  · iexists _; isplitr; swap; · iexact H13
    ipureintro
    rw [read_rows02 _ _ rz (fold1 x2 rz 14) rz _ _ hf13]
    sl_unfold_words
    simp only [View.readAt_eq_ld, harg2.read_unread, harg4.read_unread, harg8.read_unread, harg12.read_unread, harg13.read_unread,
      View.readCov_unit_zero (S := S512x4352) _ z2, View.readCov_unit_zero (S := S512x1792) _ z2, View.ld_unit_zero (S := S512x4352) z2, View.ld_unit_zero (S := S512x1792) z2, View.ld_unit_zero (S := S1792x4352) z2,
      ld_rows3_0, ld_rows3_1, ld_rows3_2, ld_word8 (scV x0) 3 (by decide), ld_word8 (scV x0) 5 (by decide), ld_word8 (scV x0) 6 (by decide), ld_word8 (scV x0) 7 (by decide)]
    rfl

end Cert.Fwd.Hand

end
-- ==== Proof.FwdBitsFrame.lean ====
module

public import proofs.«01_k».proof.Proof.FwdBitsBody
public import Idealize.ShloMosaic.Lib.Pipeline.TableIdle

/-! The forward kernel's run over its whole grid: what every buffer holds before and after each point (`dats`), the body's
triple at every point from the runs of FwdBitsBody.lean, and from them the launch: the kernel terminates, leaves its arguments
unchanged, and ends with every result array at the contents named in `dats`. -/

@[expose] public section

set_option maxRecDepth 16384

noncomputable section

namespace Cert.Fwd.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fwd.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body in closed form -/

/-- The first condition holds at the first point only. -/
theorem hcond0_0 : ∀ t : Fin cfg0.N, k0_cond1 (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]; word_cmp : ∀ t : Fin grid0.N, k0_cond1 (grid0.coords t) = 1#1 ↔ t.val % 32 = 0)
/-- The second condition holds at the last point only. -/
theorem hcond0_1 : ∀ t : Fin cfg0.N, k0_cond2 (grid0.coords t) = 1#1 ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [k0_cond2, e0]; word_cmp : ∀ t : Fin grid0.N, k0_cond2 (grid0.coords t) = 1#1 ↔ t.val % 32 = 31)

/-! ## The buffers at a point -/

/-- The buffer of window 0 at a point. -/
abbrev ms0_0 (t : Fin cfg0.N) := win0_0.stage (cfg0.slots t 0)
/-- The buffer of window 1 at a point. -/
abbrev ms0_1 (t : Fin cfg0.N) := win0_1.stage (cfg0.slots t 1)
/-- The buffer of window 2 at a point. -/
abbrev ms0_2 (t : Fin cfg0.N) := win0_2.stage (cfg0.slots t 2)
/-- The buffer of window 3 at a point. -/
abbrev ms0_3 (t : Fin cfg0.N) := win0_3.stage (cfg0.slots t 3)
/-- The buffer of window 4 at a point. -/
abbrev ms0_4 (t : Fin cfg0.N) := win0_4.stage (cfg0.slots t 4)
/-- The buffer of window 5 at a point. -/
abbrev ms0_5 (t : Fin cfg0.N) := win0_5.stage (cfg0.slots t 5)
/-- The buffer of window 6 at a point. -/
abbrev ms0_6 (t : Fin cfg0.N) := win0_6.stage (cfg0.slots t 6)
/-- The buffer of window 7 at a point. -/
abbrev ms0_7 (t : Fin cfg0.N) := win0_7.stage (cfg0.slots t 7)
/-- The buffer of window 8 at a point. -/
abbrev ms0_8 (t : Fin cfg0.N) := win0_8.stage (cfg0.slots t 8)
/-- The buffer of window 9 at a point. -/
abbrev ms0_9 (t : Fin cfg0.N) := win0_9.stage (cfg0.slots t 9)
/-- The buffer of window 10 at a point. -/
abbrev ms0_10 (t : Fin cfg0.N) := win0_10.stage (cfg0.slots t 10)

/-- The scratch buffers. -/
abbrev scM0_0 : Memref sig .tc .smem S8 .f32 := Memref.whole cc0_scratch0
/-- The scratch buffer of the three running maxima. -/
abbrev scM0_1 : Memref sig .tc .vmem S3x16x128 .bf16 := Memref.whole cc0_scratch1

/-- The invariant the launch hands over, the scratch buffers as memrefs. -/
theorem PhiA0_eq (c : Dev nD) :
    (Pipeline.ΦA spec0 c : sProp 𝕄)
      = iprop(iprop((∃ d, owns (c : Thread nD τ) scM0_1 fullShare d) ∗ (∃ d, owns (c : Thread nD τ) scM0_0 fullShare d)) ∗ (∃ r, prngReg c r)) := by
  unfold Pipeline.ΦA; rw [scopedRest0_eq]; simp only [scM0_0, scM0_1, owns_whole]; try rfl

/-- The first point. -/
abbrev t0 : Fin cfg0.N := ⟨0, by rw [show cfg0.N = 32 from N_0]; omega⟩

/-- The history and the weight are one block each: the same at every point. -/
theorem iblk0_const (c : Dev nD) (t : Fin cfg0.N) : iblk m c 0 t = iblk m c 0 t0 := rfl
/-- The weight is one block, the same at every point. -/
theorem iblk2_const (c : Dev nD) (t : Fin cfg0.N) : iblk m c 2 t = iblk m c 2 t0 := rfl

/-- The history, the weight, and the quantised weight. -/
def hB (c : Dev nD) : Vec F S3x16 .f32 := iblk m c 0 t0
/-- The weight. -/
def wB (c : Dev nD) : Vec F S1792x4352 .bf16 := iblk m c 2 t0
/-- The quantised weight. -/
def wqB (c : Dev nD) : Vec F S1792x4352 .fp8e4m3 := wqV (w4 (hB m c)) (wB m c)
/-- The blocks of the activation and of the gradient at a point. -/
def xB (c : Dev nD) (t : Fin cfg0.N) : Vec F S512x4352 .bf16 := iblk m c 1 t
/-- The gradient's block at a point. -/
def dyB (c : Dev nD) (t : Fin cfg0.N) : Vec F S512x1792 .bf16 := iblk m c 3 t

/-- The running maximum of the activation's magnitudes before a point, -/
def acc0 (c : Dev nD) : (n : ℕ) → n ≤ cfg0.N → Vec F S1x16x128 .bf16
  | 0, _ => rz
  | n + 1, h => step0 (acc0 c n (Nat.le_of_succ_le h)) (xB m c ⟨n, h⟩)
/-- and that of the gradient's. -/
def acc2 (c : Dev nD) : (n : ℕ) → n ≤ cfg0.N → Vec F S1x16x128 .bf16
  | 0, _ => rz
  | n + 1, h => step2 (acc2 c n (Nat.le_of_succ_le h)) (dyB m c ⟨n, h⟩)
/-- The maximum of the weight's. -/
def acc1 (c : Dev nD) : Vec F S1x16x128 .bf16 := fold1 (wB m c) rz 14

/-- The body's invariant before a point: the scratch holds anything before the first; afterwards the scale words and the
    three running maxima. -/
def PhiS (c : Dev nD) : (n : ℕ) → n ≤ cfg0.N → sProp 𝕄
  | 0, _ => Pipeline.ΦA spec0 c
  | n + 1, hn => iprop(iprop(owns (c : Thread nD τ) scM0_1 fullShare (rows3 (acc0 m c (n + 1) hn) (acc1 m c) (acc2 m c (n + 1) hn))
      ∗ owns (c : Thread nD τ) scM0_0 fullShare (scV (hB m c))) ∗ (∃ r, prngReg c r))

/-- Before the first point the invariant is what the launch hands over. -/
theorem PhiS_zero (c : Dev nD) (n : ℕ) (h : n ≤ cfg0.N) (hz : n = 0) : PhiS m c n h = Pipeline.ΦA spec0 c := by
  subst hz; rfl
/-- After a point it names the running maxima and the scale words. -/
theorem PhiS_succ (c : Dev nD) (n : ℕ) (hn : n < cfg0.N) :
    PhiS m c (n + 1) hn = iprop(iprop(owns (c : Thread nD τ) scM0_1 fullShare (rows3 (acc0 m c (n + 1) hn) (acc1 m c) (acc2 m c (n + 1) hn))
      ∗ owns (c : Thread nD τ) scM0_0 fullShare (scV (hB m c))) ∗ (∃ r, prngReg c r)) := rfl
/-- The same, at a point that is not the first. -/
theorem PhiS_pos (c : Dev nD) (n : ℕ) (h : n ≤ cfg0.N) (hz : n ≠ 0) :
    PhiS m c n h = iprop(iprop(owns (c : Thread nD τ) scM0_1 fullShare (rows3 (acc0 m c n h) (acc1 m c) (acc2 m c n h))
      ∗ owns (c : Thread nD τ) scM0_0 fullShare (scV (hB m c))) ∗ (∃ r, prngReg c r)) := by
  cases n with
  | zero => exact absurd rfl hz
  | succ n => rfl

/-- The input's running maxima start at zero. -/
theorem acc0_zero (c : Dev nD) (n : ℕ) (h : n ≤ cfg0.N) (hz : n = 0) : acc0 m c n h = rz := by subst hz; rfl
/-- The gradient's running maxima start at zero. -/
theorem acc2_zero (c : Dev nD) (n : ℕ) (h : n ≤ cfg0.N) (hz : n = 0) : acc2 m c n h = rz := by subst hz; rfl
/-- A point folds its block of the input into the running maxima. -/
theorem acc0_succ (c : Dev nD) (t : Fin cfg0.N) : acc0 m c (t.val + 1) t.isLt = step0 (acc0 m c t.val (Nat.le_of_lt t.isLt)) (xB m c t) := rfl
/-- A point folds its block of the gradient into the running maxima. -/
theorem acc2_succ (c : Dev nD) (t : Fin cfg0.N) : acc2 m c (t.val + 1) t.isLt = step2 (acc2 m c t.val (Nat.le_of_lt t.isLt)) (dyB m c t) := rfl

/-! ## The pipeline's proof data -/

/-- The arrays as the region finds them; after the body at a point each input's buffer at its block and each result's at
    what the body computes there (the new history at the last point). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV (scV (hB m c)) (xB m c t) (wqB m c)
    | ⟨5, _⟩ => dxV (scV (hB m c)) (dyB m c t) (wqB m c)
    | ⟨6, _⟩ => xqV (scV (hB m c)) (xB m c t)
    | ⟨7, _⟩ => wqB m c
    | ⟨8, _⟩ => dyqV (scV (hB m c)) (dyB m c t)
    | ⟨9, _⟩ => sV (hB m c)
    | ⟨10, _⟩ => newhV (hB m c) (acc0 m c (t.val + 1) t.isLt) (acc1 m c) (acc2 m c (t.val + 1) t.isLt)
  Φ t := PhiS m c t.val (Nat.le_of_lt_succ t.isLt)
  q _ := fullShare
  owed _ := 0

/-- Each window starts from its array as the region finds it. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- Window 1 after the body at a point. -/
theorem after0_1 (c : Dev nD) (t : Fin cfg0.N) : (dats m 0 c).after 1 t = iblk m c 1 t := by dsimp only [dats]
/-- Window 2 after the body at a point. -/
theorem after0_2 (c : Dev nD) (t : Fin cfg0.N) : (dats m 0 c).after 2 t = iblk m c 2 t := by dsimp only [dats]
/-- Window 3 after the body at a point. -/
theorem after0_3 (c : Dev nD) (t : Fin cfg0.N) : (dats m 0 c).after 3 t = iblk m c 3 t := by dsimp only [dats]
/-- Window 4 after the body at a point. -/
theorem after0_4 (c : Dev nD) (t : Fin cfg0.N) : (dats m 0 c).after 4 t = yV (scV (hB m c)) (xB m c t) (wqB m c) := by dsimp only [dats]
/-- Window 5 after the body at a point. -/
theorem after0_5 (c : Dev nD) (t : Fin cfg0.N) : (dats m 0 c).after 5 t = dxV (scV (hB m c)) (dyB m c t) (wqB m c) := by dsimp only [dats]
/-- Window 6 after the body at a point. -/
theorem after0_6 (c : Dev nD) (t : Fin cfg0.N) : (dats m 0 c).after 6 t = xqV (scV (hB m c)) (xB m c t) := by dsimp only [dats]
/-- Window 7 after the body at a point. -/
theorem after0_7 (c : Dev nD) (t : Fin cfg0.N) : (dats m 0 c).after 7 t = wqB m c := by dsimp only [dats]
/-- Window 8 after the body at a point. -/
theorem after0_8 (c : Dev nD) (t : Fin cfg0.N) : (dats m 0 c).after 8 t = dyqV (scV (hB m c)) (dyB m c t) := by dsimp only [dats]
/-- Window 9 after the body at a point. -/
theorem after0_9 (c : Dev nD) (t : Fin cfg0.N) : (dats m 0 c).after 9 t = sV (hB m c) := by dsimp only [dats]
/-- Window 10 after the body at a point. -/
theorem after0_10 (c : Dev nD) (t : Fin cfg0.N) : (dats m 0 c).after 10 t = newhV (hB m c) (acc0 m c (t.val + 1) t.isLt) (acc1 m c) (acc2 m c (t.val + 1) t.isLt) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
/-- Window 1 before the body at a point. -/
theorem before0_1 (c : Dev nD) (t : Fin cfg0.N) (d) : (dats m 0 c).before 1 t d = iblk m c 1 t :=
  before0_1_of m (dats m 0 c) (A_eq m c 1) (after0_1 m c) t d
/-- Window 2 before the body at a point. -/
theorem before0_2 (c : Dev nD) (t : Fin cfg0.N) (d) : (dats m 0 c).before 2 t d = iblk m c 2 t :=
  before0_2_of m (dats m 0 c) (A_eq m c 2) (after0_2 m c) t d
/-- Window 3 before the body at a point. -/
theorem before0_3 (c : Dev nD) (t : Fin cfg0.N) (d) : (dats m 0 c).before 3 t d = iblk m c 3 t :=
  before0_3_of m (dats m 0 c) (A_eq m c 3) (after0_3 m c) t d

/-- A window stored at the first point only is idle at every other, -/
theorem idle7 (t : Fin cfg0.N) (h : t.val % 32 ≠ 0) : cfg0.idle 7 (grid0.coords t) = true := by
  show (!(k0_cond1 (grid0.coords t) == 1#1)) = true
  rw [beq_eq_false_iff_ne.mpr fun e => h ((hcond0_0 t).mp e)]; rfl
/-- The scales are written at the first point only. -/
theorem idle9 (t : Fin cfg0.N) (h : t.val % 32 ≠ 0) : cfg0.idle 9 (grid0.coords t) = true := idle7 t h
/-- and live there; -/
theorem live7 (t : Fin cfg0.N) (h : t.val % 32 = 0) : cfg0.idle 7 (grid0.coords t) = false := by
  show (!(k0_cond1 (grid0.coords t) == 1#1)) = false
  rw [(hcond0_0 t).mpr h]; rfl
/-- At the first point the scales are written. -/
theorem live9 (t : Fin cfg0.N) (h : t.val % 32 = 0) : cfg0.idle 9 (grid0.coords t) = false := live7 t h
/-- the one stored at the last point only likewise. -/
theorem idle10 (t : Fin cfg0.N) (h : t.val % 32 ≠ 31) : cfg0.idle 10 (grid0.coords t) = true := by
  show (!(k0_cond2 (grid0.coords t) == 1#1)) = true
  rw [beq_eq_false_iff_ne.mpr fun e => h ((hcond0_1 t).mp e)]; rfl
/-- At the last point the new history is written. -/
theorem live10 (t : Fin cfg0.N) (h : t.val % 32 = 31) : cfg0.idle 10 (grid0.coords t) = false := by
  show (!(k0_cond2 (grid0.coords t) == 1#1)) = false
  rw [(hcond0_1 t).mpr h]; rfl

/-- After the first point the buffers of the quantised weight and of the scales hold what the body stored there, -/
theorem fresh7 : ∀ n, n ≤ cfg0.N → cfg0.fresh 7 n = (decide (n = 0) || decide (n = 32)) :=
  cfg0.fresh_tab 7 (fun n => decide (n = 0) || decide (n = 32)) rfl fun t => by
    have hN : t.val < 32 := lt_of_lt_of_eq t.isLt (show cfg0.N = 32 from N_0)
    by_cases h : t.val = 0
    · rw [live7 t (by omega), show (cfg0.win 7).flush t = false from Bool.eq_false_iff.mpr fun h' => by have := (flush0_7 t).mp h'; omega, h]; rfl
    · rw [idle7 t (by omega)]
      by_cases h' : t.val = 31
      · rw [(flush0_7 t).mpr (by omega), h']; rfl
      · rw [show (cfg0.win 7).flush t = false from Bool.eq_false_iff.mpr fun h'' => by have := (flush0_7 t).mp h''; omega, decide_eq_false h,
          decide_eq_false (show ¬ t.val + 1 = 0 by omega), decide_eq_false (show ¬ t.val + 1 = 32 by omega), decide_eq_false (show ¬ t.val = 32 by omega)]; rfl
/-- The scales buffer is fresh before the first point and after the last only. -/
theorem fresh9 : ∀ n, n ≤ cfg0.N → cfg0.fresh 9 n = (decide (n = 0) || decide (n = 32)) :=
  cfg0.fresh_tab 9 (fun n => decide (n = 0) || decide (n = 32)) rfl fun t => by
    have hN : t.val < 32 := lt_of_lt_of_eq t.isLt (show cfg0.N = 32 from N_0)
    by_cases h : t.val = 0
    · rw [live9 t (by omega), show (cfg0.win 9).flush t = false from Bool.eq_false_iff.mpr fun h' => by have := (flush0_9 t).mp h'; omega, h]; rfl
    · rw [idle9 t (by omega)]
      by_cases h' : t.val = 31
      · rw [(flush0_9 t).mpr (by omega), h']; rfl
      · rw [show (cfg0.win 9).flush t = false from Bool.eq_false_iff.mpr fun h'' => by have := (flush0_9 t).mp h''; omega, decide_eq_false h,
          decide_eq_false (show ¬ t.val + 1 = 0 by omega), decide_eq_false (show ¬ t.val + 1 = 32 by omega), decide_eq_false (show ¬ t.val = 32 by omega)]; rfl
/-- so at every later point the body finds that. -/
theorem before0_7 (c : Dev nD) (t : Fin cfg0.N) (h : t.val ≠ 0) (d) : (dats m 0 c).before 7 t d = wqB m c := by
  have hN : t.val < 32 := lt_of_lt_of_eq t.isLt (show cfg0.N = 32 from N_0)
  rw [Pipeline.Dat.before_out_traj (dats m 0 c) 7 rfl (fun _ _ => rfl) (fun t _ _ _ => by rw [after0_7, after0_7]) t.val t rfl d,
    fresh7 t.val (Nat.le_of_lt t.isLt), decide_eq_false h, decide_eq_false (show ¬ t.val = 32 by omega), after0_7]
  rfl
/-- Window 9 before the body at a point. -/
theorem before0_9 (c : Dev nD) (t : Fin cfg0.N) (h : t.val ≠ 0) (d) : (dats m 0 c).before 9 t d = sV (hB m c) := by
  have hN : t.val < 32 := lt_of_lt_of_eq t.isLt (show cfg0.N = 32 from N_0)
  rw [Pipeline.Dat.before_out_traj (dats m 0 c) 9 rfl (fun _ _ => rfl) (fun t _ _ _ => by rw [after0_9, after0_9]) t.val t rfl d,
    fresh9 t.val (Nat.le_of_lt t.isLt), decide_eq_false h, decide_eq_false (show ¬ t.val = 32 by omega), after0_9]
  rfl

/-! ## The body obligation, at a generic point -/

/-- What the body must hand back of a window live at a point, -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- of one idle there and not written back, -/
theorem leaves_idle (c : Dev nD) (w : Fin cfg0.W) (t : Fin cfg0.N) (h : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact; rw [h, hf]
/-- and of one idle there and written back. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the closed forms say which case the point is in, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [acc0_succ, acc2_succ]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 8 t rfl, after0_8]
  rw [PhiS_castSucc m c t]
  by_cases h0 : t.val = 0
  · have hc0 : k0_cond1 (grid0.coords t) = 1#1 := (hcond0_0 t).mpr (by omega)
    have hc1 : ¬ k0_cond2 (grid0.coords t) = 1#1 := fun h => by have := (hcond0_1 t).mp h; omega
    rw [leaves_live m c 7 t (live7 t (by omega)), leaves_live m c 9 t (live9 t (by omega)),
      leaves_idle m c 10 t (idle10 t (by omega)) (Bool.eq_false_iff.mpr fun h' => by have := (flush0_10 t).mp h'; omega),
      after0_7, after0_9, PhiS_zero m c _ _ h0, PhiA0_eq, acc0_zero m c _ _ h0, acc2_zero m c _ _ h0]
    iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_A c (grid0.coords t) _ _ _ _ _ _ _ _ _ _ _ _ _ _ _ _ _ _ _ _ _ _ _ _ _ _ hc0 hc1 (hB m c) (xB m c t) (wB m c) (dyB m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · have hc0 : ¬ k0_cond1 (grid0.coords t) = 1#1 := fun h => by have := (hcond0_0 t).mp h; omega
    simp only [before0_7 m c t h0, before0_9 m c t h0]
    rw [PhiS_pos m c _ _ h0]
    by_cases h1 : t.val = 31
    · have hc1 : k0_cond2 (grid0.coords t) = 1#1 := (hcond0_1 t).mpr (by omega)
      rw [leaves_flush m c 7 t (idle7 t (by omega)) ((flush0_7 t).mpr (by omega)), leaves_flush m c 9 t (idle9 t (by omega)) ((flush0_9 t).mpr (by omega)),
        leaves_live m c 10 t (live10 t (by omega)), after0_7, after0_9, after0_10, acc0_succ, acc2_succ]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_C c (grid0.coords t) _ _ _ _ _ _ _ _ _ _ _ _ _ _ _ _ _ _ _ _ _ _ _ _ _ _ hc0 hc1 (hB m c) (xB m c t) (dyB m c t) (wqB m c) (scV (hB m c)) (acc0 m c t.val (Nat.le_of_lt t.isLt)) (acc1 m c) (acc2 m c t.val (Nat.le_of_lt t.isLt)) Set.univ _)
      isplitl [H0]; · iexact H0
      isplitl [H10]; · iexists _; iexact H10
      isplitl [H1]; · iexact H1
      isplitl [H3]; · iexact H3
      isplitl [H4]; · iexists _; iexact H4
      isplitl [H5]; · iexists _; iexact H5
      isplitl [H6]; · iexists _; iexact H6
      isplitl [H7]; · iexact H7
      isplitl [H8]; · iexists _; iexact H8
      isplitl [HS0]; · iexact HS0
      isplitl [HS1]; · iexact HS1
      iintro ⟨H0, H10, H1, H3, H4, H5, H6, H7, H8, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬ k0_cond2 (grid0.coords t) = 1#1 := fun h => by have := (hcond0_1 t).mp h; omega
      rw [leaves_idle m c 7 t (idle7 t (by omega)) (Bool.eq_false_iff.mpr fun h' => by have := (flush0_7 t).mp h'; omega),
        leaves_idle m c 9 t (idle9 t (by omega)) (Bool.eq_false_iff.mpr fun h' => by have := (flush0_9 t).mp h'; omega),
        leaves_idle m c 10 t (idle10 t (by omega)) (Bool.eq_false_iff.mpr fun h' => by have := (flush0_10 t).mp h'; omega)]
      simp only [before0_7 m c t h0, before0_9 m c t h0]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_B c (grid0.coords t) _ _ _ _ _ _ _ _ _ _ _ _ _ _ _ _ _ _ _ _ _ _ _ _ _ _ hc0 hc1 (xB m c t) (dyB m c t) (wqB m c) (scV (hB m c)) (acc0 m c t.val (Nat.le_of_lt t.isLt)) (acc1 m c) (acc2 m c t.val (Nat.le_of_lt t.isLt)) Set.univ _)
      isplitl [H1]; · iexact H1
      isplitl [H3]; · iexact H3
      isplitl [H4]; · iexists _; iexact H4
      isplitl [H5]; · iexists _; iexact H5
      isplitl [H6]; · iexists _; iexact H6
      isplitl [H7]; · iexact H7
      isplitl [H8]; · iexists _; iexact H8
      isplitl [HS0]; · iexact HS0
      isplitl [HS1]; · iexact HS1
      iintro ⟨H1, H3, H4, H5, H6, H7, H8, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      isplitl [H8]; · iexact H8
      isplitl [H9]; · iexists d9; iexact H9
      iexists d10; iexact H10

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after any point but the first the invariant gives it back, -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS1, HS0⟩, Hg⟩
  isplitl [HS1 HS0]
  · isplitl [HS1]
    · iexists _; iexact HS1
    iexists _; iexact HS0
  iexact Hg

/-- in particular after the last. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch: the run's final states, and every semaphore counter at zero there. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair run terminates with the result arrays at what the proof data name. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Fwd.Hand

end
-- ==== Proof.FwdAmax.lean ====
/- The running maxima of the forward kernel, characterised by their upper bounds, at the extended reals. -/
module

public import proofs.«01_k».proof.Proof.FwdFrame

@[expose] public section

set_option maxRecDepth 16384

noncomputable section

open Idealize.ShloMosaic Idealize.ShloMosaic.TcCoe Idealize.SL.Sem

namespace Cert.FwdIdeal.Hand

open Cert.FwdIdeal Cert.FwdIdeal.Gen

/-- The maximum of the first `n + 1` values of a sequence. -/
def mx (f : ℕ → EReal) : ℕ → EReal
  | 0 => f 0
  | n + 1 => max (mx f n) (f (n + 1))

/-- Its upper bounds are the common upper bounds of those values. -/
theorem mx_le (f : ℕ → EReal) (n : ℕ) (c : EReal) : mx f n ≤ c ↔ ∀ l, l ≤ n → f l ≤ c := by
  induction n with
  | zero => simp [mx]
  | succ n ih =>
    rw [mx, max_le_iff, ih]
    constructor
    · rintro ⟨h, h'⟩ l hl
      rcases Nat.lt_or_ge n l with hn | hn
      · obtain rfl : l = n + 1 := by omega
        exact h'
      · exact h l hn
    · intro h
      exact ⟨fun l hl => h l (by omega), h _ le_rfl⟩

/-- An entry of a row at a natural-number column. -/
def at4 (v : FVec Ideal S16x4352 .bf16) (p : Fin 16) (n : ℕ) : EReal := if h : n < 4352 then v (ix2 p ⟨n, h⟩) else ⊥
/-- At a column of the array it is the entry. -/
theorem at4_eq (v : FVec Ideal S16x4352 .bf16) (p : Fin 16) (n : ℕ) (h : n < 4352) : v (ix2 p ⟨n, h⟩) = at4 v p n := by
  unfold at4
  rw [dif_pos h]
/-- An entry of a row at a natural-number column. -/
def at1 (v : FVec Ideal S16x1792 .bf16) (p : Fin 16) (n : ℕ) : EReal := if h : n < 1792 then v (ix2 p ⟨n, h⟩) else ⊥
/-- At a column of the array it is the entry. -/
theorem at1_eq (v : FVec Ideal S16x1792 .bf16) (p : Fin 16) (n : ℕ) (h : n < 1792) : v (ix2 p ⟨n, h⟩) = at1 v p n := by
  unfold at1
  rw [dif_pos h]

/-- The maximum of 34 values, written out. -/
theorem mx_33 (f : ℕ → EReal) : mx f 33 = max (max (max (max (max (max (max (max (max (max (max (max (max (max (max (max (max (max (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27)) (f 28)) (f 29)) (f 30)) (f 31)) (f 32)) (f 33) := rfl
/-- The maximum of 14 values, written out. -/
theorem mx_13 (f : ℕ → EReal) : mx f 13 = max (max (max (max (max (max (max (max (max (max (max (max (max (f 0) (f 1)) (f 2)) (f 3)) (f 4)) (f 5)) (f 6)) (f 7)) (f 8)) (f 9)) (f 10)) (f 11)) (f 12)) (f 13) := rfl

/-- A slice of 128 columns, at a place. -/
theorem slice4 (v : FVec Ideal S16x4352 .bf16) (n : ℕ) (h : S16x4352.Slices ![0, n] S16x128) (p : Fin 16) (q : Fin 128) :
    (extractStridedSlice S16x128 ![0, n] v h (ix2 p q) : EReal) = at4 v p (n + q.val) := by
  have hn : n + q.val < 4352 := by
    have := h.2 1
    have hq := q.isLt
    simp at this
    omega
  rw [← at4_eq v p _ hn]
  unfold extractStridedSlice
  congr 1
  funext a
  apply Fin.ext
  match a with
  | ⟨0, _⟩ => show 0 + p.val = p.val; omega
  | ⟨1, _⟩ => rfl
/-- A slice of 128 columns, at a place. -/
theorem slice1 (v : FVec Ideal S16x1792 .bf16) (n : ℕ) (h : S16x1792.Slices ![0, n] S16x128) (p : Fin 16) (q : Fin 128) :
    (extractStridedSlice S16x128 ![0, n] v h (ix2 p q) : EReal) = at1 v p (n + q.val) := by
  have hn : n + q.val < 1792 := by
    have := h.2 1
    have hq := q.isLt
    simp at this
    omega
  rw [← at1_eq v p _ hn]
  unfold extractStridedSlice
  congr 1
  funext a
  apply Fin.ext
  match a with
  | ⟨0, _⟩ => show 0 + p.val = p.val; omega
  | ⟨1, _⟩ => rfl

/-- The elementwise maximum at a place. -/
theorem max_at {a b : FVec Ideal S16x128 .bf16} {i : S16x128.Idx} {A B : EReal} (ha : (a i : EReal) = A) (hb : (b i : EReal) = B) :
    (maximumf a b i : EReal) = max A B := by
  rw [← ha, ← hb]
  rfl

/-- A row of maxima as a one-row block, at a place. -/
theorem cast3 (v : FVec Ideal S16x128 .bf16) (p : Fin 16) (q : Fin 128) : shapeCast S1x16x128 v shapeCasts_S16x128_S1x16x128 (ix3 0 p q) = v (ix2 p q) := by
  pointwise
/-- A one-row block as a row of maxima, at a place. -/
theorem cast2 (v : FVec Ideal S1x16x128 .bf16) (p : Fin 16) (q : Fin 128) : shapeCast S16x128 v shapeCasts_S1x16x128_S16x128 (ix2 p q) = v (ix3 0 p q) := by
  pointwise

/-- The input's running maxima after a block, at a place: the maximum of the old one and of the block's columns that share the lane. -/
theorem step0_apply (r : Vec Ideal S1x16x128 .bf16) (x : Vec Ideal S512x4352 .bf16) (p : Fin 16) (q : Fin 128) :
    step0 r x (ix3 0 p q) = max (r (ix3 0 p q) : EReal) (mx (fun l => at4 (k0_pay59 x) p (128 * l + q.val)) 33) := by
  unfold step0 k0_pay64 k0_pay62 k0_pay60 k0_pay61 k0_pay63 k0_pay58
  generalize k0_pay59 x = v
  rw [mx_33]
  exact (cast3 _ p q).trans (max_at (cast2 r p q) (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (slice4 v 0 _ p q) (slice4 v 128 _ p q)) (slice4 v 256 _ p q)) (slice4 v 384 _ p q)) (slice4 v 512 _ p q)) (slice4 v 640 _ p q)) (slice4 v 768 _ p q)) (slice4 v 896 _ p q)) (slice4 v 1024 _ p q)) (slice4 v 1152 _ p q)) (slice4 v 1280 _ p q)) (slice4 v 1408 _ p q)) (slice4 v 1536 _ p q)) (slice4 v 1664 _ p q)) (slice4 v 1792 _ p q)) (slice4 v 1920 _ p q)) (slice4 v 2048 _ p q)) (slice4 v 2176 _ p q)) (slice4 v 2304 _ p q)) (slice4 v 2432 _ p q)) (slice4 v 2560 _ p q)) (slice4 v 2688 _ p q)) (slice4 v 2816 _ p q)) (slice4 v 2944 _ p q)) (slice4 v 3072 _ p q)) (slice4 v 3200 _ p q)) (slice4 v 3328 _ p q)) (slice4 v 3456 _ p q)) (slice4 v 3584 _ p q)) (slice4 v 3712 _ p q)) (slice4 v 3840 _ p q)) (slice4 v 3968 _ p q)) (slice4 v 4096 _ p q)) (slice4 v 4224 _ p q)))

/-- The weight's running maxima after a chunk, at a place. -/
theorem step1_apply (r : Vec Ideal S1x16x128 .bf16) (x : Vec Ideal S128x4352 .bf16) (p : Fin 16) (q : Fin 128) :
    step1 r x (ix3 0 p q) = max (r (ix3 0 p q) : EReal) (mx (fun l => at4 (k0_pay9 x) p (128 * l + q.val)) 33) := by
  unfold step1 k0_pay53 k0_pay10 k0_pay8
  generalize k0_pay9 x = v
  rw [mx_33]
  exact (cast3 _ p q).trans (max_at (cast2 r p q) (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (max_at (slice4 v 0 _ p q) (slice4 v 128 _ p q)) (slice4 v 256 _ p q)) (slice4 v 384 _ p q)) (slice4 v 512 _ p q)) (slice4 v 640 _ p q)) (slice4 v 768 _ p q)) (slice4 v 896 _ p q)) (slice4 v 1024 _ p q)) (slice4 v 1152 _ p q)) (slice4 v 1280 _ p q)) (slice4 v 1408 _ p q)) (slice4 v 1536 _ p q)) (slice4 v 1664 _ p q)) (slice4 v 1792 _ p q)) (slice4 v 1920 _ p q)) (slice4 v 2048 _ p q)) (slice4 v 2176 _ p q)) (slice4 v 2304 _ p q)) (slice4 v 2432 _ p q)) (slice4 v 2560 _ p q)) (slice4 v 2688 _ p q)) (slice4 v 2816 _ p q)) (slice4 v 2944 _ p q)) (slice4 v 3072 _ p q)) (slice4 v 3200 _ p q)) (slice4 v 3328 _ p q)) (slice4 v 3456 _ p q)) (slice4 v 3584 _ p q)) (slice4 v 3712 _ p q)) (slice4 v 3840 _ p q)) (slice4 v 3968 _ p q)) (slice4 v 4096 _ p q)) (slice4 v 4224 _ p q)))

/-- The row-group maxima of a block of the output gradient. -/
def red2 (x : FVec Ideal S512x1792 .bf16) : FVec Ideal S16x1792 .bf16 :=
  multiReduction .maximumf [0] S16x1792 (shapeCast S32x16x1792 (absf x) shapeCasts_S512x1792_S32x16x1792) 0xFF80#16 reduces_S32x16x1792_S16x1792 (.inr rfl) rfl

/-- The gradient's running maxima after a block, at a place. -/
theorem step2_apply (r : Vec Ideal S1x16x128 .bf16) (x : Vec Ideal S512x1792 .bf16) (p : Fin 16) (q : Fin 128) :
    step2 r x (ix3 0 p q) = max (r (ix3 0 p q) : EReal) (mx (fun l => at1 (red2 (k0_pay55 x)) p (128 * l + q.val)) 13) := by
  unfold step2 k0_pay65
  rw [show multiReduction .maximumf [0] S16x1792 (shapeCast S32x16x1792 (absf (k0_pay55 x)) shapeCasts_S512x1792_S32x16x1792) 0xFF80#16
    reduces_S32x16x1792_S16x1792 (.inr rfl) rfl = red2 (k0_pay55 x) from rfl]
  generalize red2 (k0_pay55 x) = v
  rw [mx_13]
  exact (cast3 _ p q).trans (max_at (cast2 r p q) (max_at (max_at (max_at (max_at (max_at (max_at (max_at (max_at (max_at (max_at (max_at (max_at (max_at (slice1 v 0 _ p q) (slice1 v 128 _ p q)) (slice1 v 256 _ p q)) (slice1 v 384 _ p q)) (slice1 v 512 _ p q)) (slice1 v 640 _ p q)) (slice1 v 768 _ p q)) (slice1 v 896 _ p q)) (slice1 v 1024 _ p q)) (slice1 v 1152 _ p q)) (slice1 v 1280 _ p q)) (slice1 v 1408 _ p q)) (slice1 v 1536 _ p q)) (slice1 v 1664 _ p q)))

/-- Negative infinity. -/
theorem cNInf16 : (FloatOps.ofBits (F := Ideal) .bf16 0xFF80#16 : EReal) = ⊥ := by
  show Ideal.ofBits .bf16 0xFF80#16 = ⊥
  simp [Ideal.ofBits, Ideal.ieee]
/-- Negative infinity. -/
theorem cNInf : (FloatOps.ofBits (F := Ideal) .f32 0xFF800000#32 : EReal) = ⊥ := by
  show Ideal.ofBits .f32 0xFF800000#32 = ⊥
  simp [Ideal.ofBits, Ideal.ieee]

/-- The magnitude. -/
def ab (x : EReal) : EReal := max x (-x)

/-- The block of the input, its rows folded by sixteens, at a place. -/
theorem pay59_apply (x : Vec Ideal S512x4352 .bf16) (p : Fin 16) (j : Fin 4352) :
    (k0_pay59 x (ix2 p j) : EReal) = Finset.univ.fold max (⊥ : EReal) (fun k : Fin 32 => ab (x (ix2 ⟨16 * k.val + p.val, by omega⟩ j))) := by
  rw [← cNInf16]
  unfold k0_pay59 k0_pay54
  pointwise
  rfl
/-- The chunk of the weight, its rows folded by sixteens, at a place. -/
theorem pay9_apply (x : Vec Ideal S128x4352 .bf16) (p : Fin 16) (j : Fin 4352) :
    (k0_pay9 x (ix2 p j) : EReal) = Finset.univ.fold max (⊥ : EReal) (fun k : Fin 8 => ab (x (ix2 ⟨16 * k.val + p.val, by omega⟩ j))) := by
  rw [← cNInf16]
  unfold k0_pay9
  pointwise
  rfl
/-- The block of the gradient, its rows folded by sixteens, at a place. -/
theorem red2_apply (x : Vec Ideal S512x1792 .bf16) (p : Fin 16) (j : Fin 1792) :
    (red2 (k0_pay55 x) (ix2 p j) : EReal) = Finset.univ.fold max (⊥ : EReal) (fun k : Fin 32 => ab (x (ix2 ⟨16 * k.val + p.val, by omega⟩ j))) := by
  rw [← cNInf16]
  unfold red2 k0_pay55
  pointwise
  rfl

/-- The last reduction of a row of maxima. -/
theorem pay4_apply (r : Vec Ideal S1x16x128 .bf16) :
    (k0_pay4 r (ix2 0 0) : EReal) = Finset.univ.fold max (⊥ : EReal) (fun q : Fin 128 => Finset.univ.fold max (⊥ : EReal) (fun p : Fin 16 => (r (ix3 0 p q) : EReal))) := by
  rw [← cNInf]
  unfold k0_pay4
  pointwise
/-- It is the same for the weight. -/
theorem pay5_eq (r : Vec Ideal S1x16x128 .bf16) : k0_pay5 r = k0_pay4 r := rfl
/-- It is the same for the gradient. -/
theorem pay6_eq (r : Vec Ideal S1x16x128 .bf16) : k0_pay6 r = k0_pay4 r := rfl

end Cert.FwdIdeal.Hand
-- ==== Proof.FwdScale.lean ====
/- The two ways of finding a power-of-two scale agree, at the extended reals.

   The kernel searches the eight bits of an exponent field from the top: the field is the greatest `n` at most 255 whose
   word, shifted into the exponent's place, reads as a value not above the magnitude. The reference takes the least whole
   exponent whose power of two lies above the magnitude. From the field the kernel subtracts 126; both answers are the
   same whole number, and both turn it into the same power of two. -/
module

public import Idealize.ShloMosaic.Lib.Pipeline.ValueKit
public import Idealize.ShloMosaic.Lib.Tactic

@[expose] public section

set_option maxRecDepth 16384

noncomputable section

open Idealize.ShloMosaic

namespace Cert.Scale

/-- The value of the word that has `j` in its exponent field and nothing else. -/
def pw (j : ℕ) : EReal := if j = 0 then 0 else if j = 255 then ⊤ else (((2 : ℝ) ^ ((j : ℤ) - 127) : ℝ) : EReal)

/-- A shifted exponent field has sign bit zero. -/
theorem fields : ∀ j : Fin 256, ((BitVec.ofNat 32 j.val <<< 23).extractLsb' (8 + 23) 1 == 1#1) = false
    ∧ ((BitVec.ofNat 32 j.val <<< 23).extractLsb' 23 8).toNat = j.val
    ∧ ((BitVec.ofNat 32 j.val <<< 23).extractLsb' 0 23).toNat = 0 := by decide +kernel

/-- A word with only an exponent field reads as `pw`. -/
theorem ofBits_field (j : ℕ) (h : j ≤ 255) : Ideal.ofBits .f32 (BitVec.ofNat 32 j <<< 23) = pw j := by
  obtain ⟨h1, h2, h3⟩ := fields ⟨j, by omega⟩
  show Ideal.ieee 8 23 _ = _
  unfold Ideal.ieee pw
  dsimp only at h1 h2 h3 ⊢
  rw [h1, h2, h3]
  by_cases h255 : j = 255
  · subst h255; simp
  · by_cases h0 : j = 0
    · subst h0; simp
    · rw [if_neg (by simpa using h255), if_neg h0, if_neg h0, if_neg h255]
      refine congrArg (fun r : ℝ => (r : EReal)) ?_
      have e : (j : ℤ) - 127 = 23 + ((j : ℤ) - (2 ^ (8 - 1) - 1) - ((23 : ℕ) : ℤ)) := by norm_num
      rw [e, zpow_add₀ (by norm_num : (2 : ℝ) ≠ 0)]
      have e2 : ((2 ^ 23 + 0 : ℕ) : ℝ) = (2 : ℝ) ^ (23 : ℤ) := by norm_num
      rw [e2, if_neg (by decide), one_mul]

/-- The values grow with the field. -/
theorem pw_mono {i j : ℕ} (h : i ≤ j) (hj : j ≤ 255) : pw i ≤ pw j := by
  unfold pw
  by_cases h0 : i = 0
  · rw [if_pos h0]
    by_cases g0 : j = 0
    · rw [if_pos g0]
    · rw [if_neg g0]
      by_cases g1 : j = 255
      · rw [if_pos g1]; exact le_top
      · rw [if_neg g1]; exact EReal.coe_nonneg.mpr (zpow_pos (by norm_num : (0 : ℝ) < 2) _).le
  · rw [if_neg h0, if_neg (show j ≠ 0 by omega)]
    by_cases g1 : j = 255
    · rw [if_pos g1]; exact le_top
    · rw [if_neg g1, if_neg (show i ≠ 255 by omega)]
      exact EReal.coe_le_coe_iff.mpr (zpow_le_zpow_right₀ (by norm_num) (by omega))

/-- One step of the search: keep the bit when the word with the bit is not above the magnitude. -/
def fstep (a : Ideal .f32) (b f : BitVec 32) : BitVec 32 :=
  Scalar.select (FloatOps.cmpf (F := Ideal) (φ := .f32) .oge a (FloatOps.ofBits (F := Ideal) .f32 (IntOp.shli .vector (IntOp.addi f b) 23#32)))
    (IntOp.addi f b) f

/-- One step of the binary search: the bit is set if the number reaches the power of two of the larger field. -/
theorem fstep_eq (a : EReal) (n k : ℕ) (h : n + k ≤ 255) :
    fstep a (BitVec.ofNat 32 k) (BitVec.ofNat 32 n) = BitVec.ofNat 32 (if pw (n + k) ≤ a then n + k else n) := by
  have e : IntOp.addi (BitVec.ofNat 32 n) (BitVec.ofNat 32 k) = BitVec.ofNat 32 (n + k) := by
    show BitVec.ofNat 32 n + BitVec.ofNat 32 k = _
    rw [BitVec.ofNat_add]
  have e2 : IntOp.shli .vector (BitVec.ofNat 32 (n + k)) 23#32 = BitVec.ofNat 32 (n + k) <<< 23 := rfl
  unfold fstep
  rw [e, e2]
  show Scalar.select (Ideal.cmp .oge a (Ideal.ofBits .f32 (BitVec.ofNat 32 (n + k) <<< 23))) _ _ = _
  rw [ofBits_field _ h]
  unfold Scalar.select Ideal.cmp
  by_cases hp : pw (n + k) ≤ a
  · simp [hp]
  · simp [hp]

/-- What a step keeps: the field's word is not above the magnitude, and the word past the open range is. -/
theorem fstep_inv (a : EReal) (n k : ℕ) (hk0 : 0 < k) (hk : n + 2 * k ≤ 256) (lo : pw n ≤ a) (hi : n + 2 * k = 256 ∨ a < pw (n + 2 * k)) :
    ∃ n', fstep a (BitVec.ofNat 32 k) (BitVec.ofNat 32 n) = BitVec.ofNat 32 n' ∧ n' + k ≤ 256 ∧ pw n' ≤ a
      ∧ (n' + k = 256 ∨ a < pw (n' + k)) := by
  refine ⟨_, fstep_eq a n k (by omega), ?_⟩
  by_cases hp : pw (n + k) ≤ a
  · rw [if_pos hp]
    refine ⟨by omega, hp, ?_⟩
    rcases hi with hi | hi
    · left; omega
    · right; rwa [add_assoc, ← two_mul]
  · rw [if_neg hp]
    exact ⟨by omega, lo, Or.inr (not_le.mp hp)⟩

/-- The whole search. -/
def field (a : Ideal .f32) : BitVec 32 :=
  fstep a 1#32 (fstep a 2#32 (fstep a 4#32 (fstep a 8#32 (fstep a 16#32 (fstep a 32#32 (fstep a 64#32 (fstep a 128#32 0#32)))))))

/-- The search finds the greatest field whose word is not above the magnitude. -/
theorem field_spec (a : EReal) (ha : 0 ≤ a) : ∃ n, field a = BitVec.ofNat 32 n ∧ n ≤ 255 ∧ pw n ≤ a ∧ (n = 255 ∨ a < pw (n + 1)) := by
  obtain ⟨n1, e1, b1, l1, u1⟩ := fstep_inv a 0 128 (by norm_num) (by norm_num) (by simpa [pw] using ha) (Or.inl rfl)
  obtain ⟨n2, e2, b2, l2, u2⟩ := fstep_inv a n1 64 (by norm_num) b1 l1 u1
  obtain ⟨n3, e3, b3, l3, u3⟩ := fstep_inv a n2 32 (by norm_num) b2 l2 u2
  obtain ⟨n4, e4, b4, l4, u4⟩ := fstep_inv a n3 16 (by norm_num) b3 l3 u3
  obtain ⟨n5, e5, b5, l5, u5⟩ := fstep_inv a n4 8 (by norm_num) b4 l4 u4
  obtain ⟨n6, e6, b6, l6, u6⟩ := fstep_inv a n5 4 (by norm_num) b5 l5 u5
  obtain ⟨n7, e7, b7, l7, u7⟩ := fstep_inv a n6 2 (by norm_num) b6 l6 u6
  obtain ⟨n8, e8, b8, l8, u8⟩ := fstep_inv a n7 1 (by norm_num) b7 l7 u7
  refine ⟨n8, ?_, by omega, l8, u8.imp (fun h => by omega) id⟩
  unfold field
  rw [e1, e2, e3, e4, e5, e6, e7, e8]

/-- The kernel's exponent, from a magnitude `a` and the number `h` it came from: the field less 126, but 0 for the two end
    fields and for a number that is 0. -/
def kexp (h a : Ideal .f32) : BitVec 32 :=
  Scalar.select (FloatOps.cmpf (F := Ideal) (φ := .f32) .oeq h (Scalar.ofBits .f32 0x00000000#32)) 0#32
    (Scalar.select (IntOp.ori (IntOp.cmpi .eq (field a) 0#32) (IntOp.cmpi .eq (field a) 255#32)) 0#32
      (IntOp.subi (field a) 126#32))

/-- The kernel's power of two: the exponent plus 127, cut to the field's range, put in the exponent's place. -/
def kpow (e : BitVec 32) : Ideal .f32 :=
  FloatOps.ofBits (F := Ideal) .f32 (IntOp.shli .vector (IntOp.minsi 255#32 (IntOp.maxsi 0#32 (IntOp.addi e 127#32))) 23#32)

/-- One of the reference's 256 candidates: the exponent `k - 126` if its power of two lies above the magnitude, else 128. -/
def rterm (a : Ideal .f32) (k : Fin 256) : Ideal .f32 :=
  Scalar.select (IntOp.andi
      (FloatOps.cmpf (F := Ideal) (φ := .f32) .olt a (FloatOps.exp2 (FloatOps.sitofp (F := Ideal) .f32 (IntOp.subi (BitVec.ofNat 32 k.val) 126#32))))
      (FloatOps.cmpf (F := Ideal) (φ := .f32) .olt (FloatOps.sitofp (F := Ideal) .f32 (IntOp.subi (BitVec.ofNat 32 k.val) 126#32))
        (Scalar.ofBits .f32 0x43000000#32)))
    (FloatOps.sitofp (F := Ideal) .f32 (IntOp.subi (BitVec.ofNat 32 k.val) 126#32)) (Scalar.ofBits .f32 0x43000000#32)

/-- The reference's exponent. -/
def rexp (h a : Ideal .f32) : Ideal .f32 :=
  Scalar.select (FloatOps.cmpf (F := Ideal) (φ := .f32) .oeq h (Scalar.ofBits .f32 0x00000000#32)) (Scalar.ofBits .f32 0x00000000#32)
    (Scalar.select (IntOp.ori (FloatOps.cmpf (F := Ideal) (φ := .f32) .olt a (Scalar.ofBits .f32 0x00800000#32))
        (FloatOps.cmpf (F := Ideal) (φ := .f32) .oeq a (Scalar.ofBits .f32 0x7F800000#32)))
      (Scalar.ofBits .f32 0x00000000#32)
      ((Finset.univ : Finset (Fin 256)).fold (FloatOps.minimumf (F := Ideal) (φ := .f32)) (FloatOps.ofBits (F := Ideal) .f32 0x7F800000#32) (rterm a)))

/-- The reference's power of two: 0 below the least normal exponent, infinite above the greatest. -/
def rpow (e : Ideal .f32) : Ideal .f32 :=
  Scalar.select (FloatOps.cmpf (F := Ideal) (φ := .f32) .olt e (Scalar.ofBits .f32 0xC2FC0000#32)) (Scalar.ofBits .f32 0x00000000#32)
    (Scalar.select (FloatOps.cmpf (F := Ideal) (φ := .f32) .ogt e (Scalar.ofBits .f32 0x42FE0000#32)) (Scalar.ofBits .f32 0x7F800000#32)
      (FloatOps.exp2 e))

/-- The constant zero. -/
theorem c0 : (Scalar.ofBits .f32 0x00000000#32 : Ideal .f32) = (0 : EReal) := Ideal.ofBits_zero_f32
/-- The constant infinity. -/
theorem cInf : (Scalar.ofBits .f32 0x7F800000#32 : Ideal .f32) = (⊤ : EReal) := by
  show Ideal.ofBits .f32 0x7F800000#32 = ⊤
  simp [Ideal.ofBits, Ideal.ieee]
/-- The constant of the least normal number. -/
theorem cMin : (Scalar.ofBits .f32 0x00800000#32 : Ideal .f32) = pw 1 := ofBits_field 1 (by norm_num)
/-- The constant 128. -/
theorem c128 : (Scalar.ofBits .f32 0x43000000#32 : Ideal .f32) = (((128 : ℤ) : ℝ) : EReal) := by
  show Ideal.ofBits .f32 0x43000000#32 = _
  simp [Ideal.ofBits, Ideal.ieee, ← EReal.coe_mul]
  norm_num
/-- The constant 127. -/
theorem c127 : (Scalar.ofBits .f32 0x42FE0000#32 : Ideal .f32) = (((127 : ℤ) : ℝ) : EReal) := by
  show Ideal.ofBits .f32 0x42FE0000#32 = _
  simp [Ideal.ofBits, Ideal.ieee, ← EReal.coe_mul]
  norm_num
/-- The constant -126. -/
theorem cm126 : (Scalar.ofBits .f32 0xC2FC0000#32 : Ideal .f32) = (((-126 : ℤ) : ℝ) : EReal) := by
  show Ideal.ofBits .f32 0xC2FC0000#32 = _
  simp [Ideal.ofBits, Ideal.ieee, ← EReal.coe_mul]
  norm_num

/-- Subtracting 126 from a small word does not wrap. -/
theorem sub126 : ∀ k : Fin 256, (IntOp.subi (BitVec.ofNat 32 k.val) 126#32).toInt = (k.val : ℤ) - 126 := by decide +kernel

/-- The power of two at an integer. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

/-- A candidate, in plain terms. -/
theorem rterm_eq (a : EReal) (k : Fin 256) :
    rterm a k = if a < (((2 : ℝ) ^ ((k.val : ℤ) - 126) : ℝ) : EReal) ∧ (k.val : ℤ) - 126 < 128
      then ((((k.val : ℤ) - 126 : ℤ) : ℝ) : EReal) else (((128 : ℤ) : ℝ) : EReal) := by
  have e : FloatOps.sitofp (F := Ideal) .f32 (IntOp.subi (BitVec.ofNat 32 k.val) 126#32) = ((((k.val : ℤ) - 126 : ℤ) : ℝ) : EReal) := by
    show (((IntOp.subi (BitVec.ofNat 32 k.val) 126#32).toInt : ℝ) : EReal) = _
    rw [sub126]
  have e2 : (FloatOps.exp2 (F := Ideal) (φ := .f32) ((((k.val : ℤ) - 126 : ℤ) : ℝ) : EReal) : EReal) = (((2 : ℝ) ^ ((k.val : ℤ) - 126) : ℝ) : EReal) := exp2_int _
  unfold rterm
  rw [e, c128, e2]
  show Scalar.select (Ideal.cmp .olt a _ &&& Ideal.cmp .olt _ _) _ _ = _
  unfold Scalar.select Ideal.cmp
  by_cases h1 : a < (((2 : ℝ) ^ ((k.val : ℤ) - 126) : ℝ) : EReal)
  · by_cases h2 : (k.val : ℤ) - 126 < 128
    · have h3 : ((((k.val : ℤ) - 126 : ℤ) : ℝ) : EReal) < (((128 : ℤ) : ℝ) : EReal) := by
        rw [EReal.coe_lt_coe_iff, Int.cast_lt]; exact h2
      simp only [h1, h2, h3, decide_true, and_self, if_true]
      rfl
    · have h3 : ¬ ((((k.val : ℤ) - 126 : ℤ) : ℝ) : EReal) < (((128 : ℤ) : ℝ) : EReal) := by
        rw [EReal.coe_lt_coe_iff, Int.cast_lt]; exact h2
      simp only [h1, h2, h3, decide_true, decide_false, and_false, if_false]
      rfl
  · simp only [h1, decide_false, false_and, if_false]
    rw [if_neg]
    cases (decide (((((k.val : ℤ) - 126 : ℤ) : ℝ) : EReal) < (((128 : ℤ) : ℝ) : EReal))) <;> decide

/-- Between two neighbouring powers of two the least candidate is the upper exponent. -/
theorem rmin_eq (a : EReal) (n : ℕ) (h1 : 1 ≤ n) (h2 : n ≤ 254) (lo : pw n ≤ a) (hi : a < pw (n + 1)) :
    (Finset.univ : Finset (Fin 256)).fold (FloatOps.minimumf (F := Ideal) (φ := .f32)) (FloatOps.ofBits (F := Ideal) .f32 0x7F800000#32) (rterm a)
      = ((((n : ℤ) - 126 : ℤ) : ℝ) : EReal) := by
  show (Finset.univ : Finset (Fin 256)).fold (min : EReal → EReal → EReal) (Scalar.ofBits .f32 0x7F800000#32 : Ideal .f32) (rterm a) = _
  rw [cInf]
  have hlo : (((2 : ℝ) ^ ((n : ℤ) - 127) : ℝ) : EReal) ≤ a := by
    have := lo; unfold pw at this; rwa [if_neg (by omega), if_neg (by omega)] at this
  apply le_antisymm
  · have hk : n < 256 := by omega
    refine (Finset.fold_min_le _).mpr (Or.inr ⟨⟨n, hk⟩, Finset.mem_univ _, ?_⟩)
    rw [rterm_eq]
    by_cases hn : n = 254
    · rw [if_neg (by rintro ⟨_, h⟩; simp only at h; omega)]
      rw [hn]; norm_num
    · have : a < (((2 : ℝ) ^ ((n : ℤ) - 126) : ℝ) : EReal) := by
        have := hi; unfold pw at this; rw [if_neg (by omega), if_neg (by omega)] at this
        convert this using 3; push_cast; ring
      rw [if_pos ⟨this, by simp only; omega⟩]
  · refine (Finset.le_fold_min _).mpr ⟨le_top, fun k _ => ?_⟩
    rw [rterm_eq]
    split
    · rename_i hc
      rw [EReal.coe_le_coe_iff, Int.cast_le]
      have h3 := lt_of_le_of_lt hlo hc.1
      rw [EReal.coe_lt_coe_iff] at h3
      have := (zpow_lt_zpow_iff_right₀ (by norm_num : (1 : ℝ) < 2)).mp h3
      omega
    · rw [EReal.coe_le_coe_iff, Int.cast_le]
      omega

/-- Both find the same whole exponent. -/
theorem exp_agree (h a : EReal) (ha : 0 ≤ a) : ∃ E : ℤ, -125 ≤ E ∧ E ≤ 128 ∧ kexp h a = BitVec.ofInt 32 E ∧ rexp h a = ((E : ℝ) : EReal) := by
  obtain ⟨n, hf, hn, lo, hi⟩ := field_spec a ha
  unfold kexp rexp
  rw [hf, c0]
  by_cases h0 : h = 0
  · refine ⟨0, by norm_num, by norm_num, ?_, ?_⟩
    · unfold Scalar.select
      rw [if_pos (by show Ideal.cmp .oeq h 0 = 1; unfold Ideal.cmp; simp [h0])]
      rfl
    · unfold Scalar.select
      rw [if_pos (by show Ideal.cmp .oeq h 0 = 1; unfold Ideal.cmp; simp [h0])]
      simp
  · have g0 : ¬ FloatOps.cmpf (F := Ideal) (φ := .f32) .oeq h (0 : EReal) = 1 := by
      show ¬ Ideal.cmp .oeq h 0 = 1
      unfold Ideal.cmp; simp [h0]
    have kf : ∀ n : Fin 256, IntOp.ori (IntOp.cmpi .eq (BitVec.ofNat 32 n.val) 0#32) (IntOp.cmpi .eq (BitVec.ofNat 32 n.val) 255#32)
        = if n.val = 0 ∨ n.val = 255 then 1#1 else 0#1 := by decide +kernel
    have kf' := kf ⟨n, by omega⟩
    dsimp only at kf'
    have rf : IntOp.ori (FloatOps.cmpf (F := Ideal) (φ := .f32) .olt a (Scalar.ofBits .f32 0x00800000#32))
        (FloatOps.cmpf (F := Ideal) (φ := .f32) .oeq a (Scalar.ofBits .f32 0x7F800000#32)) = if n = 0 ∨ n = 255 then 1#1 else 0#1 := by
      rw [cMin, cInf]
      show Ideal.cmp .olt a (pw 1) ||| Ideal.cmp .oeq a ⊤ = _
      unfold Ideal.cmp
      have i1 : (a < pw 1) ↔ n = 0 := by
        constructor
        · intro h
          by_contra hne
          exact absurd (lt_of_le_of_lt ((pw_mono (by omega : 1 ≤ n) hn).trans lo) h) (lt_irrefl _)
        · rintro rfl
          rcases hi with hi | hi
          · omega
          · exact hi
      have i2 : (a = ⊤) ↔ n = 255 := by
        constructor
        · rintro rfl
          rcases hi with hi | hi
          · exact hi
          · exact absurd hi not_top_lt
        · rintro rfl
          exact top_le_iff.mp (by simpa [pw] using lo)
      simp only [i1, i2]
      by_cases q1 : n = 0
      · simp [q1]
      · by_cases q2 : n = 255
        · simp [q2]
        · simp [q1, q2]
    rw [kf', rf]
    by_cases hq : n = 0 ∨ n = 255
    · refine ⟨0, by norm_num, by norm_num, ?_, ?_⟩
      · unfold Scalar.select
        rw [if_neg g0, if_pos hq, if_pos (show (1#1 : BitVec 1) = 1 from rfl)]; rfl
      · unfold Scalar.select
        rw [if_neg g0, if_pos hq, if_pos (show (1#1 : BitVec 1) = 1 from rfl)]; simp
    · refine ⟨(n : ℤ) - 126, by omega, by omega, ?_, ?_⟩
      · unfold Scalar.select
        rw [if_neg g0, if_neg hq, if_neg (by decide)]
        have : ∀ n : Fin 256, IntOp.subi (BitVec.ofNat 32 n.val) 126#32 = BitVec.ofInt 32 ((n.val : ℤ) - 126) := by decide +kernel
        exact this ⟨n, by omega⟩
      · unfold Scalar.select
        rw [if_neg g0, if_neg hq, if_neg (by decide)]
        exact rmin_eq a n (by omega) (by omega) lo (hi.resolve_left (by omega))

/-- On a whole exponent in range both powers of two agree. -/
theorem pow_agree (E : ℤ) (h1 : -128 ≤ E) (h2 : E ≤ 128) : kpow (BitVec.ofInt 32 E) = rpow (((E : ℝ)) : EReal) := by
  have cl : ∀ e : Fin 257, IntOp.minsi 255#32 (IntOp.maxsi 0#32 (IntOp.addi (BitVec.ofInt 32 ((e.val : ℤ) - 128)) 127#32))
      = BitVec.ofNat 32 (e.val - 1) := by decide +kernel
  have cl' := cl ⟨(E + 128).toNat, by omega⟩
  have hE : (((E + 128).toNat : ℕ) : ℤ) - 128 = E := by omega
  dsimp only at cl'
  rw [hE] at cl'
  unfold kpow rpow
  rw [cl', c0, cInf, c127, cm126]
  show Ideal.ofBits .f32 (BitVec.ofNat 32 ((E + 128).toNat - 1) <<< 23) = _
  rw [ofBits_field _ (by omega)]
  show _ = Scalar.select (Ideal.cmp .olt _ _) 0 (Scalar.select (Ideal.cmp .ogt _ _) ⊤ (Ideal.exp2 _))
  rw [exp2_int]
  unfold Scalar.select Ideal.cmp pw
  simp only [EReal.coe_lt_coe_iff, Int.cast_lt]
  by_cases a1 : E < -126
  · rw [if_pos (by omega), if_pos (by simp [a1])]
  · rw [if_neg (c := (BitVec.ofBool (decide (E < -126)) = 1)) (by simp [a1])]
    by_cases a2 : 127 < E
    · rw [if_pos (c := (BitVec.ofBool (decide (127 < E)) = 1)) (by simp [a2]), if_neg (by omega), if_pos (by omega)]
    · rw [if_neg (c := (BitVec.ofBool (decide (127 < E)) = 1)) (by simp [a2])]
      by_cases a3 : E = -126
      · rw [if_neg (by omega), if_neg (by omega)]
        congr 2; omega
      · rw [if_neg (by omega), if_neg (by omega)]
        congr 2; omega

/-- So the kernel's scale is the reference's, -/
theorem scale_agree (h a : EReal) (ha : 0 ≤ a) : kpow (kexp h a) = rpow (rexp h a) := by
  obtain ⟨E, h1, h2, hk, hr⟩ := exp_agree h a ha
  rw [hk, hr]; exact pow_agree E (by omega) h2

/-- and the kernel's inverse scale, from the negated exponent, is the reference's. -/
theorem inv_agree (h a : EReal) (ha : 0 ≤ a) :
    kpow (IntOp.subi 0#32 (kexp h a)) = rpow (FloatOps.subf (F := Ideal) (φ := .f32) (Scalar.ofBits .f32 0x00000000#32) (rexp h a)) := by
  obtain ⟨E, h1, h2, hk, hr⟩ := exp_agree h a ha
  rw [hk, hr, c0]
  have e1 : IntOp.subi 0#32 (BitVec.ofInt 32 E) = BitVec.ofInt 32 (-E) := by
    show 0#32 - BitVec.ofInt 32 E = _
    rw [BitVec.zero_sub, BitVec.ofInt_neg]
  have e2 : (FloatOps.subf (F := Ideal) (φ := .f32) (0 : EReal) ((E : ℝ) : EReal) : EReal) = (((-E : ℤ) : ℝ) : EReal) := by
    show (0 : EReal) - _ = _
    rw [zero_sub]; push_cast; rfl
  rw [e1]
  exact (pow_agree (-E) (by omega) (by omega)).trans (congrArg rpow e2.symm)

/-- A magnitude is not negative. -/
theorem abs_nonneg (x : EReal) : (0 : EReal) ≤ max x (-x) := by
  rcases le_total 0 x with h | h
  · exact h.trans (le_max_left _ _)
  · exact (EReal.neg_nonneg.mpr h).trans (le_max_right _ _)

end Cert.Scale
-- ==== Proof.FwdRefScale.lean ====
/- The reference's three scales and their reciprocals in closed form at the extended reals. -/
module

public import proofs.«01_k».proof.Defs
public import proofs.«01_k».proof.Proof.Gen.FwdReferenceIdeal.Value
public import proofs.«01_k».proof.Proof.FwdScale

@[expose] public section

set_option maxRecDepth 16384

noncomputable section

open Idealize.ShloMosaic Idealize.ShloMosaic.TcCoe Idealize.SL.Sem

namespace Cert.FwdReferenceIdeal.Hand

open Cert.FwdReferenceIdeal Cert.FwdReferenceIdeal.Gen Cert.Scale

/-- A one-entry array has one index. -/
theorem idx11 (i : S1x1.Idx) : i = ix2 0 0 := by
  funext a
  match a with
  | ⟨0, _⟩ => exact Subsingleton.elim (α := Fin 1) _ _
  | ⟨1, _⟩ => exact Subsingleton.elim (α := Fin 1) _ _

/-- The magnitude the exponent is taken of: a row's maximum times the reciprocal of the format's largest number. -/
def mag (c : BitVec 32) (x : Ideal .f32) : Ideal .f32 := FloatOps.absf (FloatOps.mulf x (Scalar.ofBits .f32 c))

/-- A magnitude is not negative. -/
theorem mag_nonneg (c : BitVec 32) (x : Ideal .f32) : (0 : EReal) ≤ mag c x := abs_nonneg _

/-- The largest entry of one row of the history. -/
def hm (h : Vec Ideal S3x16 .f32) (r : Fin 3) : Ideal .f32 := k0_pay2 h (ix2 r 0)

/-- The exponent of one row, as the reference finds it. -/
def re (c : BitVec 32) (h : Vec Ideal S3x16 .f32) (r : Fin 3) : Ideal .f32 := rexp (hm h r) (mag c (hm h r))

/-- A minimum along one axis, as a fold over that axis. -/
theorem min_single {s t : Shape} {a : Fin s.rank} (src : FVec Ideal s .f32) (acc : BitVec 32)
    (h : s.Reduces [a] t) (hφ : FKind.Formats .f32) (hacc : acc = FKind.minimumf.neutral .f32 hφ) (j : t.Idx) :
    multiReduction (F := Ideal) (φ := .f32) .minimumf [a] t src acc h hφ hacc j
      = (Finset.univ : Finset (Fin (s.size a))).fold (FloatOps.minimumf (F := Ideal) (φ := .f32)) (FloatOps.ofBits (F := Ideal) .f32 acc) (src ∘ h.lift j) := by
  rw [multiReduction_minimumf_eq_fold]; exact h.fold_filter_drop_single _ _ src j

/-- The 256 candidates. -/
def cand (a : FVec Ideal S1x1 .f32) : FVec Ideal S1x256 .f32 :=
  select (andi (cmpf .olt (broadcastTo S1x256 a broadcasts_S1x1_S1x256)
      (exp2 (sitofp (F := Ideal) .f32 (subi (iota .tc S1x256 32 [1] iota_S1x256_d1_w32) (broadcast S1x256 126#32)))))
      (cmpf .olt (sitofp (F := Ideal) .f32 (subi (iota .tc S1x256 32 [1] iota_S1x256_d1_w32) (broadcast S1x256 126#32)))
        (broadcast S1x256 (Scalar.ofBits .f32 0x43000000#32 : Ideal .f32))))
    (sitofp (F := Ideal) .f32 (subi (iota .tc S1x256 32 [1] iota_S1x256_d1_w32) (broadcast S1x256 126#32)))
    (broadcast S1x256 (Scalar.ofBits .f32 0x43000000#32 : Ideal .f32))

/-- Lifting puts the given coordinate on the reduced axis. -/
theorem lift_self {s t : Shape} {a : Fin s.rank} (h : s.Reduces [a] t) (j : t.Idx) (k : Fin (s.size a)) : (h.lift j k a).val = k.val := by
  rw [Shape.Reduces.lift_val]
  unfold Shape.Reduces.liftVal
  rw [dif_pos rfl]

/-- The candidate exponent at a place: that place's exponent if its power of two exceeds the number, 128 if not. -/
theorem cand_apply (a : FVec Ideal S1x1 .f32) (j : S1.Idx) (k : Fin 256) :
    cand a (Shape.Reduces.lift reduces_S1x256_S1 j k) = rterm (a (ix2 0 0)) k := by
  have hb : (broadcastTo S1x256 a broadcasts_S1x1_S1x256) (Shape.Reduces.lift reduces_S1x256_S1 j k) = a (ix2 0 0) :=
    congrArg a (idx11 _)
  have hi : iota .tc S1x256 32 [1] iota_S1x256_d1_w32 (Shape.Reduces.lift reduces_S1x256_S1 j k) = BitVec.ofNat 32 k.val := by
    have e : 0 * 256 + (Shape.Reduces.lift reduces_S1x256_S1 j k 1).val = k.val := by
      rw [Nat.zero_mul, Nat.zero_add]
      exact lift_self reduces_S1x256_S1 j k
    exact congrArg (BitVec.ofNat 32) e
  unfold cand rterm
  rw [← hb, ← hi]
  rfl

/-- The minimum over the candidates. -/
theorem min_cand (a : FVec Ideal S1x1 .f32) (hφ hacc) (j : S1.Idx) :
    multiReduction .minimumf [1] S1 (cand a) 0x7F800000#32 reduces_S1x256_S1 hφ hacc j
      = (Finset.univ : Finset (Fin 256)).fold (FloatOps.minimumf (F := Ideal) (φ := .f32)) (FloatOps.ofBits (F := Ideal) .f32 0x7F800000#32) (rterm (a (ix2 0 0))) := by
  rw [min_single]
  exact congrArg (Finset.fold _ _ · (Finset.univ : Finset (Fin 256))) (funext fun k => cand_apply a j k)

/-- The maximum of the history's second row. -/
theorem pay9_apply (h : Vec Ideal S3x16 .f32) (i) : k0_pay9 (k0_pay2 h) i = hm h 1 := by
  rw [idx11 i]
  unfold k0_pay9 hm
  unfold extractStridedSlice
  congr 1
  funext a
  match a with
  | ⟨0, _⟩ => rfl
  | ⟨1, _⟩ => rfl
/-- The maximum of the history's third row. -/
theorem pay18_apply (h : Vec Ideal S3x16 .f32) (i) : k0_pay18 (k0_pay2 h) i = hm h 2 := by
  rw [idx11 i]
  unfold k0_pay18 hm
  unfold extractStridedSlice
  congr 1
  funext a
  match a with
  | ⟨0, _⟩ => rfl
  | ⟨1, _⟩ => rfl
/-- The maximum of the history's first row. -/
theorem slice0_apply (h : Vec Ideal S3x16 .f32) (i) : extractStridedSlice S1x1 ![0, 0] (k0_pay2 h) slices_S3x1_o0_0_S1x1 i = hm h 0 := by
  rw [idx11 i]
  unfold hm
  unfold extractStridedSlice
  congr 1
  funext a
  match a with
  | ⟨0, _⟩ => rfl
  | ⟨1, _⟩ => rfl

/-- The exponent as a block operation: of a one-entry block and its magnitude. -/
def reV (x a : FVec Ideal S1x1 .f32) : FVec Ideal S1x1 .f32 :=
  select (cmpf .oeq x (broadcast S1x1 (Scalar.ofBits .f32 0x00000000#32 : Ideal .f32))) (broadcast S1x1 (Scalar.ofBits .f32 0x00000000#32))
    (select (ori (cmpf .olt a (broadcast S1x1 (Scalar.ofBits .f32 0x00800000#32))) (cmpf .oeq a (broadcast S1x1 (Scalar.ofBits .f32 0x7F800000#32))))
      (broadcast S1x1 (Scalar.ofBits .f32 0x00000000#32))
      (shapeCast S1x1 (multiReduction .minimumf [1] S1 (cand a) 0x7F800000#32 reduces_S1x256_S1 (.inl rfl) rfl) shapeCasts_S1_S1x1))

/-- The exponent of a one-entry array, at its place. -/
theorem reV_apply (x a : FVec Ideal S1x1 .f32) (i) : reV x a i = rexp (x i) (a i) := by
  have h1 : shapeCast S1x1 (multiReduction .minimumf [1] S1 (cand a) 0x7F800000#32 reduces_S1x256_S1 (.inl rfl) rfl) shapeCasts_S1_S1x1 i
      = (Finset.univ : Finset (Fin 256)).fold (FloatOps.minimumf (F := Ideal) (φ := .f32)) (FloatOps.ofBits (F := Ideal) .f32 0x7F800000#32) (rterm (a i)) := by
    rw [show a i = a (ix2 0 0) from congrArg a (idx11 i)]
    exact min_cand a _ _ _
  unfold rexp
  rw [← h1]
  rfl

/-- The reference's exponent for the input, at its one place. -/
theorem e0_apply (h : Vec Ideal S3x16 .f32) (i) : k0_pay4 h i = re 0x3B124925#32 h 0 := by
  refine (show k0_pay4 h i = reV (extractStridedSlice S1x1 ![0, 0] (k0_pay2 h) slices_S3x1_o0_0_S1x1)
    (absf (mulf (extractStridedSlice S1x1 ![0, 0] (k0_pay2 h) slices_S3x1_o0_0_S1x1) (broadcast S1x1 (Scalar.ofBits .f32 0x3B124925#32)))) i from congrFun (by unfold k0_pay4 reV cand; rfl) i).trans ?_
  rw [reV_apply]
  unfold re
  rw [← slice0_apply h i]
  rfl
/-- The reference's exponent for the weight, at its one place. -/
theorem e1_apply (h : Vec Ideal S3x16 .f32) (i) :
    k0_pay14 (k0_pay9 (k0_pay2 h)) (k0_pay11 (k0_pay2 h)) (k0_pay12 (k0_pay2 h)) (k0_pay13 (k0_pay2 h)) i = re 0x3B124925#32 h 1 := by
  refine (show _ = reV (k0_pay9 (k0_pay2 h)) (absf (mulf (k0_pay9 (k0_pay2 h)) (broadcast S1x1 (Scalar.ofBits .f32 0x3B124925#32)))) i from congrFun (by unfold k0_pay14 k0_pay11 k0_pay12 k0_pay13 k0_pay10 reV cand; rfl) i).trans ?_
  rw [reV_apply]
  unfold re
  rw [← pay9_apply h i]
  rfl
/-- The reference's exponent for the gradient, at its one place. -/
theorem e2_apply (h : Vec Ideal S3x16 .f32) (i) :
    k0_pay20 (k0_pay18 (k0_pay2 h)) (k0_pay19 (k0_pay2 h)) (iota .tc S1x256 32 [1] iota_S1x256_d1_w32) 126#32 i = re 0x37924925#32 h 2 := by
  refine (show _ = reV (k0_pay18 (k0_pay2 h)) (absf (mulf (k0_pay18 (k0_pay2 h)) (broadcast S1x1 (Scalar.ofBits .f32 0x37924925#32)))) i from congrFun (by unfold k0_pay20 k0_pay19 reV cand; rfl) i).trans ?_
  rw [reV_apply]
  unfold re
  rw [← pay18_apply h i]
  rfl

/-! ## The scales and their reciprocals -/

/-- The reference's 2^(-e). -/
def ri (c : BitVec 32) (h : Vec Ideal S3x16 .f32) (r : Fin 3) : Ideal .f32 :=
  rpow (FloatOps.subf (Scalar.ofBits .f32 0x00000000#32) (re c h r))

/-- A value scaled and clamped to a range. -/
def clip (lo hi v s : Ideal .f32) : Ideal .f32 := FloatOps.minimumf hi (FloatOps.maximumf lo (FloatOps.mulf v s))

/-- The reference's scale of the input. -/
def sc0 (h : Vec Ideal S3x16 .f32) : FVec Ideal S1x1 .f32 := k0_pay7 (k0_pay5 h) (k0_pay6 h) (Scalar.ofBits .f32 0x00000000#32)
/-- The reference's scale of the weight. -/
def sc1 (h : Vec Ideal S3x16 .f32) : FVec Ideal S1x1 .f32 :=
  k0_pay15 (k0_pay9 (k0_pay2 h)) (k0_pay11 (k0_pay2 h)) (k0_pay12 (k0_pay2 h)) (k0_pay13 (k0_pay2 h))
/-- The reference's scale of the output gradient. -/
def sc2 (h : Vec Ideal S3x16 .f32) : FVec Ideal S1x1 .f32 :=
  k0_pay21 (k0_pay18 (k0_pay2 h)) (k0_pay19 (k0_pay2 h)) (iota .tc S1x256 32 [1] iota_S1x256_d1_w32) 126#32
/-- The reference's codes of the input. -/
def xcR (h : Vec Ideal S3x16 .f32) (x : Vec Ideal S16384x4352 .bf16) : FVec Ideal S16384x4352 .fp8e4m3 := k0_pay8 (k0_pay3 x) (k0_pay4 h)
/-- The reference's codes of the weight. -/
def wcR (h : Vec Ideal S3x16 .f32) (w : Vec Ideal S1792x4352 .bf16) : FVec Ideal S1792x4352 .fp8e4m3 :=
  k0_pay16 w (k0_pay9 (k0_pay2 h)) (k0_pay11 (k0_pay2 h)) (k0_pay12 (k0_pay2 h)) (k0_pay13 (k0_pay2 h))
/-- The reference's codes of the output gradient. -/
def dcR (h : Vec Ideal S3x16 .f32) (d : Vec Ideal S16384x1792 .bf16) : FVec Ideal S16384x1792 .fp8e5m2 :=
  k0_pay26 (k0_pay22 (k0_pay17 d))
    (k0_pay24 (k0_pay18 (k0_pay2 h)) (k0_pay19 (k0_pay2 h)) (iota .tc S1x256 32 [1] iota_S1x256_d1_w32) 126#32)
    (k0_pay25 (k0_pay18 (k0_pay2 h)) (k0_pay19 (k0_pay2 h)) (iota .tc S1x256 32 [1] iota_S1x256_d1_w32) 126#32)
    (Scalar.ofBits .f32 0x00000000#32)
/-- The reference's first result. -/
def yR (h : Vec Ideal S3x16 .f32) (x : Vec Ideal S16384x4352 .bf16) (w : Vec Ideal S1792x4352 .bf16) : FVec Ideal S16384x1792 .bf16 :=
  k0_pay27 (sc0 h) (xcR h x) (sc1 h) (wcR h w)
/-- The reference's second result. -/
def dxR (h : Vec Ideal S3x16 .f32) (d : Vec Ideal S16384x1792 .bf16) (w : Vec Ideal S1792x4352 .bf16) : FVec Ideal S16384x4352 .bf16 :=
  k0_pay28 (sc1 h) (wcR h w) (sc2 h) (k0_pay22 (k0_pay17 d))
    (k0_pay24 (k0_pay18 (k0_pay2 h)) (k0_pay19 (k0_pay2 h)) (iota .tc S1x256 32 [1] iota_S1x256_d1_w32) 126#32)
    (k0_pay25 (k0_pay18 (k0_pay2 h)) (k0_pay19 (k0_pay2 h)) (iota .tc S1x256 32 [1] iota_S1x256_d1_w32) 126#32)
    (Scalar.ofBits .f32 0x00000000#32)

/-- A power of two as a block operation. -/
def rpowV (e : FVec Ideal S1x1 .f32) : FVec Ideal S1x1 .f32 :=
  select (cmpf .olt e (broadcast S1x1 (Scalar.ofBits .f32 0xC2FC0000#32 : Ideal .f32))) (broadcast S1x1 (Scalar.ofBits .f32 0x00000000#32 : Ideal .f32))
    (select (cmpf .ogt e (broadcast S1x1 (Scalar.ofBits .f32 0x42FE0000#32 : Ideal .f32))) (broadcast S1x1 (Scalar.ofBits .f32 0x7F800000#32 : Ideal .f32)) (exp2 e))

/-- The power of two of a one-entry array, at its place. -/
theorem rpowV_apply (e : FVec Ideal S1x1 .f32) (i) : rpowV e i = rpow (e i) := rfl

/-- The reference's scale of the input, at its one place. -/
theorem sc0_apply (h : Vec Ideal S3x16 .f32) (i) : sc0 h i = rpow (re 0x3B124925#32 h 0) := by
  rw [← e0_apply h i, ← rpowV_apply]
  unfold sc0 rpowV k0_pay7 k0_pay5 k0_pay6
  rfl
/-- The reference's scale of the weight, at its one place. -/
theorem sc1_apply (h : Vec Ideal S3x16 .f32) (i) : sc1 h i = rpow (re 0x3B124925#32 h 1) := by
  rw [← e1_apply h i, ← rpowV_apply]
  unfold sc1 rpowV k0_pay15
  rfl
/-- The reference's scale of the gradient, at its one place. -/
theorem sc2_apply (h : Vec Ideal S3x16 .f32) (i) : sc2 h i = rpow (re 0x37924925#32 h 2) := by
  rw [← e2_apply h i, ← rpowV_apply]
  unfold sc2 rpowV k0_pay21
  rfl

/-- The negated exponent as a block operation. -/
def negV (e : FVec Ideal S1x1 .f32) : FVec Ideal S1x1 .f32 := subf (broadcast S1x1 (Scalar.ofBits .f32 0x00000000#32 : Ideal .f32)) e

/-- Widening the input changes no value. -/
theorem pay3_apply (x : Vec Ideal S16384x4352 .bf16) (i : S16384x4352.Idx) : k0_pay3 x i = x i := by
  unfold k0_pay3
  rw [shapeCast_self]
/-- Widening the gradient changes no value. -/
theorem pay17_apply (x : Vec Ideal S16384x1792 .bf16) (i : S16384x1792.Idx) : k0_pay17 x i = x i := by
  unfold k0_pay17
  rw [shapeCast_self]

/-- A code at a place: the value times the reciprocal scale, clamped. -/
theorem xcR_apply (h : Vec Ideal S3x16 .f32) (x : Vec Ideal S16384x4352 .bf16) (i : S16384x4352.Idx) :
    xcR h x i = clip (Scalar.ofBits .f32 0xC3E00000#32) (Scalar.ofBits .f32 0x43E00000#32) (x i) (ri 0x3B124925#32 h 0) := by
  have e : rpowV (negV (k0_pay4 h)) (ix2 0 0) = ri 0x3B124925#32 h 0 := by
    rw [rpowV_apply]; unfold ri; rw [← e0_apply h (ix2 0 0)]; rfl
  have e' : broadcastTo S16384x4352 (rpowV (negV (k0_pay4 h))) broadcasts_S1x1_S16384x4352 i = ri 0x3B124925#32 h 0 :=
    (congrArg (rpowV (negV (k0_pay4 h))) (idx11 _)).trans e
  rw [← e', ← pay3_apply x i]
  unfold xcR k0_pay8 rpowV negV clip
  rfl
/-- The reference's code of the weight at a place: the clipped product. -/
theorem wcR_apply (h : Vec Ideal S3x16 .f32) (x : Vec Ideal S1792x4352 .bf16) (i : S1792x4352.Idx) :
    wcR h x i = clip (Scalar.ofBits .f32 0xC3E00000#32) (Scalar.ofBits .f32 0x43E00000#32) (x i) (ri 0x3B124925#32 h 1) := by
  have e : rpowV (negV (k0_pay14 (k0_pay9 (k0_pay2 h)) (k0_pay11 (k0_pay2 h)) (k0_pay12 (k0_pay2 h)) (k0_pay13 (k0_pay2 h)))) (ix2 0 0)
      = ri 0x3B124925#32 h 1 := by
    rw [rpowV_apply]; unfold ri; rw [← e1_apply h (ix2 0 0)]; rfl
  have e' : broadcastTo S1792x4352 (rpowV (negV (k0_pay14 (k0_pay9 (k0_pay2 h)) (k0_pay11 (k0_pay2 h)) (k0_pay12 (k0_pay2 h)) (k0_pay13 (k0_pay2 h)))))
      broadcasts_S1x1_S1792x4352 i = ri 0x3B124925#32 h 1 := (congrArg (rpowV _) (idx11 _)).trans e
  rw [← e']
  unfold wcR k0_pay16 rpowV negV clip
  rfl
/-- The reference's code of the gradient at a place: the clipped product. -/
theorem dcR_apply (h : Vec Ideal S3x16 .f32) (x : Vec Ideal S16384x1792 .bf16) (i : S16384x1792.Idx) :
    dcR h x i = clip (Scalar.ofBits .f32 0xC7600000#32) (Scalar.ofBits .f32 0x47600000#32) (x i) (ri 0x37924925#32 h 2) := by
  have e : rpowV (negV (k0_pay20 (k0_pay18 (k0_pay2 h)) (k0_pay19 (k0_pay2 h)) (iota .tc S1x256 32 [1] iota_S1x256_d1_w32) 126#32)) (ix2 0 0)
      = ri 0x37924925#32 h 2 := by
    rw [rpowV_apply]; unfold ri; rw [← e2_apply h (ix2 0 0)]; rfl
  have e' : broadcastTo S16384x1792 (rpowV (negV (k0_pay20 (k0_pay18 (k0_pay2 h)) (k0_pay19 (k0_pay2 h)) (iota .tc S1x256 32 [1] iota_S1x256_d1_w32) 126#32)))
      broadcasts_S1x1_S16384x1792 i = ri 0x37924925#32 h 2 := (congrArg (rpowV _) (idx11 _)).trans e
  rw [← e', ← pay17_apply x i]
  unfold dcR k0_pay26 k0_pay25 k0_pay24 k0_pay23 k0_pay22 rpowV negV clip
  rfl

/-- The first result at a place: a row of codes against a row of codes, times both scales. -/
theorem yR_apply (h : Vec Ideal S3x16 .f32) (x : Vec Ideal S16384x4352 .bf16) (w : Vec Ideal S1792x4352 .bf16) (j : S16384x1792.Idx) :
    yR h x w j = (∑ k : Fin 4352, (xcR h x (ix2 (j 0) k) : EReal) * (wcR h w (ix2 (j 1) k) : EReal)) * ((sc0 h (ix2 0 0) : EReal) * (sc1 h (ix2 0 0) : EReal)) := by
  unfold yR
  generalize xcR h x = a
  generalize wcR h w = b
  generalize sc0 h = s
  generalize sc1 h = s'
  unfold k0_pay27
  idx_vars j
  pointwise
/-- The second result at a place. -/
theorem dxR_apply (h : Vec Ideal S3x16 .f32) (d : Vec Ideal S16384x1792 .bf16) (w : Vec Ideal S1792x4352 .bf16) (j : S16384x4352.Idx) :
    dxR h d w j = (∑ k : Fin 1792, (dcR h d (ix2 (j 0) k) : EReal) * (wcR h w (ix2 k (j 1)) : EReal)) * ((sc2 h (ix2 0 0) : EReal) * (sc1 h (ix2 0 0) : EReal)) := by
  unfold dxR k0_pay28
  rw [show k0_pay26 (k0_pay22 (k0_pay17 d))
    (k0_pay24 (k0_pay18 (k0_pay2 h)) (k0_pay19 (k0_pay2 h)) (iota .tc S1x256 32 [1] iota_S1x256_d1_w32) 126#32)
    (k0_pay25 (k0_pay18 (k0_pay2 h)) (k0_pay19 (k0_pay2 h)) (iota .tc S1x256 32 [1] iota_S1x256_d1_w32) 126#32)
    (Scalar.ofBits .f32 0x00000000#32) = dcR h d from rfl]
  generalize dcR h d = a
  generalize wcR h w = b
  generalize sc2 h = s
  generalize sc1 h = s'
  idx_vars j
  pointwise

end Cert.FwdReferenceIdeal.Hand
-- ==== Proof.FwdRefHist.lean ====
/- The reference's new history of maxima, entry by entry, at the extended reals. -/
module

public import proofs.«01_k».proof.Proof.FwdRefScale

@[expose] public section

set_option maxRecDepth 16384

noncomputable section

open Idealize.ShloMosaic Idealize.ShloMosaic.TcCoe Idealize.SL.Sem

namespace Cert.FwdReferenceIdeal.Hand

open Cert.FwdReferenceIdeal Cert.FwdReferenceIdeal.Gen Cert.Scale

/-- The largest magnitude of the input. -/
def amX (x : FVec Ideal S16384x4352 .f32) : FVec Ideal S1x1 .f32 :=
  shapeCast S1x1 (multiReduction .maximumf [0] S1 (shapeCast S16384x1 (multiReduction .maximumf [1] S16384 (absf x) 0xFF800000#32
    reduces_S16384x4352_S16384 (.inl rfl) rfl) shapeCasts_S16384_S16384x1) 0xFF800000#32 reduces_S16384x1_S1 (.inl rfl) rfl) shapeCasts_S1_S1x1
/-- The largest magnitude of the weight. -/
def amW (x : FVec Ideal S1792x4352 .f32) : FVec Ideal S1x1 .f32 :=
  shapeCast S1x1 (multiReduction .maximumf [0] S1 (shapeCast S1792x1 (multiReduction .maximumf [1] S1792 (absf x) 0xFF800000#32
    reduces_S1792x4352_S1792 (.inl rfl) rfl) shapeCasts_S1792_S1792x1) 0xFF800000#32 reduces_S1792x1_S1 (.inl rfl) rfl) shapeCasts_S1_S1x1
/-- The largest magnitude of the output gradient. -/
def amD (x : FVec Ideal S16384x1792 .f32) : FVec Ideal S1x1 .f32 :=
  shapeCast S1x1 (multiReduction .maximumf [0] S1 (shapeCast S16384x1 (multiReduction .maximumf [1] S16384 (absf x) 0xFF800000#32
    reduces_S16384x1792_S16384 (.inl rfl) rfl) shapeCasts_S16384_S16384x1) 0xFF800000#32 reduces_S16384x1_S1 (.inl rfl) rfl) shapeCasts_S1_S1x1

/-- Negative infinity. -/
theorem cNInf : (FloatOps.ofBits (F := Ideal) .f32 0xFF800000#32 : EReal) = ⊥ := by
  show Ideal.ofBits .f32 0xFF800000#32 = ⊥
  simp [Ideal.ofBits, Ideal.ieee]

/-- The upper bounds of the input's largest magnitude. -/
theorem amX_le (x : FVec Ideal S16384x4352 .f32) (c : EReal) :
    (amX x (ix2 0 0) : EReal) ≤ c ↔ ∀ (p : Fin 16384) (q : Fin 4352), max (x (ix2 p q) : EReal) (-(x (ix2 p q) : EReal)) ≤ c := by
  have e : (amX x (ix2 0 0) : EReal) = Finset.univ.fold max (⊥ : EReal) (fun p : Fin 16384 =>
      Finset.univ.fold max (⊥ : EReal) (fun q : Fin 4352 => max (x (ix2 p q) : EReal) (-(x (ix2 p q) : EReal)))) := by
    rw [← cNInf]
    unfold amX
    pointwise
    rfl
  rw [e, Finset.fold_max_le]
  simp [Finset.fold_max_le]
/-- The upper bounds of the weight's largest magnitude. -/
theorem amW_le (x : FVec Ideal S1792x4352 .f32) (c : EReal) :
    (amW x (ix2 0 0) : EReal) ≤ c ↔ ∀ (p : Fin 1792) (q : Fin 4352), max (x (ix2 p q) : EReal) (-(x (ix2 p q) : EReal)) ≤ c := by
  have e : (amW x (ix2 0 0) : EReal) = Finset.univ.fold max (⊥ : EReal) (fun p : Fin 1792 =>
      Finset.univ.fold max (⊥ : EReal) (fun q : Fin 4352 => max (x (ix2 p q) : EReal) (-(x (ix2 p q) : EReal)))) := by
    rw [← cNInf]
    unfold amW
    pointwise
    rfl
  rw [e, Finset.fold_max_le]
  simp [Finset.fold_max_le]
/-- The upper bounds of the gradient's largest magnitude. -/
theorem amD_le (x : FVec Ideal S16384x1792 .f32) (c : EReal) :
    (amD x (ix2 0 0) : EReal) ≤ c ↔ ∀ (p : Fin 16384) (q : Fin 1792), max (x (ix2 p q) : EReal) (-(x (ix2 p q) : EReal)) ≤ c := by
  have e : (amD x (ix2 0 0) : EReal) = Finset.univ.fold max (⊥ : EReal) (fun p : Fin 16384 =>
      Finset.univ.fold max (⊥ : EReal) (fun q : Fin 1792 => max (x (ix2 p q) : EReal) (-(x (ix2 p q) : EReal)))) := by
    rw [← cNInf]
    unfold amD
    pointwise
    rfl
  rw [e, Finset.fold_max_le]
  simp [Finset.fold_max_le]

/-- The new history, from the arrays and the kept part of the old one. -/
def nhR (x : FVec Ideal S16384x4352 .f32) (w : FVec Ideal S1792x4352 .f32) (d : FVec Ideal S16384x1792 .f32) (o : FVec Ideal S3x15 .f32) : FVec Ideal S3x16 .f32 :=
  concatenate S3x16 1 [⟨S3x1, concatenate S3x1 0 [⟨S1x1, amX x⟩, ⟨S1x1, amW w⟩, ⟨S1x1, amD d⟩] concatenates_S1x1_S1x1_S1x1_S3x1_d0⟩, ⟨S3x15, o⟩]
    concatenates_S3x1_S3x15_S3x16_d1

/-- The array stored as new history is this one. -/
theorem pay1_eq (x : Vec Ideal S16384x4352 .bf16) (w : Vec Ideal S1792x4352 .bf16) (d : Vec Ideal S16384x1792 .bf16) (o : Vec Ideal S3x15 .f32) :
    k0_pay1 (F := Ideal) (k0_pay32 x) w d o = nhR x w d o := by
  unfold k0_pay1 k0_pay32 nhR amX amW amD
  rw [shapeCast_self, shapeCast_self]
  rfl

/-- The first column of the new history: the three largest magnitudes. -/
theorem nhR_zero (x : FVec Ideal S16384x4352 .f32) (w : FVec Ideal S1792x4352 .f32) (d : FVec Ideal S16384x1792 .f32) (o : FVec Ideal S3x15 .f32) (r : Fin 3) :
    nhR x w d o (ix2 r 0) = (if r.val = 0 then amX x else if r.val = 1 then amW w else amD d) (ix2 0 0) := by
  unfold nhR
  generalize amX x = a
  generalize amW w = b
  generalize amD d = e
  fin_cases r <;> pointwise

/-- The other columns: the old history, moved by one. -/
theorem nhR_succ (x : FVec Ideal S16384x4352 .f32) (w : FVec Ideal S1792x4352 .f32) (d : FVec Ideal S16384x1792 .f32) (o : FVec Ideal S3x15 .f32) (r : Fin 3) (k : Fin 15) :
    nhR x w d o (ix2 r k.succ) = o (ix2 r k) := by
  unfold nhR
  generalize amX x = a
  generalize amW w = b
  generalize amD d = e
  pointwise
  rw [dif_neg (by simp)]
  rfl

end Cert.FwdReferenceIdeal.Hand
-- ==== Proof.FwdMax.lean ====
/- The forward kernel's three maxima: each is the reference's maximum of the whole operand, at the extended reals. -/
module

public import proofs.«01_k».proof.Proof.FwdAmax
public import proofs.«01_k».proof.Proof.FwdRefHist

@[expose] public section

set_option maxRecDepth 16384

noncomputable section

open Idealize.ShloMosaic Idealize.ShloMosaic.TcCoe Idealize.SL.Sem

namespace Cert.FwdIdeal.Hand

open Cert.FwdIdeal Cert.FwdIdeal.Gen

variable (m : (ℓ : Loc nD τ sig) → Buf (Elt Ideal) ℓ)

/-- A maximum over a finite family, started at the bottom, by its upper bounds. -/
theorem fold_le {n : ℕ} (f : Fin n → EReal) (c : EReal) : Finset.univ.fold max (⊥ : EReal) f ≤ c ↔ ∀ k, f k ≤ c := by
  rw [Finset.fold_max_le]
  simp

/-- A magnitude is not negative. -/
theorem ab_nonneg (x : EReal) : 0 ≤ ab x := Cert.Scale.abs_nonneg x

/-- The upper bounds of the running maxima after one more block of the input: those of the maxima before that also bound every magnitude
    of the block. -/
theorem step0_le (r : Vec Ideal S1x16x128 .bf16) (x : Vec Ideal S512x4352 .bf16) (c : EReal) :
    (∀ p q, (step0 r x (ix3 0 p q) : EReal) ≤ c) ↔ (∀ p q, (r (ix3 0 p q) : EReal) ≤ c) ∧ ∀ (a : Fin 512) (b : Fin 4352), ab (x (ix2 a b)) ≤ c := by
  constructor
  · intro h
    have hs : ∀ p q, (r (ix3 0 p q) : EReal) ≤ c ∧ ∀ l, l ≤ 33 → at4 (k0_pay59 x) p (128 * l + q.val) ≤ c := fun p q => by
      have := h p q
      rw [step0_apply, max_le_iff, mx_le] at this
      exact this
    refine ⟨fun p q => (hs p q).1, fun a b => ?_⟩
    have := (hs ⟨a.val % 16, by omega⟩ ⟨b.val % 128, by omega⟩).2 (b.val / 128) (by omega)
    rw [show 128 * (b.val / 128) + (b.val % 128) = b.val from Nat.div_add_mod _ _, ← at4_eq _ _ _ b.isLt, pay59_apply, fold_le] at this
    have h2 := this ⟨a.val / 16, by omega⟩
    have e : (⟨16 * (a.val / 16) + a.val % 16, by omega⟩ : Fin 512) = a := Fin.ext (Nat.div_add_mod _ _)
    rw [show (⟨b.val, b.isLt⟩ : Fin 4352) = b from rfl] at h2
    rw [← e]
    exact h2
  · rintro ⟨h1, h2⟩ p q
    rw [step0_apply, max_le_iff, mx_le]
    refine ⟨h1 p q, fun l hl => ?_⟩
    rw [← at4_eq _ _ _ (by omega : 128 * l + q.val < 4352), pay59_apply, fold_le]
    exact fun k => h2 _ _

/-- The upper bounds of the running maxima after one more block of the weight: those of the maxima before that also bound every magnitude
    of the block. -/
theorem step1_le (r : Vec Ideal S1x16x128 .bf16) (x : Vec Ideal S128x4352 .bf16) (c : EReal) :
    (∀ p q, (step1 r x (ix3 0 p q) : EReal) ≤ c) ↔ (∀ p q, (r (ix3 0 p q) : EReal) ≤ c) ∧ ∀ (a : Fin 128) (b : Fin 4352), ab (x (ix2 a b)) ≤ c := by
  constructor
  · intro h
    have hs : ∀ p q, (r (ix3 0 p q) : EReal) ≤ c ∧ ∀ l, l ≤ 33 → at4 (k0_pay9 x) p (128 * l + q.val) ≤ c := fun p q => by
      have := h p q
      rw [step1_apply, max_le_iff, mx_le] at this
      exact this
    refine ⟨fun p q => (hs p q).1, fun a b => ?_⟩
    have := (hs ⟨a.val % 16, by omega⟩ ⟨b.val % 128, by omega⟩).2 (b.val / 128) (by omega)
    rw [show 128 * (b.val / 128) + (b.val % 128) = b.val from Nat.div_add_mod _ _, ← at4_eq _ _ _ b.isLt, pay9_apply, fold_le] at this
    have h2 := this ⟨a.val / 16, by omega⟩
    have e : (⟨16 * (a.val / 16) + a.val % 16, by omega⟩ : Fin 128) = a := Fin.ext (Nat.div_add_mod _ _)
    rw [show (⟨b.val, b.isLt⟩ : Fin 4352) = b from rfl] at h2
    rw [← e]
    exact h2
  · rintro ⟨h1, h2⟩ p q
    rw [step1_apply, max_le_iff, mx_le]
    refine ⟨h1 p q, fun l hl => ?_⟩
    rw [← at4_eq _ _ _ (by omega : 128 * l + q.val < 4352), pay9_apply, fold_le]
    exact fun k => h2 _ _

/-- The upper bounds of the running maxima after one more block of the gradient: those of the maxima before that also bound every magnitude
    of the block. -/
theorem step2_le (r : Vec Ideal S1x16x128 .bf16) (x : Vec Ideal S512x1792 .bf16) (c : EReal) :
    (∀ p q, (step2 r x (ix3 0 p q) : EReal) ≤ c) ↔ (∀ p q, (r (ix3 0 p q) : EReal) ≤ c) ∧ ∀ (a : Fin 512) (b : Fin 1792), ab (x (ix2 a b)) ≤ c := by
  constructor
  · intro h
    have hs : ∀ p q, (r (ix3 0 p q) : EReal) ≤ c ∧ ∀ l, l ≤ 13 → at1 (red2 (k0_pay55 x)) p (128 * l + q.val) ≤ c := fun p q => by
      have := h p q
      rw [step2_apply, max_le_iff, mx_le] at this
      exact this
    refine ⟨fun p q => (hs p q).1, fun a b => ?_⟩
    have := (hs ⟨a.val % 16, by omega⟩ ⟨b.val % 128, by omega⟩).2 (b.val / 128) (by omega)
    rw [show 128 * (b.val / 128) + (b.val % 128) = b.val from Nat.div_add_mod _ _, ← at1_eq _ _ _ b.isLt, red2_apply, fold_le] at this
    have h2 := this ⟨a.val / 16, by omega⟩
    have e : (⟨16 * (a.val / 16) + a.val % 16, by omega⟩ : Fin 512) = a := Fin.ext (Nat.div_add_mod _ _)
    rw [show (⟨b.val, b.isLt⟩ : Fin 1792) = b from rfl] at h2
    rw [← e]
    exact h2
  · rintro ⟨h1, h2⟩ p q
    rw [step2_apply, max_le_iff, mx_le]
    refine ⟨h1 p q, fun l hl => ?_⟩
    rw [← at1_eq _ _ _ (by omega : 128 * l + q.val < 1792), red2_apply, fold_le]
    exact fun k => h2 _ _

/-- The running maxima start at zero. -/
theorem rz_apply (p : Fin 16) (q : Fin 128) : ((rz : Vec Ideal S1x16x128 .bf16) (ix3 0 p q) : EReal) = 0 := by
  unfold rz k0_pay52
  pointwise

/-- The upper bounds of the starting row. -/
theorem rz_le (c : EReal) : (∀ (p : Fin 16) (q : Fin 128), ((rz : Vec Ideal S1x16x128 .bf16) (ix3 0 p q) : EReal) ≤ c) ↔ 0 ≤ c := by
  constructor
  · intro h
    have := h 0 0
    rwa [rz_apply] at this
  · intro h p q
    rw [rz_apply]
    exact h

/-- The last reduction, by its upper bounds. -/
theorem pay4_le (r : Vec Ideal S1x16x128 .bf16) (c : EReal) : (k0_pay4 r (ix2 0 0) : EReal) ≤ c ↔ ∀ p q, (r (ix3 0 p q) : EReal) ≤ c := by
  rw [pay4_apply, fold_le]
  constructor
  · intro h p q
    have := h q
    rw [fold_le] at this
    exact this p
  · intro h q
    rw [fold_le]
    exact fun p => h p q

/-- The running maxima before point `n` bound the magnitudes of all blocks before it. -/
theorem acc0_le (c : Dev nD) (C : EReal) : ∀ (n : ℕ) (h : n ≤ cfg0.N),
    (∀ p q, (acc0 m c n h (ix3 0 p q) : EReal) ≤ C) ↔ 0 ≤ C ∧ ∀ t : Fin cfg0.N, t.val < n → ∀ a b, ab (xB m c t (ix2 a b)) ≤ C
  | 0, h => by
    rw [acc0_zero m c 0 h rfl, rz_le]
    exact ⟨fun h => ⟨h, fun t ht => absurd ht (Nat.not_lt_zero _)⟩, fun h => h.1⟩
  | n + 1, h => by
    rw [show acc0 m c (n + 1) h = step0 (acc0 m c n (Nat.le_of_succ_le h)) (xB m c ⟨n, h⟩) from rfl, step0_le, acc0_le c C n (Nat.le_of_succ_le h)]
    constructor
    · rintro ⟨⟨h0, h1⟩, h2⟩
      refine ⟨h0, fun t ht => ?_⟩
      rcases Nat.lt_or_ge t.val n with hn | hn
      · exact h1 t hn
      · obtain rfl : t = ⟨n, h⟩ := Fin.ext (show t.val = n by omega)
        exact h2
    · rintro ⟨h0, h1⟩
      exact ⟨⟨h0, fun t ht => h1 t (Nat.lt_succ_of_lt ht)⟩, h1 ⟨n, h⟩ (Nat.lt_succ_self n)⟩

/-- The running maxima before point `n` bound the magnitudes of all blocks before it. -/
theorem acc2_le (c : Dev nD) (C : EReal) : ∀ (n : ℕ) (h : n ≤ cfg0.N),
    (∀ p q, (acc2 m c n h (ix3 0 p q) : EReal) ≤ C) ↔ 0 ≤ C ∧ ∀ t : Fin cfg0.N, t.val < n → ∀ a b, ab (dyB m c t (ix2 a b)) ≤ C
  | 0, h => by
    rw [acc2_zero m c 0 h rfl, rz_le]
    exact ⟨fun h => ⟨h, fun t ht => absurd ht (Nat.not_lt_zero _)⟩, fun h => h.1⟩
  | n + 1, h => by
    rw [show acc2 m c (n + 1) h = step2 (acc2 m c n (Nat.le_of_succ_le h)) (dyB m c ⟨n, h⟩) from rfl, step2_le, acc2_le c C n (Nat.le_of_succ_le h)]
    constructor
    · rintro ⟨⟨h0, h1⟩, h2⟩
      refine ⟨h0, fun t ht => ?_⟩
      rcases Nat.lt_or_ge t.val n with hn | hn
      · exact h1 t hn
      · obtain rfl : t = ⟨n, h⟩ := Fin.ext (show t.val = n by omega)
        exact h2
    · rintro ⟨h0, h1⟩
      exact ⟨⟨h0, fun t ht => h1 t (Nat.lt_succ_of_lt ht)⟩, h1 ⟨n, h⟩ (Nat.lt_succ_self n)⟩

/-- The same for the weight, chunk by chunk. -/
theorem fold1_le (w : Vec Ideal S1792x4352 .bf16) (C : EReal) : ∀ n : ℕ,
    (∀ p q, (fold1 w rz n (ix3 0 p q) : EReal) ≤ C) ↔ 0 ≤ C ∧ ∀ k : ℕ, k < n → ∀ a b, ab (chunk w k (ix2 a b)) ≤ C
  | 0 => by
    rw [show fold1 w rz 0 = rz from rfl, rz_le]
    exact ⟨fun h => ⟨h, fun t ht => absurd ht (Nat.not_lt_zero _)⟩, fun h => h.1⟩
  | n + 1 => by
    rw [show fold1 w rz (n + 1) = step1 (fold1 w rz n) (chunk w n) from rfl, step1_le, fold1_le w C n]
    constructor
    · rintro ⟨⟨h0, h1⟩, h2⟩
      refine ⟨h0, fun t ht => ?_⟩
      rcases Nat.lt_or_ge t n with hn | hn
      · exact h1 t hn
      · obtain rfl : t = n := by omega
        exact h2
    · rintro ⟨h0, h1⟩
      exact ⟨⟨h0, fun t ht => h1 t (Nat.lt_succ_of_lt ht)⟩, h1 n (Nat.lt_succ_self n)⟩

/-- The input's maximum: if the blocks are the rows of `X`, the last reduction gives the reference's maximum of `X`. -/
theorem amax0 (c : Dev nD) (X : Vec Ideal S16384x4352 .bf16)
    (hB : ∀ (t : Fin cfg0.N) (a : Fin 512) (b : Fin 4352) (h : 512 * t.val + a.val < 16384), xB m c t (ix2 a b) = X (ix2 ⟨512 * t.val + a.val, h⟩ b))
    (n : ℕ) (hn : n ≤ cfg0.N) (h32 : n = 32) :
    (k0_pay4 (acc0 m c n hn) (ix2 0 0) : EReal) = Cert.FwdReferenceIdeal.Hand.amX X (ix2 0 0) := by
  have hN : cfg0.N = 32 := N_0
  refine eq_of_forall_ge_iff fun C => ?_
  rw [pay4_le, acc0_le, Cert.FwdReferenceIdeal.Hand.amX_le]
  constructor
  · rintro ⟨-, h⟩ p q
    have := h ⟨p.val / 512, by omega⟩ (by dsimp only; omega) ⟨p.val % 512, by omega⟩ q
    rw [hB _ _ _ (by dsimp only; omega)] at this
    have e : (⟨512 * (p.val / 512) + p.val % 512, by omega⟩ : Fin 16384) = p := Fin.ext (Nat.div_add_mod _ _)
    rw [← e]
    exact this
  · intro h
    refine ⟨(ab_nonneg _).trans (h 0 0), fun t _ a b => ?_⟩
    rw [hB t a b (by omega)]
    exact h _ _

/-- The gradient's maximum. -/
theorem amax2 (c : Dev nD) (D : Vec Ideal S16384x1792 .bf16)
    (hB : ∀ (t : Fin cfg0.N) (a : Fin 512) (b : Fin 1792) (h : 512 * t.val + a.val < 16384), dyB m c t (ix2 a b) = D (ix2 ⟨512 * t.val + a.val, h⟩ b))
    (n : ℕ) (hn : n ≤ cfg0.N) (h32 : n = 32) :
    (k0_pay6 (acc2 m c n hn) (ix2 0 0) : EReal) = Cert.FwdReferenceIdeal.Hand.amD D (ix2 0 0) := by
  have hN : cfg0.N = 32 := N_0
  rw [pay6_eq]
  refine eq_of_forall_ge_iff fun C => ?_
  rw [pay4_le, acc2_le, Cert.FwdReferenceIdeal.Hand.amD_le]
  constructor
  · rintro ⟨-, h⟩ p q
    have := h ⟨p.val / 512, by omega⟩ (by dsimp only; omega) ⟨p.val % 512, by omega⟩ q
    rw [hB _ _ _ (by dsimp only; omega)] at this
    have e : (⟨512 * (p.val / 512) + p.val % 512, by omega⟩ : Fin 16384) = p := Fin.ext (Nat.div_add_mod _ _)
    rw [← e]
    exact this
  · intro h
    refine ⟨(ab_nonneg _).trans (h 0 0), fun t _ a b => ?_⟩
    rw [hB t a b (by omega)]
    exact h _ _

/-- The weight's maximum. -/
theorem amax1 (w : Vec Ideal S1792x4352 .bf16) :
    (k0_pay5 (fold1 w rz 14) (ix2 0 0) : EReal) = Cert.FwdReferenceIdeal.Hand.amW w (ix2 0 0) := by
  rw [pay5_eq]
  refine eq_of_forall_ge_iff fun C => ?_
  rw [pay4_le, fold1_le, Cert.FwdReferenceIdeal.Hand.amW_le]
  constructor
  · rintro ⟨-, h⟩ p q
    have := h (p.val / 128) (by omega) ⟨p.val % 128, by omega⟩ q
    have e : (⟨(128 * (p.val / 128) + p.val % 128) % 1792, by omega⟩ : Fin 1792) = p := Fin.ext (by dsimp only; omega)
    rw [← e]
    exact this
  · intro h
    exact ⟨(ab_nonneg _).trans (h 0 0), fun k _ a b => h _ _⟩

end Cert.FwdIdeal.Hand
-- ==== Proof.FwdKernelScale.lean ====
/- The eight words of the kernel's scales, and the three stored scales, in closed form at the extended reals. -/
module

public import proofs.«01_k».proof.Proof.FwdBody
public import proofs.«01_k».proof.Proof.FwdScale

@[expose] public section

set_option maxRecDepth 16384

noncomputable section

open Idealize.ShloMosaic Idealize.ShloMosaic.TcCoe Idealize.SL.Sem

namespace Cert.FwdIdeal.Hand

open Cert.FwdIdeal Cert.FwdIdeal.Gen Cert.Scale

/-- The one index of a one-by-one block. -/
def i0 : S1x1.Idx := fun a => ⟨(![0, 0] : Fin 2 → ℕ) a, inpos_S1x1_p0_0 a⟩

/-- A one-entry array has one index. -/
theorem idx11 (i : S1x1.Idx) : i = ix2 0 0 := by
  funext a
  match a with
  | ⟨0, _⟩ => exact Subsingleton.elim (α := Fin 1) _ _
  | ⟨1, _⟩ => exact Subsingleton.elim (α := Fin 1) _ _

/-- The magnitude the exponent is taken of: a row's maximum times the reciprocal of the format's largest number. -/
def mag (c : BitVec 32) (x : Ideal .f32) : Ideal .f32 := FloatOps.absf (FloatOps.mulf x (Scalar.ofBits .f32 c))

/-- A magnitude is not negative. -/
theorem mag_nonneg (c : BitVec 32) (x : Ideal .f32) : (0 : EReal) ≤ mag c x := abs_nonneg _

/-- The largest entry of one row of the history. -/
def hm (h : Vec Ideal S3x16 .f32) (r : Fin 3) : Ideal .f32 := k0_pay11 h (ix2 r 0)

/-- The maximum of the history's first row. -/
theorem pay12_i0 (h : Vec Ideal S3x16 .f32) : k0_pay12 h i0 = hm h 0 := by
  unfold k0_pay12 hm
  unfold extractStridedSlice
  congr 1
  funext a
  match a with
  | ⟨0, _⟩ => rfl
  | ⟨1, _⟩ => rfl
/-- The maximum of the history's second row. -/
theorem pay25_i0 (h : Vec Ideal S3x16 .f32) : k0_pay25 (k0_pay11 h) i0 = hm h 1 := by
  unfold k0_pay25 hm
  unfold extractStridedSlice
  congr 1
  funext a
  match a with
  | ⟨0, _⟩ => rfl
  | ⟨1, _⟩ => rfl
/-- The maximum of the history's third row. -/
theorem pay37_i0 (h : Vec Ideal S3x16 .f32) : k0_pay37 (k0_pay11 h) i0 = hm h 2 := by
  unfold k0_pay37 hm
  unfold extractStridedSlice
  congr 1
  funext a
  match a with
  | ⟨0, _⟩ => rfl
  | ⟨1, _⟩ => rfl

/-- The exponent of one row, as the kernel finds it. -/
def ke (c : BitVec 32) (h : Vec Ideal S3x16 .f32) (r : Fin 3) : BitVec 32 := kexp (hm h r) (mag c (hm h r))

/-- The input's scale is the power of two at the exponent of its largest magnitude. -/
theorem w0_eq (h : Vec Ideal S3x16 .f32) : w0 h = kpow (ke 0x3B124925#32 h 0) := by
  unfold ke
  rw [← pay12_i0]
  rfl
/-- The input's scale is the power of two at the exponent of its largest magnitude. -/
theorem s0_eq (h : Vec Ideal S3x16 .f32) : s0 h = kpow (ke 0x3B124925#32 h 0) := by
  unfold ke
  rw [← pay12_i0]
  rfl
/-- Its reciprocal is the power of two at the negated exponent. -/
theorem w3_eq (h : Vec Ideal S3x16 .f32) : w3 h = kpow (IntOp.subi 0#32 (ke 0x3B124925#32 h 0)) := by
  unfold ke
  rw [← pay12_i0]
  rfl
/-- The weight's scale is the power of two at the exponent of its largest magnitude. -/
theorem w1_eq (h : Vec Ideal S3x16 .f32) : w1 h = kpow (ke 0x3B124925#32 h 1) := by
  unfold ke
  rw [← pay25_i0]
  rfl
/-- The weight's scale is the power of two at the exponent of its largest magnitude. -/
theorem s1_eq (h : Vec Ideal S3x16 .f32) : s1 h = kpow (ke 0x3B124925#32 h 1) := by
  unfold ke
  rw [← pay25_i0]
  rfl
/-- Its reciprocal is the power of two at the negated exponent. -/
theorem w4_eq (h : Vec Ideal S3x16 .f32) : w4 h = kpow (IntOp.subi 0#32 (ke 0x3B124925#32 h 1)) := by
  unfold ke
  rw [← pay25_i0]
  rfl
/-- The gradient's scale is the power of two at the exponent of its largest magnitude. -/
theorem w2_eq (h : Vec Ideal S3x16 .f32) : w2 h = kpow (ke 0x37924925#32 h 2) := by
  unfold ke
  rw [← pay37_i0]
  rfl
/-- The gradient's scale is the power of two at the exponent of its largest magnitude. -/
theorem s2_eq (h : Vec Ideal S3x16 .f32) : s2 h = kpow (ke 0x37924925#32 h 2) := by
  unfold ke
  rw [← pay37_i0]
  rfl
/-- Its reciprocal is the power of two at the negated exponent. -/
theorem w5_eq (h : Vec Ideal S3x16 .f32) : w5 h = kpow (IntOp.subi 0#32 (ke 0x37924925#32 h 2)) := by
  unfold ke
  rw [← pay37_i0]
  rfl
/-- Word 6 is the product of words 0 and 1. -/
theorem w6_eq (h : Vec Ideal S3x16 .f32) : w6 h = FloatOps.mulf (w0 h) (w1 h) := rfl
/-- Word 7 is the product of words 2 and 1. -/
theorem w7_eq (h : Vec Ideal S3x16 .f32) : w7 h = FloatOps.mulf (w2 h) (w1 h) := rfl

end Cert.FwdIdeal.Hand
-- ==== Proof.FwdRefOut.lean ====
/- What the reference's one pass leaves in each of its results, as a term of its four inputs. -/
module

public import proofs.«01_k».proof.Proof.FwdRefHist
public import Idealize.ShloMosaic.Lib.Pipeline.ValueKit
public import Idealize.ShloMosaic.Lib.Tactic
public import Idealize.ShloMosaic.Lib.WritesUnit

@[expose] public section

set_option maxRecDepth 16384

noncomputable section

open Idealize.ShloMosaic Idealize.ShloMosaic.TcCoe Idealize.SL.Sem

namespace Cert.FwdReferenceIdeal.Hand

open Cert.FwdReferenceIdeal Cert.FwdReferenceIdeal.Gen Cert.Scale

/-- The zero offset on two axes. -/
theorem hz : (![0, 0] : Fin 2 → Nat) = fun _ => 0 := funext fun a => by fin_cases a <;> rfl

/-- The reference's body leaves this in window 4: y. -/
theorem outR_4 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_4 (F := Ideal) c a0 h0 a1 h1 a2 h2 a3 h3 a4 h4 a5 h5 a6 h6 a7 h7 a8 h8 a9 h9 a10 h10 x0 x1 x2 x3 = yR x0 x1 x2 := by
  unfold out0_A_4
  rw [View.read_writes_eq_canon _ _ _ (cover0_A_4 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rfl

/-- The reference's body leaves this in window 5: dx. -/
theorem outR_5 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_5 (F := Ideal) c a0 h0 a1 h1 a2 h2 a3 h3 a4 h4 a5 h5 a6 h6 a7 h7 a8 h8 a9 h9 a10 h10 x0 x1 x2 x3 = dxR x0 x3 x2 := by
  unfold out0_A_5
  rw [View.read_writes_eq_canon _ _ _ (cover0_A_5 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rfl

/-- The reference's body leaves this in window 6: the input's codes. -/
theorem outR_6 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_6 (F := Ideal) c a0 h0 a1 h1 a2 h2 a3 h3 a4 h4 a5 h5 a6 h6 a7 h7 a8 h8 a9 h9 a10 h10 x0 x1 x2 x3 = xcR x0 x1 := by
  unfold out0_A_6
  rw [View.read_writes_eq_canon _ _ _ (cover0_A_6 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rfl

/-- The reference's body leaves this in window 7: the weight's codes. -/
theorem outR_7 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_7 (F := Ideal) c a0 h0 a1 h1 a2 h2 a3 h3 a4 h4 a5 h5 a6 h6 a7 h7 a8 h8 a9 h9 a10 h10 x0 x1 x2 x3 = wcR x0 x2 := by
  unfold out0_A_7
  rw [View.read_writes_eq_canon _ _ _ (cover0_A_7 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rfl

/-- The reference's body leaves this in window 8: the gradient's codes. -/
theorem outR_8 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_8 (F := Ideal) c a0 h0 a1 h1 a2 h2 a3 h3 a4 h4 a5 h5 a6 h6 a7 h7 a8 h8 a9 h9 a10 h10 x0 x1 x2 x3 = dcR x0 x3 := by
  unfold out0_A_8
  rw [View.read_writes_eq_canon _ _ _ (cover0_A_8 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rfl

/-- Three one-word pieces of a three-word array. -/
theorem read_words3 {κ : Kind} {sp : Space} (v : View sig κ sp S3 .f32) (f : v.ty.Contents (Elt Ideal)) (a0 a1 a2 : Elt Ideal .f32) (i0 i1 i2) :
    v.read (Elt Ideal) (v.writes (Elt Ideal) f [⟨Rect.unit ![2] S1.size i2, fun _ => a2⟩, ⟨Rect.unit ![1] S1.size i1, fun _ => a1⟩, ⟨Rect.unit ![0] S1.size i0, fun _ => a0⟩]) = fun y =>
      if (y 0).val = 0 then a0 else if (y 0).val = 1 then a1 else a2 := by
  funext y
  have hy : (y 0).val < 3 := (y 0).isLt
  by_cases h2 : (y 0).val = 2
  · rw [View.read_writes_cons_unit_of_mem v f i2 _ _ y (ix1 0) rfl (fun a => by obtain rfl : a = 0 := Subsingleton.elim _ _; show (y 0).val = 2 + 0; omega), if_neg (by omega), if_neg (by omega)]
  rw [View.read_writes_cons_unit_of_not_mem v f i2 _ _ y rfl 0 (by show (y 0).val < 2 ∨ 2 + 1 ≤ (y 0).val; omega)]
  by_cases h1 : (y 0).val = 1
  · rw [View.read_writes_cons_unit_of_mem v f i1 _ _ y (ix1 0) rfl (fun a => by obtain rfl : a = 0 := Subsingleton.elim _ _; show (y 0).val = 1 + 0; omega), if_neg (by omega), if_pos h1]
  rw [View.read_writes_cons_unit_of_not_mem v f i1 _ _ y rfl 0 (by show (y 0).val < 1 ∨ 1 + 1 ≤ (y 0).val; omega)]
  rw [View.read_writes_cons_unit_of_mem v f i0 _ _ y (ix1 0) rfl (fun a => by obtain rfl : a = 0 := Subsingleton.elim _ _; show (y 0).val = 0 + 0; omega)]
  rw [if_pos (by omega)]

/-- The three scales, as the array of three words. -/
def scR (h : Vec Ideal S3x16 .f32) : Vec Ideal S3 .f32 := fun y =>
  if (y 0).val = 0 then sc0 h (ix2 0 0) else if (y 0).val = 1 then sc1 h (ix2 0 0) else sc2 h (ix2 0 0)

/-- The reference's body leaves this in window 9: the scales. -/
theorem outR_9 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_9 (F := Ideal) c a0 h0 a1 h1 a2 h2 a3 h3 a4 h4 a5 h5 a6 h6 a7 h7 a8 h8 a9 h9 a10 h10 x0 x1 x2 x3 = scR x0 := by
  unfold out0_A_9
  unfold kernelRun0_A
  dsimp only
  sl_unfold_words
  refine (read_words3 _ _ _ _ _ _ _ _).trans ?_
  simp only [View.readAt_eq_ld, h0.read_unread, View.ld_unit_zero (S := S3x16) hz]
  rfl

/-- The first fifteen columns of the history. -/
def oldR (h : Vec Ideal S3x16 .f32) : Vec Ideal S3x15 .f32 := fun y => h (ix2 (y 0) (Fin.castSucc (y 1)))

/-- The reference's body leaves this in window 10: the new history. -/
theorem outR_10 (c : Dev nD) (a0 h0 a1 h1 a2 h2 a3 h3 a4 h4 a5 h5 a6 h6 a7 h7 a8 h8 a9 h9 a10 h10)
    (x0 : Vec Ideal S3x16 .f32) (x1 : Vec Ideal S16384x4352 .bf16) (x2 : Vec Ideal S1792x4352 .bf16) (x3 : Vec Ideal S16384x1792 .bf16) :
    out0_A_10 (F := Ideal) c a0 h0 a1 h1 a2 h2 a3 h3 a4 h4 a5 h5 a6 h6 a7 h7 a8 h8 a9 h9 a10 h10 x0 x1 x2 x3 = nhR x1 x2 x3 (oldR x0) := by
  unfold out0_A_10
  rw [View.read_writes_eq_canon _ _ _ (cover0_A_10 c a0 h0 a1 h1 a2 h2 a3 h3 a4 h4 a5 h5 a6 h6 a7 h7 a8 h8 a9 h9 a10 h10 x0 x1 x2 x3)]
  unfold kernelRun0_A
  dsimp only
  sl_unfold_words
  rw [View.canon_unit_zero hz]
  simp only [View.readAt_eq_ld, h0.read_unread, h1.read_unread, h2.read_unread, h3.read_unread, View.ld_unit_zero (S := S3x16) hz,
    View.ld_unit_zero (S := S16384x4352) hz, View.ld_unit_zero (S := S1792x4352) hz, View.ld_unit_zero (S := S16384x1792) hz]
  rw [pay1_eq]
  congr 1
  funext y
  unfold View.ld oldR
  congr 1
  funext a
  apply Fin.ext
  match a with
  | ⟨0, _⟩ => show 0 + 1 * (y 0).val = (y 0).val; omega
  | ⟨1, _⟩ => show 0 + 1 * (y 1).val = (y 1).val; omega

end Cert.FwdReferenceIdeal.Hand
-- ==== Proof.FwdTerms.lean ====
/- The forward kernel's scales, codes and products at a place, set beside the reference's. -/
module

public import proofs.«01_k».proof.Proof.FwdKernelScale
public import proofs.«01_k».proof.Proof.FwdRefOut

@[expose] public section

set_option maxRecDepth 16384

noncomputable section

open Idealize.ShloMosaic Idealize.ShloMosaic.TcCoe Idealize.SL.Sem

namespace Cert.FwdIdeal.Hand

open Cert.FwdIdeal Cert.FwdIdeal.Gen Cert.Scale

/-- Both programs take the same row maxima of the history. -/
theorem hm_eq (h : Vec Ideal S3x16 .f32) (r : Fin 3) : hm h r = Cert.FwdReferenceIdeal.Hand.hm h r := by
  unfold hm Cert.FwdReferenceIdeal.Hand.hm k0_pay11 Cert.FwdReferenceIdeal.Gen.k0_pay2
  rfl

/-- A power of two from the kernel's exponent is the one from the reference's. -/
theorem pow_eq (c : BitVec 32) (h : Vec Ideal S3x16 .f32) (r : Fin 3) :
    kpow (ke c h r) = rpow (Cert.FwdReferenceIdeal.Hand.re c h r) := by
  unfold ke Cert.FwdReferenceIdeal.Hand.re
  rw [← hm_eq]
  exact scale_agree _ _ (mag_nonneg c (hm h r))

/-- … and so for the reciprocal. -/
theorem ipow_eq (c : BitVec 32) (h : Vec Ideal S3x16 .f32) (r : Fin 3) :
    kpow (IntOp.subi 0#32 (ke c h r)) = Cert.FwdReferenceIdeal.Hand.ri c h r := by
  unfold ke Cert.FwdReferenceIdeal.Hand.ri Cert.FwdReferenceIdeal.Hand.re
  rw [← hm_eq]
  exact inv_agree _ _ (mag_nonneg c (hm h r))

/-- The stored scale of the input is the reference's. -/
theorem s0_ref (h : Vec Ideal S3x16 .f32) : s0 h = Cert.FwdReferenceIdeal.Hand.sc0 h (ix2 0 0) :=
  (s0_eq h).trans ((pow_eq _ h 0).trans (Cert.FwdReferenceIdeal.Hand.sc0_apply h _).symm)
/-- The stored scale of the weight is the reference's. -/
theorem s1_ref (h : Vec Ideal S3x16 .f32) : s1 h = Cert.FwdReferenceIdeal.Hand.sc1 h (ix2 0 0) :=
  (s1_eq h).trans ((pow_eq _ h 1).trans (Cert.FwdReferenceIdeal.Hand.sc1_apply h _).symm)
/-- The stored scale of the gradient is the reference's. -/
theorem s2_ref (h : Vec Ideal S3x16 .f32) : s2 h = Cert.FwdReferenceIdeal.Hand.sc2 h (ix2 0 0) :=
  (s2_eq h).trans ((pow_eq _ h 2).trans (Cert.FwdReferenceIdeal.Hand.sc2_apply h _).symm)
/-- The scale word of the input is the reference's scale. -/
theorem w0_ref (h : Vec Ideal S3x16 .f32) : w0 h = Cert.FwdReferenceIdeal.Hand.sc0 h (ix2 0 0) :=
  (w0_eq h).trans ((pow_eq _ h 0).trans (Cert.FwdReferenceIdeal.Hand.sc0_apply h _).symm)
/-- The scale word of the weight is the reference's scale. -/
theorem w1_ref (h : Vec Ideal S3x16 .f32) : w1 h = Cert.FwdReferenceIdeal.Hand.sc1 h (ix2 0 0) :=
  (w1_eq h).trans ((pow_eq _ h 1).trans (Cert.FwdReferenceIdeal.Hand.sc1_apply h _).symm)
/-- The scale word of the gradient is the reference's scale. -/
theorem w2_ref (h : Vec Ideal S3x16 .f32) : w2 h = Cert.FwdReferenceIdeal.Hand.sc2 h (ix2 0 0) :=
  (w2_eq h).trans ((pow_eq _ h 2).trans (Cert.FwdReferenceIdeal.Hand.sc2_apply h _).symm)
/-- The reciprocal word of the input is the reference's reciprocal. -/
theorem w3_ref (h : Vec Ideal S3x16 .f32) : w3 h = Cert.FwdReferenceIdeal.Hand.ri 0x3B124925#32 h 0 := (w3_eq h).trans (ipow_eq _ h 0)
/-- The reciprocal word of the weight is the reference's reciprocal. -/
theorem w4_ref (h : Vec Ideal S3x16 .f32) : w4 h = Cert.FwdReferenceIdeal.Hand.ri 0x3B124925#32 h 1 := (w4_eq h).trans (ipow_eq _ h 1)
/-- The reciprocal word of the gradient is the reference's reciprocal. -/
theorem w5_ref (h : Vec Ideal S3x16 .f32) : w5 h = Cert.FwdReferenceIdeal.Hand.ri 0x37924925#32 h 2 := (w5_eq h).trans (ipow_eq _ h 2)
/-- Word 6 is the product of the reference's scales of input and weight. -/
theorem w6_ref (h : Vec Ideal S3x16 .f32) :
    w6 h = (Cert.FwdReferenceIdeal.Hand.sc0 h (ix2 0 0) : EReal) * (Cert.FwdReferenceIdeal.Hand.sc1 h (ix2 0 0) : EReal) := by
  rw [w6_eq, w0_ref, w1_ref]
  rfl
/-- Word 7 is the product of the reference's scales of gradient and weight. -/
theorem w7_ref (h : Vec Ideal S3x16 .f32) :
    w7 h = (Cert.FwdReferenceIdeal.Hand.sc2 h (ix2 0 0) : EReal) * (Cert.FwdReferenceIdeal.Hand.sc1 h (ix2 0 0) : EReal) := by
  rw [w7_eq, w2_ref, w1_ref]
  rfl

/-- -448 in both formats is one number. -/
theorem lo43 : (Scalar.ofBits .bf16 0xC3E0#16 : Ideal .bf16) = (Scalar.ofBits .f32 0xC3E00000#32 : Ideal .f32) := by
  show Ideal.ofBits .bf16 0xC3E0#16 = Ideal.ofBits .f32 0xC3E00000#32
  simp [Ideal.ofBits, Ideal.ieee, ← EReal.coe_mul]; norm_num
/-- 448 in both formats is one number. -/
theorem hi43 : (Scalar.ofBits .bf16 0x43E0#16 : Ideal .bf16) = (Scalar.ofBits .f32 0x43E00000#32 : Ideal .f32) := by
  show Ideal.ofBits .bf16 0x43E0#16 = Ideal.ofBits .f32 0x43E00000#32
  simp [Ideal.ofBits, Ideal.ieee, ← EReal.coe_mul]; norm_num
/-- -57344 in both formats is one number. -/
theorem lo52 : (Scalar.ofBits .bf16 0xC760#16 : Ideal .bf16) = (Scalar.ofBits .f32 0xC7600000#32 : Ideal .f32) := by
  show Ideal.ofBits .bf16 0xC760#16 = Ideal.ofBits .f32 0xC7600000#32
  simp [Ideal.ofBits, Ideal.ieee, ← EReal.coe_mul]; norm_num
/-- 57344 in both formats is one number. -/
theorem hi52 : (Scalar.ofBits .bf16 0x4760#16 : Ideal .bf16) = (Scalar.ofBits .f32 0x47600000#32 : Ideal .f32) := by
  show Ideal.ofBits .bf16 0x4760#16 = Ideal.ofBits .f32 0x47600000#32
  simp [Ideal.ofBits, Ideal.ieee, ← EReal.coe_mul]; norm_num

/-- The codes of a block of the input, at a place. -/
theorem xqV_apply (h : Vec Ideal S3x16 .f32) (x : Vec Ideal S512x4352 .bf16) (i : S512x4352.Idx) :
    xqV (scV h) x i = Cert.FwdReferenceIdeal.Hand.clip (Scalar.ofBits .f32 0xC3E00000#32) (Scalar.ofBits .f32 0x43E00000#32) (x i)
      (Cert.FwdReferenceIdeal.Hand.ri 0x3B124925#32 h 0) := by
  rw [← w3_ref, ← lo43, ← hi43]
  unfold xqV k0_pay56 k0_pay54
  rw [shapeCast_self]
  rfl
/-- The codes of a block of the output gradient, at a place. -/
theorem dyqV_apply (h : Vec Ideal S3x16 .f32) (x : Vec Ideal S512x1792 .bf16) (i : S512x1792.Idx) :
    dyqV (scV h) x i = Cert.FwdReferenceIdeal.Hand.clip (Scalar.ofBits .f32 0xC7600000#32) (Scalar.ofBits .f32 0x47600000#32) (x i)
      (Cert.FwdReferenceIdeal.Hand.ri 0x37924925#32 h 2) := by
  rw [← w5_ref, ← lo52, ← hi52]
  unfold dyqV k0_pay57 k0_pay55
  rw [shapeCast_self]
  rfl
/-- The codes of the weight are the reference's. -/
theorem wqV_ref (h : Vec Ideal S3x16 .f32) (w : Vec Ideal S1792x4352 .bf16) : wqV (w4 h) w = Cert.FwdReferenceIdeal.Hand.wcR h w := by
  funext y
  refine Eq.trans ?_ (Cert.FwdReferenceIdeal.Hand.wcR_apply h w y).symm
  rw [← w4_ref, ← lo43, ← hi43]
  have hy : (y 0).val < 1792 := (y 0).isLt
  have e : chunk w ((y 0).val / 128) (ix2 ⟨(y 0).val % 128, Nat.mod_lt _ (by decide)⟩ (y 1)) = w y := by
    unfold chunk
    congr 1
    funext a
    apply Fin.ext
    match a with
    | ⟨0, _⟩ =>
      show (128 * ((y 0).val / 128) + (y 0).val % 128) % 1792 = (y 0).val
      rw [Nat.div_add_mod]; exact Nat.mod_eq_of_lt hy
    | ⟨1, _⟩ => rfl
  rw [← e]
  unfold wqV k0_pay7 k0_pay51
  rfl

/-- A block of the first result, at a place. -/
theorem yV_apply (h : Vec Ideal S3x16 .f32) (x : Vec Ideal S512x4352 .bf16) (wq : Vec Ideal S1792x4352 .fp8e4m3) (j : S512x1792.Idx) :
    yV (scV h) x wq j = (∑ k : Fin 4352, (xqV (scV h) x (ix2 (j 0) k) : EReal) * (wq (ix2 (j 1) k) : EReal)) * (w6 h : EReal) := by
  unfold yV
  rw [show scV h (ix1 6) = w6 h from rfl]
  generalize xqV (scV h) x = a
  generalize w6 h = s
  unfold k0_pay1
  idx_vars j
  pointwise
/-- A block of the second result, at a place. -/
theorem dxV_apply (h : Vec Ideal S3x16 .f32) (d : Vec Ideal S512x1792 .bf16) (wq : Vec Ideal S1792x4352 .fp8e4m3) (j : S512x4352.Idx) :
    dxV (scV h) d wq j = (∑ k : Fin 1792, (dyqV (scV h) d (ix2 (j 0) k) : EReal) * (wq (ix2 k (j 1)) : EReal)) * (w7 h : EReal) := by
  unfold dxV
  rw [show scV h (ix1 7) = w7 h from rfl]
  generalize dyqV (scV h) d = a
  generalize w7 h = s
  unfold k0_pay2
  idx_vars j
  pointwise

end Cert.FwdIdeal.Hand
-- ==== Proof.FwdRefValue.lean ====
/- What the reference leaves in each of its results, as a term of its arguments. -/
module

public import proofs.«01_k».proof.Proof.FwdRefOut

@[expose] public section

set_option maxRecDepth 16384

noncomputable section

open Idealize.ShloMosaic Idealize.ShloMosaic.TcCoe Idealize.SL.Sem
open Idealize.ShloMosaic.Pipeline (Dat)

namespace Cert.FwdReferenceIdeal.Hand

open Cert.FwdReferenceIdeal Cert.FwdReferenceIdeal.Gen Cert.Scale

variable (m : (ℓ : Loc nD τ sig) → Buf (Elt Ideal) ℓ) (ρ : Dev nD → PrngReg)

/-- The history of maxima. -/
def H (c : Dev nD) : Vec Ideal S3x16 .f32 := m ((c : Thread nD τ).loc main_arg3)
/-- The weight. -/
def W (c : Dev nD) : Vec Ideal S1792x4352 .bf16 := m ((c : Thread nD τ).loc main_arg1)
/-- The input, as one matrix. -/
def X (c : Dev nD) : Vec Ideal S16384x4352 .bf16 := shapeCast S16384x4352 (m ((c : Thread nD τ).loc main_arg0) : Vec Ideal S2x8192x4352 .bf16) shapeCasts_S2x8192x4352_S16384x4352
/-- The output gradient, as one matrix. -/
def D (c : Dev nD) : Vec Ideal S16384x1792 .bf16 := shapeCast S16384x1792 (m ((c : Thread nD τ).loc main_arg2) : Vec Ideal S2x8192x1792 .bf16) shapeCasts_S2x8192x1792_S16384x1792

/-- The region finds the input as one matrix. -/
theorem V_main_v0 (c : Dev nD) : V m c main_v0 = X m c := by
  unfold_abbrev_sides
  after_results
  rfl
/-- The region finds the gradient as one matrix. -/
theorem V_main_v1 (c : Dev nD) : V m c main_v1 = D m c := by
  unfold_abbrev_sides
  after_results
  rfl

/-- The grid has one point. -/
theorem one_point : ∀ t : Fin cfg0.N, t = t0_0 := (by decide +kernel : ∀ t : Fin grid0.N, t = t0_0)

/-- Window 0 reads its array. -/
theorem iblk0 (c : Dev nD) (t : Fin cfg0.N) : iblk m c 0 t = H m c := by
  obtain rfl : t = t0_0 := one_point t
  exact (Memref.read_access_unit_zero (Elt Ideal) main_arg3 (by funext a; fin_cases a <;> decide +kernel) (fun a => by fin_cases a <;> decide +kernel) _).trans (V_main_arg3 m c)
/-- Window 1 reads its array. -/
theorem iblk1 (c : Dev nD) (t : Fin cfg0.N) : iblk m c 1 t = X m c := by
  obtain rfl : t = t0_0 := one_point t
  exact (Memref.read_access_unit_zero (Elt Ideal) main_v0 (by funext a; fin_cases a <;> decide +kernel) (fun a => by fin_cases a <;> decide +kernel) _).trans (V_main_v0 m c)
/-- Window 2 reads its array. -/
theorem iblk2 (c : Dev nD) (t : Fin cfg0.N) : iblk m c 2 t = W m c := by
  obtain rfl : t = t0_0 := one_point t
  exact (Memref.read_access_unit_zero (Elt Ideal) main_arg1 (by funext a; fin_cases a <;> decide +kernel) (fun a => by fin_cases a <;> decide +kernel) _).trans (V_main_arg1 m c)
/-- Window 3 reads its array. -/
theorem iblk3 (c : Dev nD) (t : Fin cfg0.N) : iblk m c 3 t = D m c := by
  obtain rfl : t = t0_0 := one_point t
  exact (Memref.read_access_unit_zero (Elt Ideal) main_v1 (by funext a; fin_cases a <;> decide +kernel) (fun a => by fin_cases a <;> decide +kernel) _).trans (V_main_v1 m c)

/-- The reference's result 1. -/
def result4 (c : Dev nD) : Buf (Elt Ideal) ((c : Thread nD τ).loc main_v2_0) := yR (H m c) (X m c) (W m c)

/-- What is written back of window 4 is its block of the result. -/
theorem flushed4_eq (c : Dev nD) (t : Fin cfg0.N) (hf : (cfg0.win 4).flush t = true) :
    (dats m 0 c).flushed 4 t = ((cfg0.win 4).blk t).view.read (Elt Ideal) (result4 m c) := by
  rw [Value.flushed4_A, outR_4]
  simp only [iblk0, iblk1, iblk2, iblk3]
  obtain rfl : t = t0_0 := one_point t
  exact (Memref.read_access_unit_zero (Elt Ideal) main_v2_0 (by funext a; fin_cases a <;> decide +kernel) (fun a => by fin_cases a <;> decide +kernel) (result4 m c)).symm

/-- So the array of window 4 ends at the result: the blocks cover it. -/
theorem final4 (c : Dev nD) : (dats m 0 c).arrAt 4 cfg0.N = result4 m c :=
  (dats m 0 c).arrAt_eq_of_cover 4 (result4 m c) (flushed4_eq m c) fun (i : S16384x1792.Idx) => by
    refine ⟨t0_0, (by decide +kernel), ?_⟩
    show i ∈ ((View.whole main_v2_0).slice (win0_4.rect t0_0)).set
    rw [View.set_slice_whole, Rect.mem_set_unit]
    intro a
    have h0 : (i 0 : Nat) < 16384 := (i 0).isLt
    have h1 : (i 1 : Nat) < 1792 := (i 1).isLt
    match a with
    | ⟨0, _⟩ => show win0_4.index _ 0 * 16384 ≤ (i 0 : Nat) ∧ (i 0 : Nat) < win0_4.index _ 0 * 16384 + 16384; rw [show win0_4.index t0_0 0 = 0 by decide +kernel]; omega
    | ⟨1, _⟩ => show win0_4.index _ 1 * 1792 ≤ (i 1 : Nat) ∧ (i 1 : Nat) < win0_4.index _ 1 * 1792 + 1792; rw [show win0_4.index t0_0 1 = 0 by decide +kernel]; omega

/-- The reference's result 2. -/
def result5 (c : Dev nD) : Buf (Elt Ideal) ((c : Thread nD τ).loc main_v2_1) := dxR (H m c) (D m c) (W m c)

/-- What is written back of window 5 is its block of the result. -/
theorem flushed5_eq (c : Dev nD) (t : Fin cfg0.N) (hf : (cfg0.win 5).flush t = true) :
    (dats m 0 c).flushed 5 t = ((cfg0.win 5).blk t).view.read (Elt Ideal) (result5 m c) := by
  rw [Value.flushed5_A, outR_5]
  simp only [iblk0, iblk1, iblk2, iblk3]
  obtain rfl : t = t0_0 := one_point t
  exact (Memref.read_access_unit_zero (Elt Ideal) main_v2_1 (by funext a; fin_cases a <;> decide +kernel) (fun a => by fin_cases a <;> decide +kernel) (result5 m c)).symm

/-- So the array of window 5 ends at the result: the blocks cover it. -/
theorem final5 (c : Dev nD) : (dats m 0 c).arrAt 5 cfg0.N = result5 m c :=
  (dats m 0 c).arrAt_eq_of_cover 5 (result5 m c) (flushed5_eq m c) fun (i : S16384x4352.Idx) => by
    refine ⟨t0_0, (by decide +kernel), ?_⟩
    show i ∈ ((View.whole main_v2_1).slice (win0_5.rect t0_0)).set
    rw [View.set_slice_whole, Rect.mem_set_unit]
    intro a
    have h0 : (i 0 : Nat) < 16384 := (i 0).isLt
    have h1 : (i 1 : Nat) < 4352 := (i 1).isLt
    match a with
    | ⟨0, _⟩ => show win0_5.index _ 0 * 16384 ≤ (i 0 : Nat) ∧ (i 0 : Nat) < win0_5.index _ 0 * 16384 + 16384; rw [show win0_5.index t0_0 0 = 0 by decide +kernel]; omega
    | ⟨1, _⟩ => show win0_5.index _ 1 * 4352 ≤ (i 1 : Nat) ∧ (i 1 : Nat) < win0_5.index _ 1 * 4352 + 4352; rw [show win0_5.index t0_0 1 = 0 by decide +kernel]; omega

/-- The reference's result 3. -/
def result6 (c : Dev nD) : Buf (Elt Ideal) ((c : Thread nD τ).loc main_v2_2) := xcR (H m c) (X m c)

/-- What is written back of window 6 is its block of the result. -/
theorem flushed6_eq (c : Dev nD) (t : Fin cfg0.N) (hf : (cfg0.win 6).flush t = true) :
    (dats m 0 c).flushed 6 t = ((cfg0.win 6).blk t).view.read (Elt Ideal) (result6 m c) := by
  rw [Value.flushed6_A, outR_6]
  simp only [iblk0, iblk1, iblk2, iblk3]
  obtain rfl : t = t0_0 := one_point t
  exact (Memref.read_access_unit_zero (Elt Ideal) main_v2_2 (by funext a; fin_cases a <;> decide +kernel) (fun a => by fin_cases a <;> decide +kernel) (result6 m c)).symm

/-- So the array of window 6 ends at the result: the blocks cover it. -/
theorem final6 (c : Dev nD) : (dats m 0 c).arrAt 6 cfg0.N = result6 m c :=
  (dats m 0 c).arrAt_eq_of_cover 6 (result6 m c) (flushed6_eq m c) fun (i : S16384x4352.Idx) => by
    refine ⟨t0_0, (by decide +kernel), ?_⟩
    show i ∈ ((View.whole main_v2_2).slice (win0_6.rect t0_0)).set
    rw [View.set_slice_whole, Rect.mem_set_unit]
    intro a
    have h0 : (i 0 : Nat) < 16384 := (i 0).isLt
    have h1 : (i 1 : Nat) < 4352 := (i 1).isLt
    match a with
    | ⟨0, _⟩ => show win0_6.index _ 0 * 16384 ≤ (i 0 : Nat) ∧ (i 0 : Nat) < win0_6.index _ 0 * 16384 + 16384; rw [show win0_6.index t0_0 0 = 0 by decide +kernel]; omega
    | ⟨1, _⟩ => show win0_6.index _ 1 * 4352 ≤ (i 1 : Nat) ∧ (i 1 : Nat) < win0_6.index _ 1 * 4352 + 4352; rw [show win0_6.index t0_0 1 = 0 by decide +kernel]; omega

/-- The reference's result 4. -/
def result7 (c : Dev nD) : Buf (Elt Ideal) ((c : Thread nD τ).loc main_v2_3) := wcR (H m c) (W m c)

/-- What is written back of window 7 is its block of the result. -/
theorem flushed7_eq (c : Dev nD) (t : Fin cfg0.N) (hf : (cfg0.win 7).flush t = true) :
    (dats m 0 c).flushed 7 t = ((cfg0.win 7).blk t).view.read (Elt Ideal) (result7 m c) := by
  rw [Value.flushed7_A, outR_7]
  simp only [iblk0, iblk1, iblk2, iblk3]
  obtain rfl : t = t0_0 := one_point t
  exact (Memref.read_access_unit_zero (Elt Ideal) main_v2_3 (by funext a; fin_cases a <;> decide +kernel) (fun a => by fin_cases a <;> decide +kernel) (result7 m c)).symm

/-- So the array of window 7 ends at the result: the blocks cover it. -/
theorem final7 (c : Dev nD) : (dats m 0 c).arrAt 7 cfg0.N = result7 m c :=
  (dats m 0 c).arrAt_eq_of_cover 7 (result7 m c) (flushed7_eq m c) fun (i : S1792x4352.Idx) => by
    refine ⟨t0_0, (by decide +kernel), ?_⟩
    show i ∈ ((View.whole main_v2_3).slice (win0_7.rect t0_0)).set
    rw [View.set_slice_whole, Rect.mem_set_unit]
    intro a
    have h0 : (i 0 : Nat) < 1792 := (i 0).isLt
    have h1 : (i 1 : Nat) < 4352 := (i 1).isLt
    match a with
    | ⟨0, _⟩ => show win0_7.index _ 0 * 1792 ≤ (i 0 : Nat) ∧ (i 0 : Nat) < win0_7.index _ 0 * 1792 + 1792; rw [show win0_7.index t0_0 0 = 0 by decide +kernel]; omega
    | ⟨1, _⟩ => show win0_7.index _ 1 * 4352 ≤ (i 1 : Nat) ∧ (i 1 : Nat) < win0_7.index _ 1 * 4352 + 4352; rw [show win0_7.index t0_0 1 = 0 by decide +kernel]; omega

/-- The reference's result 5. -/
def result8 (c : Dev nD) : Buf (Elt Ideal) ((c : Thread nD τ).loc main_v2_4) := dcR (H m c) (D m c)

/-- What is written back of window 8 is its block of the result. -/
theorem flushed8_eq (c : Dev nD) (t : Fin cfg0.N) (hf : (cfg0.win 8).flush t = true) :
    (dats m 0 c).flushed 8 t = ((cfg0.win 8).blk t).view.read (Elt Ideal) (result8 m c) := by
  rw [Value.flushed8_A, outR_8]
  simp only [iblk0, iblk1, iblk2, iblk3]
  obtain rfl : t = t0_0 := one_point t
  exact (Memref.read_access_unit_zero (Elt Ideal) main_v2_4 (by funext a; fin_cases a <;> decide +kernel) (fun a => by fin_cases a <;> decide +kernel) (result8 m c)).symm

/-- So the array of window 8 ends at the result: the blocks cover it. -/
theorem final8 (c : Dev nD) : (dats m 0 c).arrAt 8 cfg0.N = result8 m c :=
  (dats m 0 c).arrAt_eq_of_cover 8 (result8 m c) (flushed8_eq m c) fun (i : S16384x1792.Idx) => by
    refine ⟨t0_0, (by decide +kernel), ?_⟩
    show i ∈ ((View.whole main_v2_4).slice (win0_8.rect t0_0)).set
    rw [View.set_slice_whole, Rect.mem_set_unit]
    intro a
    have h0 : (i 0 : Nat) < 16384 := (i 0).isLt
    have h1 : (i 1 : Nat) < 1792 := (i 1).isLt
    match a with
    | ⟨0, _⟩ => show win0_8.index _ 0 * 16384 ≤ (i 0 : Nat) ∧ (i 0 : Nat) < win0_8.index _ 0 * 16384 + 16384; rw [show win0_8.index t0_0 0 = 0 by decide +kernel]; omega
    | ⟨1, _⟩ => show win0_8.index _ 1 * 1792 ≤ (i 1 : Nat) ∧ (i 1 : Nat) < win0_8.index _ 1 * 1792 + 1792; rw [show win0_8.index t0_0 1 = 0 by decide +kernel]; omega

/-- The reference's result 6. -/
def result9 (c : Dev nD) : Buf (Elt Ideal) ((c : Thread nD τ).loc main_v2_5) := scR (H m c)

/-- What is written back of window 9 is its block of the result. -/
theorem flushed9_eq (c : Dev nD) (t : Fin cfg0.N) (hf : (cfg0.win 9).flush t = true) :
    (dats m 0 c).flushed 9 t = ((cfg0.win 9).blk t).view.read (Elt Ideal) (result9 m c) := by
  rw [Value.flushed9_A, outR_9]
  simp only [iblk0, iblk1, iblk2, iblk3]
  obtain rfl : t = t0_0 := one_point t
  exact (Memref.read_access_unit_zero (Elt Ideal) main_v2_5 (by funext a; fin_cases a <;> decide +kernel) (fun a => by fin_cases a <;> decide +kernel) (result9 m c)).symm

/-- So the array of window 9 ends at the result: the blocks cover it. -/
theorem final9 (c : Dev nD) : (dats m 0 c).arrAt 9 cfg0.N = result9 m c :=
  (dats m 0 c).arrAt_eq_of_cover 9 (result9 m c) (flushed9_eq m c) fun (i : S3.Idx) => by
    refine ⟨t0_0, (by decide +kernel), ?_⟩
    show i ∈ ((View.whole main_v2_5).slice (win0_9.rect t0_0)).set
    rw [View.set_slice_whole, Rect.mem_set_unit]
    intro a
    have h0 : (i 0 : Nat) < 3 := (i 0).isLt
    match a with
    | ⟨0, _⟩ => show win0_9.index _ 0 * 3 ≤ (i 0 : Nat) ∧ (i 0 : Nat) < win0_9.index _ 0 * 3 + 3; rw [show win0_9.index t0_0 0 = 0 by decide +kernel]; omega

/-- The reference's result 7. -/
def result10 (c : Dev nD) : Buf (Elt Ideal) ((c : Thread nD τ).loc main_v2_6) := nhR (X m c) (W m c) (D m c) (oldR (H m c))

/-- What is written back of window 10 is its block of the result. -/
theorem flushed10_eq (c : Dev nD) (t : Fin cfg0.N) (hf : (cfg0.win 10).flush t = true) :
    (dats m 0 c).flushed 10 t = ((cfg0.win 10).blk t).view.read (Elt Ideal) (result10 m c) := by
  rw [Value.flushed10_A, outR_10]
  simp only [iblk0, iblk1, iblk2, iblk3]
  obtain rfl : t = t0_0 := one_point t
  exact (Memref.read_access_unit_zero (Elt Ideal) main_v2_6 (by funext a; fin_cases a <;> decide +kernel) (fun a => by fin_cases a <;> decide +kernel) (result10 m c)).symm

/-- So the array of window 10 ends at the result: the blocks cover it. -/
theorem final10 (c : Dev nD) : (dats m 0 c).arrAt 10 cfg0.N = result10 m c :=
  (dats m 0 c).arrAt_eq_of_cover 10 (result10 m c) (flushed10_eq m c) fun (i : S3x16.Idx) => by
    refine ⟨t0_0, (by decide +kernel), ?_⟩
    show i ∈ ((View.whole main_v2_6).slice (win0_10.rect t0_0)).set
    rw [View.set_slice_whole, Rect.mem_set_unit]
    intro a
    have h0 : (i 0 : Nat) < 3 := (i 0).isLt
    have h1 : (i 1 : Nat) < 16 := (i 1).isLt
    match a with
    | ⟨0, _⟩ => show win0_10.index _ 0 * 3 ≤ (i 0 : Nat) ∧ (i 0 : Nat) < win0_10.index _ 0 * 3 + 3; rw [show win0_10.index t0_0 0 = 0 by decide +kernel]; omega
    | ⟨1, _⟩ => show win0_10.index _ 1 * 16 ≤ (i 1 : Nat) ∧ (i 1 : Nat) < win0_10.index _ 1 * 16 + 16; rw [show win0_10.index t0_0 1 = 0 by decide +kernel]; omega

/-- The run: every result array at its term, the arguments unchanged. -/
theorem run : θ_run defs (onTc (τ := τ) (main (F := Ideal))) ⟨m, fun _ => 0, ρ⟩ fun r => ∀ c : Dev nD,
      r.2.mem ((c : Thread nD τ).loc main_v2_0) = result4 m c
      ∧ r.2.mem ((c : Thread nD τ).loc main_v2_1) = result5 m c
      ∧ r.2.mem ((c : Thread nD τ).loc main_v2_2) = result6 m c
      ∧ r.2.mem ((c : Thread nD τ).loc main_v2_3) = result7 m c
      ∧ r.2.mem ((c : Thread nD τ).loc main_v2_4) = result8 m c
      ∧ r.2.mem ((c : Thread nD τ).loc main_v2_5) = result9 m c
      ∧ r.2.mem ((c : Thread nD τ).loc main_v2_6) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2.1.trans (final7 m c), (h c).2.2.2.2.1.trans (final8 m c), (h c).2.2.2.2.2.1.trans (final9 m c), (h c).2.2.2.2.2.2.1.trans (final10 m c), (h c).2.2.2.2.2.2.2⟩) (Value.run_blocks m ρ)

end Cert.FwdReferenceIdeal.Hand
-- ==== Proof.FwdValue.lean ====
/- What the forward kernel leaves in each of its results: the reference's terms of its arguments, at the extended reals. -/
module

public import proofs.«01_k».proof.Proof.FwdMax
public import proofs.«01_k».proof.Proof.FwdTerms
public import proofs.«01_k».proof.Proof.FwdRefValue

@[expose] public section

set_option maxRecDepth 16384

noncomputable section

open Idealize.ShloMosaic Idealize.ShloMosaic.TcCoe Idealize.SL.Sem
open Idealize.ShloMosaic.Pipeline (Dat)

namespace Cert.FwdIdeal.Hand

open Cert.FwdIdeal Cert.FwdIdeal.Gen
open Cert.FwdReferenceIdeal.Hand (yR dxR xcR wcR dcR scR nhR oldR)

variable (m : (ℓ : Loc nD τ sig) → Buf (Elt Ideal) ℓ) (ρ : Dev nD → PrngReg)

/-- The history of maxima. -/
def H (c : Dev nD) : Vec Ideal S3x16 .f32 := m ((c : Thread nD τ).loc main_arg3)
/-- The weight. -/
def W (c : Dev nD) : Vec Ideal S1792x4352 .bf16 := m ((c : Thread nD τ).loc main_arg1)
/-- The input, as one matrix. -/
def X (c : Dev nD) : Vec Ideal S16384x4352 .bf16 := shapeCast S16384x4352 (m ((c : Thread nD τ).loc main_arg0) : Vec Ideal S2x8192x4352 .bf16) shapeCasts_S2x8192x4352_S16384x4352
/-- The output gradient, as one matrix. -/
def D (c : Dev nD) : Vec Ideal S16384x1792 .bf16 := shapeCast S16384x1792 (m ((c : Thread nD τ).loc main_arg2) : Vec Ideal S2x8192x1792 .bf16) shapeCasts_S2x8192x1792_S16384x1792

/-- The region finds the input as one matrix. -/
theorem V_main_v0 (c : Dev nD) : V m c main_v0 = X m c := by
  unfold_abbrev_sides
  after_results
  rfl
/-- The region finds the gradient as one matrix. -/
theorem V_main_v1 (c : Dev nD) : V m c main_v1 = D m c := by
  unfold_abbrev_sides
  after_results
  rfl

/-! ## The blocks the points read -/

/-- Where window 1 stands at a point. -/
theorem idx1 : ∀ t : Fin cfg0.N, win0_1.index t 0 = t.val ∧ win0_1.index t 1 = 0 :=
  (by decide +kernel : ∀ t : Fin grid0.N, win0_1.index t 0 = t.val ∧ win0_1.index t 1 = 0)
/-- Where window 3 stands at a point. -/
theorem idx3 : ∀ t : Fin cfg0.N, win0_3.index t 0 = t.val ∧ win0_3.index t 1 = 0 :=
  (by decide +kernel : ∀ t : Fin grid0.N, win0_3.index t 0 = t.val ∧ win0_3.index t 1 = 0)
/-- Where window 4 stands at a point. -/
theorem idx4 : ∀ t : Fin cfg0.N, win0_4.index t 0 = t.val ∧ win0_4.index t 1 = 0 :=
  (by decide +kernel : ∀ t : Fin grid0.N, win0_4.index t 0 = t.val ∧ win0_4.index t 1 = 0)
/-- Where window 5 stands at a point. -/
theorem idx5 : ∀ t : Fin cfg0.N, win0_5.index t 0 = t.val ∧ win0_5.index t 1 = 0 :=
  (by decide +kernel : ∀ t : Fin grid0.N, win0_5.index t 0 = t.val ∧ win0_5.index t 1 = 0)
/-- Where window 6 stands at a point. -/
theorem idx6 : ∀ t : Fin cfg0.N, win0_6.index t 0 = t.val ∧ win0_6.index t 1 = 0 :=
  (by decide +kernel : ∀ t : Fin grid0.N, win0_6.index t 0 = t.val ∧ win0_6.index t 1 = 0)
/-- Where window 8 stands at a point. -/
theorem idx8 : ∀ t : Fin cfg0.N, win0_8.index t 0 = t.val ∧ win0_8.index t 1 = 0 :=
  (by decide +kernel : ∀ t : Fin grid0.N, win0_8.index t 0 = t.val ∧ win0_8.index t 1 = 0)
/-- Where window 7 stands at a point. -/
theorem idx7 : ∀ t : Fin cfg0.N, win0_7.index t 0 = 0 ∧ win0_7.index t 1 = 0 :=
  (by decide +kernel : ∀ t : Fin grid0.N, win0_7.index t 0 = 0 ∧ win0_7.index t 1 = 0)
/-- Where window 10 stands at a point. -/
theorem idx10 : ∀ t : Fin cfg0.N, win0_10.index t 0 = 0 ∧ win0_10.index t 1 = 0 :=
  (by decide +kernel : ∀ t : Fin grid0.N, win0_10.index t 0 = 0 ∧ win0_10.index t 1 = 0)
/-- Where window 9 stands at a point. -/
theorem idx9 : ∀ t : Fin cfg0.N, win0_9.index t 0 = 0 :=
  (by decide +kernel : ∀ t : Fin grid0.N, win0_9.index t 0 = 0)

/-- The history block is the history. -/
theorem hB_eq (c : Dev nD) : hB m c = H m c := by
  show iblk m c 0 t0 = _
  exact (Memref.read_access_unit_zero (Elt Ideal) main_arg3 (by funext a; fin_cases a <;> decide +kernel) (fun a => by fin_cases a <;> decide +kernel) _).trans (V_main_arg3 m c)
/-- The weight block is the weight. -/
theorem wB_eq (c : Dev nD) : wB m c = W m c := by
  show iblk m c 2 t0 = _
  exact (Memref.read_access_unit_zero (Elt Ideal) main_arg1 (by funext a; fin_cases a <;> decide +kernel) (fun a => by fin_cases a <;> decide +kernel) _).trans (V_main_arg1 m c)

/-- A point's block of the input: its 512 rows. -/
theorem xB_eq (c : Dev nD) (t : Fin cfg0.N) (a : Fin 512) (b : Fin 4352) (h : 512 * t.val + a.val < 16384) :
    xB m c t (ix2 a b) = X m c (ix2 ⟨512 * t.val + a.val, h⟩ b) := by
  rw [← V_main_v0]
  unfold xB iblk
  rw [View.read_apply]
  show V m c main_v0 _ = V m c main_v0 _
  congr 1
  funext d
  apply Fin.ext
  match d with
  | ⟨0, _⟩ => show win0_1.index t 0 * 512 + 1 * a.val = 512 * t.val + a.val; rw [(idx1 t).1]; omega
  | ⟨1, _⟩ => show win0_1.index t 1 * 4352 + 1 * b.val = b.val; rw [(idx1 t).2]; omega

/-- A point's block of the gradient: its 512 rows. -/
theorem dyB_eq (c : Dev nD) (t : Fin cfg0.N) (a : Fin 512) (b : Fin 1792) (h : 512 * t.val + a.val < 16384) :
    dyB m c t (ix2 a b) = D m c (ix2 ⟨512 * t.val + a.val, h⟩ b) := by
  rw [← V_main_v1]
  unfold dyB iblk
  rw [View.read_apply]
  show V m c main_v1 _ = V m c main_v1 _
  congr 1
  funext d
  apply Fin.ext
  match d with
  | ⟨0, _⟩ => show win0_3.index t 0 * 512 + 1 * a.val = 512 * t.val + a.val; rw [(idx3 t).1]; omega
  | ⟨1, _⟩ => show win0_3.index t 1 * 1792 + 1 * b.val = b.val; rw [(idx3 t).2]; omega

/-- The weight's codes are the reference's. -/
theorem wq_eq (c : Dev nD) : wqB m c = wcR (H m c) (W m c) := by
  unfold wqB
  rw [hB_eq, wB_eq]
  exact wqV_ref _ _

/-! ## What a point writes, at a place of its block -/

/-- What a point writes into window 6 is the reference's entry at the same place of the whole array: the input's codes. -/
theorem blk6 (c : Dev nD) (t : Fin cfg0.N) (a : Fin 512) (b : Fin 4352) (h : 512 * t.val + a.val < 16384) :
    xqV (scV (hB m c)) (xB m c t) (ix2 a b) = xcR (H m c) (X m c) (ix2 ⟨512 * t.val + a.val, h⟩ b) := by
  rw [hB_eq]
  refine (xqV_apply _ _ _).trans ?_
  rw [xB_eq m c t a b h]
  exact (Cert.FwdReferenceIdeal.Hand.xcR_apply _ _ _).symm
/-- What a point writes into window 8 is the reference's entry at the same place of the whole array: the gradient's codes. -/
theorem blk8 (c : Dev nD) (t : Fin cfg0.N) (a : Fin 512) (b : Fin 1792) (h : 512 * t.val + a.val < 16384) :
    dyqV (scV (hB m c)) (dyB m c t) (ix2 a b) = dcR (H m c) (D m c) (ix2 ⟨512 * t.val + a.val, h⟩ b) := by
  rw [hB_eq]
  refine (dyqV_apply _ _ _).trans ?_
  rw [dyB_eq m c t a b h]
  exact (Cert.FwdReferenceIdeal.Hand.dcR_apply _ _ _).symm
/-- What a point writes into window 4 is the reference's entry at the same place of the whole array: y. -/
theorem blk4 (c : Dev nD) (t : Fin cfg0.N) (a : Fin 512) (b : Fin 1792) (h : 512 * t.val + a.val < 16384) :
    yV (scV (hB m c)) (xB m c t) (wqB m c) (ix2 a b) = yR (H m c) (X m c) (W m c) (ix2 ⟨512 * t.val + a.val, h⟩ b) := by
  refine (yV_apply _ _ _ _).trans (Eq.trans ?_ (Cert.FwdReferenceIdeal.Hand.yR_apply _ _ _ _).symm)
  refine congrArg₂ (fun p q : EReal => p * q) (Finset.sum_congr rfl fun k _ => congrArg₂ (fun p q : EReal => p * q) (blk6 m c t a k h) (congrFun (wq_eq m c) (ix2 b k))) ?_
  rw [hB_eq]
  exact w6_ref _
/-- What a point writes into window 5 is the reference's entry at the same place of the whole array: dx. -/
theorem blk5 (c : Dev nD) (t : Fin cfg0.N) (a : Fin 512) (b : Fin 4352) (h : 512 * t.val + a.val < 16384) :
    dxV (scV (hB m c)) (dyB m c t) (wqB m c) (ix2 a b) = dxR (H m c) (D m c) (W m c) (ix2 ⟨512 * t.val + a.val, h⟩ b) := by
  refine (dxV_apply _ _ _ _).trans (Eq.trans ?_ (Cert.FwdReferenceIdeal.Hand.dxR_apply _ _ _ _).symm)
  refine congrArg₂ (fun p q : EReal => p * q) (Finset.sum_congr rfl fun k _ => congrArg₂ (fun p q : EReal => p * q) (blk8 m c t a k h) (congrFun (wq_eq m c) (ix2 k b))) ?_
  rw [hB_eq]
  exact w7_ref _

/-- The three stored scales. -/
theorem sV_eq (c : Dev nD) : sV (hB m c) = scR (H m c) := by
  rw [hB_eq]
  funext y
  unfold sV scR
  rw [s0_ref, s1_ref, s2_ref]

/-- The new history after the last point. -/
theorem newh_eq (c : Dev nD) (t : Fin cfg0.N) (ht : t.val = 31) :
    newhV (hB m c) (acc0 m c (t.val + 1) t.isLt) (acc1 m c) (acc2 m c (t.val + 1) t.isLt)
      = nhR (X m c) (W m c) (D m c) (oldR (H m c)) := by
  rw [hB_eq]
  funext y
  obtain ⟨r, k, rfl⟩ : ∃ (r : Fin 3) (k : Fin 16), y = ix2 r k := ⟨y 0, y 1, by funext a; match a with | ⟨0, _⟩ => rfl | ⟨1, _⟩ => rfl⟩
  unfold newhV
  by_cases hk : k.val = 0
  · obtain rfl : k = 0 := Fin.ext hk
    refine (dif_pos rfl).trans (Eq.trans ?_ (Cert.FwdReferenceIdeal.Hand.nhR_zero _ _ _ _ r).symm)
    have e0 := amax0 m c (X m c) (fun t a b h => xB_eq m c t a b h) (t.val + 1) t.isLt (by omega)
    have e1 := amax1 (W m c)
    have e2 := amax2 m c (D m c) (fun t a b h => dyB_eq m c t a b h) (t.val + 1) t.isLt (by omega)
    match r with
    | ⟨0, _⟩ => exact e0
    | ⟨1, _⟩ => exact (congrArg (fun w => (k0_pay5 (fold1 w rz 14) (ix2 0 0) : EReal)) (wB_eq m c)).trans e1
    | ⟨2, _⟩ => exact e2
  · obtain ⟨k', rfl⟩ : ∃ k' : Fin 15, k = k'.succ := ⟨⟨k.val - 1, by omega⟩, Fin.ext (by simp only [Fin.val_succ]; omega)⟩
    refine (dif_neg hk).trans (Eq.trans ?_ (Cert.FwdReferenceIdeal.Hand.nhR_succ _ _ _ _ r k').symm)
    unfold k0_pay3
    show H m c _ = H m c _
    congr 1
    funext a
    apply Fin.ext
    match a with
    | ⟨0, _⟩ => show 0 + r.val = r.val; omega
    | ⟨1, _⟩ => show 0 + (k'.val + 1 - 1) = k'.val; omega

/-! ## The result arrays -/

/-- Result 1. -/
def result4 (c : Dev nD) : Buf (Elt Ideal) ((c : Thread nD τ).loc main_v2_0) := yR (H m c) (X m c) (W m c)

/-- What is written back of window 4 is its block of the result. -/
theorem flushed4_eq (c : Dev nD) (t : Fin cfg0.N) (hf : (cfg0.win 4).flush t = true) :
    (dats m 0 c).flushed 4 t = ((cfg0.win 4).blk t).view.read (Elt Ideal) (result4 m c) := by
  have hN : cfg0.N = 32 := N_0
  show (cfg0.win 4).cut (grid0.coords t) ((dats m 0 c).after 4 t) = _
  rw [after0_4]
  funext (j : S512x1792.Idx)
  rw [View.read_apply]
  have ha : (j 0).val < 512 := (j 0).isLt
  have hb : (j 1).val < 1792 := (j 1).isLt
  have ht : 512 * t.val + (j 0).val < 16384 := by have := t.isLt; omega
  refine Eq.trans (congrArg _ ?_) ((blk4 m c t ⟨(j 0).val, ha⟩ ⟨(j 1).val, hb⟩ ht).trans (congrArg (result4 m c) ?_))
  · funext d
    apply Fin.ext
    match d with
    | ⟨0, _⟩ => rfl
    | ⟨1, _⟩ => rfl
  · funext d
    apply Fin.ext
    match d with
    | ⟨0, _⟩ => show 512 * t.val + (j 0).val = win0_4.index t 0 * 512 + 1 * (j 0).val; rw [(idx4 t).1]; omega
    | ⟨1, _⟩ => show (j 1).val = win0_4.index t 1 * 1792 + 1 * (j 1).val; rw [(idx4 t).2]; omega

/-- So the array of window 4 ends at the result: the blocks cover it. -/
theorem final4 (c : Dev nD) : (dats m 0 c).arrAt 4 cfg0.N = result4 m c :=
  (dats m 0 c).arrAt_eq_of_cover 4 (result4 m c) (flushed4_eq m c) fun (i : S16384x1792.Idx) => by
    have hN : cfg0.N = 32 := N_0
    have h0 : (i 0 : Nat) < 16384 := (i 0).isLt
    have h1 : (i 1 : Nat) < 1792 := (i 1).isLt
    have hlt : (i 0 : Nat) / 512 < cfg0.N := by omega
    refine ⟨⟨(i 0 : Nat) / 512, hlt⟩, flush0_4 _, ?_⟩
    show i ∈ ((View.whole main_v2_0).slice (win0_4.rect ⟨(i 0 : Nat) / 512, hlt⟩)).set
    rw [View.set_slice_whole, Rect.mem_set_unit]
    intro a
    match a with
    | ⟨0, _⟩ => show win0_4.index _ 0 * 512 ≤ (i 0 : Nat) ∧ (i 0 : Nat) < win0_4.index _ 0 * 512 + 512; rw [(idx4 _).1]; dsimp only; omega
    | ⟨1, _⟩ => show win0_4.index _ 1 * 1792 ≤ (i 1 : Nat) ∧ (i 1 : Nat) < win0_4.index _ 1 * 1792 + 1792; rw [(idx4 _).2]; omega

/-- Result 2. -/
def result5 (c : Dev nD) : Buf (Elt Ideal) ((c : Thread nD τ).loc main_v2_1) := dxR (H m c) (D m c) (W m c)

/-- What is written back of window 5 is its block of the result. -/
theorem flushed5_eq (c : Dev nD) (t : Fin cfg0.N) (hf : (cfg0.win 5).flush t = true) :
    (dats m 0 c).flushed 5 t = ((cfg0.win 5).blk t).view.read (Elt Ideal) (result5 m c) := by
  have hN : cfg0.N = 32 := N_0
  show (cfg0.win 5).cut (grid0.coords t) ((dats m 0 c).after 5 t) = _
  rw [after0_5]
  funext (j : S512x4352.Idx)
  rw [View.read_apply]
  have ha : (j 0).val < 512 := (j 0).isLt
  have hb : (j 1).val < 4352 := (j 1).isLt
  have ht : 512 * t.val + (j 0).val < 16384 := by have := t.isLt; omega
  refine Eq.trans (congrArg _ ?_) ((blk5 m c t ⟨(j 0).val, ha⟩ ⟨(j 1).val, hb⟩ ht).trans (congrArg (result5 m c) ?_))
  · funext d
    apply Fin.ext
    match d with
    | ⟨0, _⟩ => rfl
    | ⟨1, _⟩ => rfl
  · funext d
    apply Fin.ext
    match d with
    | ⟨0, _⟩ => show 512 * t.val + (j 0).val = win0_5.index t 0 * 512 + 1 * (j 0).val; rw [(idx5 t).1]; omega
    | ⟨1, _⟩ => show (j 1).val = win0_5.index t 1 * 4352 + 1 * (j 1).val; rw [(idx5 t).2]; omega

/-- So the array of window 5 ends at the result: the blocks cover it. -/
theorem final5 (c : Dev nD) : (dats m 0 c).arrAt 5 cfg0.N = result5 m c :=
  (dats m 0 c).arrAt_eq_of_cover 5 (result5 m c) (flushed5_eq m c) fun (i : S16384x4352.Idx) => by
    have hN : cfg0.N = 32 := N_0
    have h0 : (i 0 : Nat) < 16384 := (i 0).isLt
    have h1 : (i 1 : Nat) < 4352 := (i 1).isLt
    have hlt : (i 0 : Nat) / 512 < cfg0.N := by omega
    refine ⟨⟨(i 0 : Nat) / 512, hlt⟩, flush0_5 _, ?_⟩
    show i ∈ ((View.whole main_v2_1).slice (win0_5.rect ⟨(i 0 : Nat) / 512, hlt⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [(idx5 _).1]; dsimp only; omega
    | ⟨1, _⟩ => show win0_5.index _ 1 * 4352 ≤ (i 1 : Nat) ∧ (i 1 : Nat) < win0_5.index _ 1 * 4352 + 4352; rw [(idx5 _).2]; omega

/-- Result 3. -/
def result6 (c : Dev nD) : Buf (Elt Ideal) ((c : Thread nD τ).loc main_v2_2) := xcR (H m c) (X m c)

/-- What is written back of window 6 is its block of the result. -/
theorem flushed6_eq (c : Dev nD) (t : Fin cfg0.N) (hf : (cfg0.win 6).flush t = true) :
    (dats m 0 c).flushed 6 t = ((cfg0.win 6).blk t).view.read (Elt Ideal) (result6 m c) := by
  have hN : cfg0.N = 32 := N_0
  show (cfg0.win 6).cut (grid0.coords t) ((dats m 0 c).after 6 t) = _
  rw [after0_6]
  funext (j : S512x4352.Idx)
  rw [View.read_apply]
  have ha : (j 0).val < 512 := (j 0).isLt
  have hb : (j 1).val < 4352 := (j 1).isLt
  have ht : 512 * t.val + (j 0).val < 16384 := by have := t.isLt; omega
  refine Eq.trans (congrArg _ ?_) ((blk6 m c t ⟨(j 0).val, ha⟩ ⟨(j 1).val, hb⟩ ht).trans (congrArg (result6 m c) ?_))
  · funext d
    apply Fin.ext
    match d with
    | ⟨0, _⟩ => rfl
    | ⟨1, _⟩ => rfl
  · funext d
    apply Fin.ext
    match d with
    | ⟨0, _⟩ => show 512 * t.val + (j 0).val = win0_6.index t 0 * 512 + 1 * (j 0).val; rw [(idx6 t).1]; omega
    | ⟨1, _⟩ => show (j 1).val = win0_6.index t 1 * 4352 + 1 * (j 1).val; rw [(idx6 t).2]; omega

/-- So the array of window 6 ends at the result: the blocks cover it. -/
theorem final6 (c : Dev nD) : (dats m 0 c).arrAt 6 cfg0.N = result6 m c :=
  (dats m 0 c).arrAt_eq_of_cover 6 (result6 m c) (flushed6_eq m c) fun (i : S16384x4352.Idx) => by
    have hN : cfg0.N = 32 := N_0
    have h0 : (i 0 : Nat) < 16384 := (i 0).isLt
    have h1 : (i 1 : Nat) < 4352 := (i 1).isLt
    have hlt : (i 0 : Nat) / 512 < cfg0.N := by omega
    refine ⟨⟨(i 0 : Nat) / 512, hlt⟩, flush0_6 _, ?_⟩
    show i ∈ ((View.whole main_v2_2).slice (win0_6.rect ⟨(i 0 : Nat) / 512, hlt⟩)).set
    rw [View.set_slice_whole, Rect.mem_set_unit]
    intro a
    match a with
    | ⟨0, _⟩ => show win0_6.index _ 0 * 512 ≤ (i 0 : Nat) ∧ (i 0 : Nat) < win0_6.index _ 0 * 512 + 512; rw [(idx6 _).1]; dsimp only; omega
    | ⟨1, _⟩ => show win0_6.index _ 1 * 4352 ≤ (i 1 : Nat) ∧ (i 1 : Nat) < win0_6.index _ 1 * 4352 + 4352; rw [(idx6 _).2]; omega

/-- Result 4. -/
def result7 (c : Dev nD) : Buf (Elt Ideal) ((c : Thread nD τ).loc main_v2_3) := wcR (H m c) (W m c)

/-- Window 7 starts at the array's origin: its block is the whole array. -/
theorem whole7 (t : Fin cfg0.N) : (fun a => win0_7.index t a * main_v2_3.ty.shape.size a) = fun _ => 0 :=
  funext fun a => by
    match a with
    | ⟨0, _⟩ => show win0_7.index t 0 * _ = 0; rw [(idx7 t).1, Nat.zero_mul]
    | ⟨1, _⟩ => show win0_7.index t 1 * _ = 0; rw [(idx7 t).2, Nat.zero_mul]

/-- What is written back of window 7 is its block of the result. -/
theorem flushed7_eq (c : Dev nD) (t : Fin cfg0.N) (hf : (cfg0.win 7).flush t = true) :
    (dats m 0 c).flushed 7 t = ((cfg0.win 7).blk t).view.read (Elt Ideal) (result7 m c) := by
  have hN : cfg0.N = 32 := N_0
  have h31 : t.val = 31 := by have := (flush0_7 t).mp hf; have := t.isLt; omega
  show (cfg0.win 7).cut (grid0.coords t) ((dats m 0 c).after 7 t) = _
  rw [after0_7, wq_eq m c]
  exact (Memref.read_access_unit_zero (Elt Ideal) main_v2_3 (whole7 t) (fun a => by rw [congrFun (whole7 t) a]; simp) (result7 m c)).symm

/-- So the array of window 7 ends at the result: the blocks cover it. -/
theorem final7 (c : Dev nD) : (dats m 0 c).arrAt 7 cfg0.N = result7 m c :=
  (dats m 0 c).arrAt_eq_of_cover 7 (result7 m c) (flushed7_eq m c) fun (i : S1792x4352.Idx) => by
    have hN : cfg0.N = 32 := N_0
    have hlt : 31 < cfg0.N := by omega
    refine ⟨⟨31, hlt⟩, (flush0_7 _).mpr rfl, ?_⟩
    show i ∈ ((View.whole main_v2_3).slice (win0_7.rect ⟨31, hlt⟩)).set
    rw [View.set_slice_whole, Rect.mem_set_unit]
    intro a
    have h0 : (i 0 : Nat) < 1792 := (i 0).isLt
    have h1 : (i 1 : Nat) < 4352 := (i 1).isLt
    match a with
    | ⟨0, _⟩ => show win0_7.index _ 0 * 1792 ≤ (i 0 : Nat) ∧ (i 0 : Nat) < win0_7.index _ 0 * 1792 + 1792; rw [(idx7 _).1]; omega
    | ⟨1, _⟩ => show win0_7.index _ 1 * 4352 ≤ (i 1 : Nat) ∧ (i 1 : Nat) < win0_7.index _ 1 * 4352 + 4352; rw [(idx7 _).2]; omega

/-- Result 5. -/
def result8 (c : Dev nD) : Buf (Elt Ideal) ((c : Thread nD τ).loc main_v2_4) := dcR (H m c) (D m c)

/-- What is written back of window 8 is its block of the result. -/
theorem flushed8_eq (c : Dev nD) (t : Fin cfg0.N) (hf : (cfg0.win 8).flush t = true) :
    (dats m 0 c).flushed 8 t = ((cfg0.win 8).blk t).view.read (Elt Ideal) (result8 m c) := by
  have hN : cfg0.N = 32 := N_0
  show (cfg0.win 8).cut (grid0.coords t) ((dats m 0 c).after 8 t) = _
  rw [after0_8]
  funext (j : S512x1792.Idx)
  rw [View.read_apply]
  have ha : (j 0).val < 512 := (j 0).isLt
  have hb : (j 1).val < 1792 := (j 1).isLt
  have ht : 512 * t.val + (j 0).val < 16384 := by have := t.isLt; omega
  refine Eq.trans (congrArg _ ?_) ((blk8 m c t ⟨(j 0).val, ha⟩ ⟨(j 1).val, hb⟩ ht).trans (congrArg (result8 m c) ?_))
  · funext d
    apply Fin.ext
    match d with
    | ⟨0, _⟩ => rfl
    | ⟨1, _⟩ => rfl
  · funext d
    apply Fin.ext
    match d with
    | ⟨0, _⟩ => show 512 * t.val + (j 0).val = win0_8.index t 0 * 512 + 1 * (j 0).val; rw [(idx8 t).1]; omega
    | ⟨1, _⟩ => show (j 1).val = win0_8.index t 1 * 1792 + 1 * (j 1).val; rw [(idx8 t).2]; omega

/-- So the array of window 8 ends at the result: the blocks cover it. -/
theorem final8 (c : Dev nD) : (dats m 0 c).arrAt 8 cfg0.N = result8 m c :=
  (dats m 0 c).arrAt_eq_of_cover 8 (result8 m c) (flushed8_eq m c) fun (i : S16384x1792.Idx) => by
    have hN : cfg0.N = 32 := N_0
    have h0 : (i 0 : Nat) < 16384 := (i 0).isLt
    have h1 : (i 1 : Nat) < 1792 := (i 1).isLt
    have hlt : (i 0 : Nat) / 512 < cfg0.N := by omega
    refine ⟨⟨(i 0 : Nat) / 512, hlt⟩, flush0_8 _, ?_⟩
    show i ∈ ((View.whole main_v2_4).slice (win0_8.rect ⟨(i 0 : Nat) / 512, hlt⟩)).set
    rw [View.set_slice_whole, Rect.mem_set_unit]
    intro a
    match a with
    | ⟨0, _⟩ => show win0_8.index _ 0 * 512 ≤ (i 0 : Nat) ∧ (i 0 : Nat) < win0_8.index _ 0 * 512 + 512; rw [(idx8 _).1]; dsimp only; omega
    | ⟨1, _⟩ => show win0_8.index _ 1 * 1792 ≤ (i 1 : Nat) ∧ (i 1 : Nat) < win0_8.index _ 1 * 1792 + 1792; rw [(idx8 _).2]; omega

/-- Result 6. -/
def result9 (c : Dev nD) : Buf (Elt Ideal) ((c : Thread nD τ).loc main_v2_5) := scR (H m c)

/-- Window 9 starts at the array's origin: its block is the whole array. -/
theorem whole9 (t : Fin cfg0.N) : (fun a => win0_9.index t a * main_v2_5.ty.shape.size a) = fun _ => 0 :=
  funext fun a => by
    match a with
    | ⟨0, _⟩ => show win0_9.index t 0 * _ = 0; rw [idx9 t, Nat.zero_mul]

/-- What is written back of window 9 is its block of the result. -/
theorem flushed9_eq (c : Dev nD) (t : Fin cfg0.N) (hf : (cfg0.win 9).flush t = true) :
    (dats m 0 c).flushed 9 t = ((cfg0.win 9).blk t).view.read (Elt Ideal) (result9 m c) := by
  have hN : cfg0.N = 32 := N_0
  have h31 : t.val = 31 := by have := (flush0_9 t).mp hf; have := t.isLt; omega
  show (cfg0.win 9).cut (grid0.coords t) ((dats m 0 c).after 9 t) = _
  rw [after0_9, sV_eq m c]
  exact (Memref.read_access_unit_zero (Elt Ideal) main_v2_5 (whole9 t) (fun a => by rw [congrFun (whole9 t) a]; simp) (result9 m c)).symm

/-- So the array of window 9 ends at the result: the blocks cover it. -/
theorem final9 (c : Dev nD) : (dats m 0 c).arrAt 9 cfg0.N = result9 m c :=
  (dats m 0 c).arrAt_eq_of_cover 9 (result9 m c) (flushed9_eq m c) fun (i : S3.Idx) => by
    have hN : cfg0.N = 32 := N_0
    have hlt : 31 < cfg0.N := by omega
    refine ⟨⟨31, hlt⟩, (flush0_9 _).mpr rfl, ?_⟩
    show i ∈ ((View.whole main_v2_5).slice (win0_9.rect ⟨31, hlt⟩)).set
    rw [View.set_slice_whole, Rect.mem_set_unit]
    intro a
    have h0 : (i 0 : Nat) < 3 := (i 0).isLt
    match a with
    | ⟨0, _⟩ => show win0_9.index _ 0 * 3 ≤ (i 0 : Nat) ∧ (i 0 : Nat) < win0_9.index _ 0 * 3 + 3; rw [idx9 _]; omega

/-- Result 7. -/
def result10 (c : Dev nD) : Buf (Elt Ideal) ((c : Thread nD τ).loc main_v2_6) := nhR (X m c) (W m c) (D m c) (oldR (H m c))

/-- Window 10 starts at the array's origin: its block is the whole array. -/
theorem whole10 (t : Fin cfg0.N) : (fun a => win0_10.index t a * main_v2_6.ty.shape.size a) = fun _ => 0 :=
  funext fun a => by
    match a with
    | ⟨0, _⟩ => show win0_10.index t 0 * _ = 0; rw [(idx10 t).1, Nat.zero_mul]
    | ⟨1, _⟩ => show win0_10.index t 1 * _ = 0; rw [(idx10 t).2, Nat.zero_mul]

/-- What is written back of window 10 is its block of the result. -/
theorem flushed10_eq (c : Dev nD) (t : Fin cfg0.N) (hf : (cfg0.win 10).flush t = true) :
    (dats m 0 c).flushed 10 t = ((cfg0.win 10).blk t).view.read (Elt Ideal) (result10 m c) := by
  have hN : cfg0.N = 32 := N_0
  have h31 : t.val = 31 := by have := (flush0_10 t).mp hf; have := t.isLt; omega
  show (cfg0.win 10).cut (grid0.coords t) ((dats m 0 c).after 10 t) = _
  rw [after0_10, newh_eq m c t h31]
  exact (Memref.read_access_unit_zero (Elt Ideal) main_v2_6 (whole10 t) (fun a => by rw [congrFun (whole10 t) a]; simp) (result10 m c)).symm

/-- So the array of window 10 ends at the result: the blocks cover it. -/
theorem final10 (c : Dev nD) : (dats m 0 c).arrAt 10 cfg0.N = result10 m c :=
  (dats m 0 c).arrAt_eq_of_cover 10 (result10 m c) (flushed10_eq m c) fun (i : S3x16.Idx) => by
    have hN : cfg0.N = 32 := N_0
    have hlt : 31 < cfg0.N := by omega
    refine ⟨⟨31, hlt⟩, (flush0_10 _).mpr rfl, ?_⟩
    show i ∈ ((View.whole main_v2_6).slice (win0_10.rect ⟨31, hlt⟩)).set
    rw [View.set_slice_whole, Rect.mem_set_unit]
    intro a
    have h0 : (i 0 : Nat) < 3 := (i 0).isLt
    have h1 : (i 1 : Nat) < 16 := (i 1).isLt
    match a with
    | ⟨0, _⟩ => show win0_10.index _ 0 * 3 ≤ (i 0 : Nat) ∧ (i 0 : Nat) < win0_10.index _ 0 * 3 + 3; rw [(idx10 _).1]; omega
    | ⟨1, _⟩ => show win0_10.index _ 1 * 16 ≤ (i 1 : Nat) ∧ (i 1 : Nat) < win0_10.index _ 1 * 16 + 16; rw [(idx10 _).2]; omega

/-- After the run, each argument is as launched. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
/-- The argument is as launched. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))
/-- The argument is as launched. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- The argument is as launched. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

/-- The run: the seven result arrays at the reference's terms of the arguments, the arguments unchanged. -/
theorem run : θ_run defs (onTc (τ := τ) (main (F := Ideal))) ⟨m, fun _ => 0, ρ⟩ fun r => ∀ c : Dev nD,
      r.2.mem ((c : Thread nD τ).loc main_v2_0) = result4 m c
      ∧ r.2.mem ((c : Thread nD τ).loc main_v2_1) = result5 m c
      ∧ r.2.mem ((c : Thread nD τ).loc main_v2_2) = result6 m c
      ∧ r.2.mem ((c : Thread nD τ).loc main_v2_3) = result7 m c
      ∧ r.2.mem ((c : Thread nD τ).loc main_v2_4) = result8 m c
      ∧ r.2.mem ((c : Thread nD τ).loc main_v2_5) = result9 m c
      ∧ r.2.mem ((c : Thread nD τ).loc main_v2_6) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c), ((h c).1 7).trans (final7 m c), ((h c).1 8).trans (final8 m c), ((h c).1 9).trans (final9 m c), ((h c).1 10).trans (final10 m c), kept0 m r h c, kept1 m r h c, kept2 m r h c, kept3 m r h c⟩) (run_main m ρ)

end Cert.FwdIdeal.Hand

namespace Cert.Proof

/-- The kernel's seven results and the reference's are the same extended reals, whatever the arguments. -/
theorem algebraic_fwd : Cert.algebraic_FwdIdeal_FwdReferenceIdeal := by
  intro m ρ m' ρ' _ hagree
  have hX : ∀ c, Cert.FwdReferenceIdeal.Hand.X m' c = Cert.FwdIdeal.Hand.X m c := fun c => by
    unfold Cert.FwdReferenceIdeal.Hand.X Cert.FwdIdeal.Hand.X
    rw [(hagree c).1]
  have hW : ∀ c, Cert.FwdReferenceIdeal.Hand.W m' c = Cert.FwdIdeal.Hand.W m c := fun c => by
    unfold Cert.FwdReferenceIdeal.Hand.W Cert.FwdIdeal.Hand.W
    rw [(hagree c).2.1]
  have hD : ∀ c, Cert.FwdReferenceIdeal.Hand.D m' c = Cert.FwdIdeal.Hand.D m c := fun c => by
    unfold Cert.FwdReferenceIdeal.Hand.D Cert.FwdIdeal.Hand.D
    rw [(hagree c).2.2.1]
  have hH : ∀ c, Cert.FwdReferenceIdeal.Hand.H m' c = Cert.FwdIdeal.Hand.H m c := fun c => by
    unfold Cert.FwdReferenceIdeal.Hand.H Cert.FwdIdeal.Hand.H
    rw [(hagree c).2.2.2]
  have e4 : ∀ c, Cert.FwdReferenceIdeal.Hand.result4 m' c = Cert.FwdIdeal.Hand.result4 m c := fun c => by
    unfold Cert.FwdReferenceIdeal.Hand.result4 Cert.FwdIdeal.Hand.result4
    simp only [hX, hW, hD, hH]
  have e5 : ∀ c, Cert.FwdReferenceIdeal.Hand.result5 m' c = Cert.FwdIdeal.Hand.result5 m c := fun c => by
    unfold Cert.FwdReferenceIdeal.Hand.result5 Cert.FwdIdeal.Hand.result5
    simp only [hX, hW, hD, hH]
  have e6 : ∀ c, Cert.FwdReferenceIdeal.Hand.result6 m' c = Cert.FwdIdeal.Hand.result6 m c := fun c => by
    unfold Cert.FwdReferenceIdeal.Hand.result6 Cert.FwdIdeal.Hand.result6
    simp only [hX, hW, hD, hH]
  have e7 : ∀ c, Cert.FwdReferenceIdeal.Hand.result7 m' c = Cert.FwdIdeal.Hand.result7 m c := fun c => by
    unfold Cert.FwdReferenceIdeal.Hand.result7 Cert.FwdIdeal.Hand.result7
    simp only [hX, hW, hD, hH]
  have e8 : ∀ c, Cert.FwdReferenceIdeal.Hand.result8 m' c = Cert.FwdIdeal.Hand.result8 m c := fun c => by
    unfold Cert.FwdReferenceIdeal.Hand.result8 Cert.FwdIdeal.Hand.result8
    simp only [hX, hW, hD, hH]
  have e9 : ∀ c, Cert.FwdReferenceIdeal.Hand.result9 m' c = Cert.FwdIdeal.Hand.result9 m c := fun c => by
    unfold Cert.FwdReferenceIdeal.Hand.result9 Cert.FwdIdeal.Hand.result9
    simp only [hX, hW, hD, hH]
  have e10 : ∀ c, Cert.FwdReferenceIdeal.Hand.result10 m' c = Cert.FwdIdeal.Hand.result10 m c := fun c => by
    unfold Cert.FwdReferenceIdeal.Hand.result10 Cert.FwdIdeal.Hand.result10
    simp only [hX, hW, hD, hH]
  refine ⟨fun c => Cert.FwdIdeal.Hand.result4 m c, fun c => Cert.FwdIdeal.Hand.result5 m c, fun c => Cert.FwdIdeal.Hand.result6 m c, fun c => Cert.FwdIdeal.Hand.result7 m c, fun c => Cert.FwdIdeal.Hand.result8 m c, fun c => Cert.FwdIdeal.Hand.result9 m c, fun c => Cert.FwdIdeal.Hand.result10 m c, Cert.FwdIdeal.Hand.run m ρ, ?_⟩
  exact (θ_run Cert.FwdReferenceIdeal.defs _ _).mono (fun _ h c => ⟨(h c).1.trans (e4 c), (h c).2.1.trans (e5 c), (h c).2.2.1.trans (e6 c), (h c).2.2.2.1.trans (e7 c), (h c).2.2.2.2.1.trans (e8 c), (h c).2.2.2.2.2.1.trans (e9 c), (h c).2.2.2.2.2.2.1.trans (e10 c), (h c).2.2.2.2.2.2.2⟩) (Cert.FwdReferenceIdeal.Hand.run m' ρ')

end Cert.Proof

end
-- ==== Proof.lean ====
module

public import proofs.«01_k».proof.Defs
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwReferenceIdeal
public import proofs.«01_k».proof.Proof.Gen.DwReferenceIdeal.Skeleton
public import proofs.«01_k».proof.Proof.Gen.DwReferenceIdeal.Launch
public import proofs.«01_k».proof.Proof.Gen.DwReferenceIdeal.Points
public import proofs.«01_k».proof.Proof.Gen.DwReferenceIdeal.Frame
public import proofs.«01_k».proof.Proof.Gen.Fwd
public import proofs.«01_k».proof.Proof.Gen.Fwd.Skeleton
public import proofs.«01_k».proof.Proof.Gen.Fwd.Loops
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Loops
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdReferenceIdeal
public import proofs.«01_k».proof.Proof.Gen.FwdReferenceIdeal.Skeleton
public import proofs.«01_k».proof.Proof.Gen.FwdReferenceIdeal.Launch
public import proofs.«01_k».proof.Proof.Gen.FwdReferenceIdeal.Points
public import proofs.«01_k».proof.Proof.Gen.FwdReferenceIdeal.Frame
public import proofs.«01_k».proof.Proof.Gen.DwIdeal.Value
public import proofs.«01_k».proof.Proof.Gen.DwReferenceIdeal.Value
public import proofs.«01_k».proof.Proof.Gen.FwdReferenceIdeal.Value
public import proofs.«01_k».proof.Proof.DwValue
public import proofs.«01_k».proof.Proof.FwdFrame
public import proofs.«01_k».proof.Proof.FwdBitsFrame
public import proofs.«01_k».proof.Proof.FwdValue
public import Idealize.ShloMosaic.Adequacy
public import Idealize.ShloMosaic.Init

@[expose] public section

noncomputable section

namespace Cert.Proof

open Idealize.ShloMosaic Idealize.SL.Sem Cert.Dw

/-- All the claims: six frames, two preservations (no rule was used, so nothing is left to show), and the two value claims. -/
theorem claim : Cert.Claim := ⟨Cert.Dw.Gen.facts, Cert.DwIdeal.Gen.facts, Cert.DwReferenceIdeal.Gen.facts,
  Cert.Fwd.Gen.facts, Cert.FwdIdeal.Gen.facts, Cert.FwdReferenceIdeal.Gen.facts,
  fun m ρ _ => Cert.Dw.Gen.frame m ρ, fun m ρ _ => Cert.DwIdeal.Gen.frame m ρ, fun m ρ _ => Cert.DwReferenceIdeal.Gen.frame m ρ,
  fun m ρ _ => Cert.Fwd.Hand.frame m ρ, fun m ρ _ => Cert.FwdIdeal.Hand.frame m ρ, fun m ρ _ => Cert.FwdReferenceIdeal.Gen.frame m ρ,
  trivial, algebraic_dw, trivial, algebraic_fwd⟩

end Cert.Proof

end
